-- ==== Defs.lean ====
def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite [hPre_finite : Cert.Pre_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite [hPre_finite : Cert.Pre_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_GdnKernel (m : (ℓ : Loc Cert.GdnKernel.nD Cert.GdnKernel.τ Cert.GdnKernel.sig) → Buf (Elt Bits) ℓ) : Prop :=
  True

def Pre_GdnKernelIdeal (m : (ℓ : Loc Cert.GdnKernelIdeal.nD Cert.GdnKernelIdeal.τ Cert.GdnKernelIdeal.sig) → Buf (Elt Ideal) ℓ) : Prop :=
  True

def Pre_GdnReferenceIdeal (m : (ℓ : Loc Cert.GdnReferenceIdeal.nD Cert.GdnReferenceIdeal.τ Cert.GdnReferenceIdeal.sig) → Buf (Elt Ideal) ℓ) : Prop :=
  True

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnKernelIdeal_pre_finite [hAttnKernelIdeal : Cert.AttnKernelIdeal.Facts] [hPre_finite : Cert.Pre_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_finite [hAttnReferenceIdeal : Cert.AttnReferenceIdeal.Facts] [hPre_finite : Cert.Pre_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6)
      ∧ r.2.mem ((c.tc : Thread Cert.ProjKernel.nD Cert.ProjKernel.τ).loc Cert.ProjKernel.main_arg7) = m ((c.tc : Thread Cert.ProjKernel.nD Cert.ProjKernel.τ).loc Cert.ProjKernel.main_arg7)
      ∧ r.2.mem ((c.tc : Thread Cert.ProjKernel.nD Cert.ProjKernel.τ).loc Cert.ProjKernel.main_arg8) = m ((c.tc : Thread Cert.ProjKernel.nD Cert.ProjKernel.τ).loc Cert.ProjKernel.main_arg8))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def quiescent_GdnKernel [hGdnKernel : Cert.GdnKernel.Facts] : Prop :=
  ∀ (m : (ℓ : Loc Cert.GdnKernel.nD Cert.GdnKernel.τ Cert.GdnKernel.sig) → Buf (Elt Bits) ℓ) (g : Dev Cert.GdnKernel.nD → PrngReg), Pre_GdnKernel m →
    θ_run (Cert.GdnKernel.defs (F := Bits)) (onTc (τ := Cert.GdnKernel.τ) (Cert.GdnKernel.main (F := Bits))) ⟨m, fun _ => 0, g⟩ (fun r => (∀ c : Dev Cert.GdnKernel.nD,
      r.2.mem ((c.tc : Thread Cert.GdnKernel.nD Cert.GdnKernel.τ).loc Cert.GdnKernel.main_arg0) = m ((c.tc : Thread Cert.GdnKernel.nD Cert.GdnKernel.τ).loc Cert.GdnKernel.main_arg0)
      ∧ r.2.mem ((c.tc : Thread Cert.GdnKernel.nD Cert.GdnKernel.τ).loc Cert.GdnKernel.main_arg1) = m ((c.tc : Thread Cert.GdnKernel.nD Cert.GdnKernel.τ).loc Cert.GdnKernel.main_arg1)
      ∧ r.2.mem ((c.tc : Thread Cert.GdnKernel.nD Cert.GdnKernel.τ).loc Cert.GdnKernel.main_arg2) = m ((c.tc : Thread Cert.GdnKernel.nD Cert.GdnKernel.τ).loc Cert.GdnKernel.main_arg2)
      ∧ r.2.mem ((c.tc : Thread Cert.GdnKernel.nD Cert.GdnKernel.τ).loc Cert.GdnKernel.main_arg3) = m ((c.tc : Thread Cert.GdnKernel.nD Cert.GdnKernel.τ).loc Cert.GdnKernel.main_arg3)
      ∧ r.2.mem ((c.tc : Thread Cert.GdnKernel.nD Cert.GdnKernel.τ).loc Cert.GdnKernel.main_arg4) = m ((c.tc : Thread Cert.GdnKernel.nD Cert.GdnKernel.τ).loc Cert.GdnKernel.main_arg4)
      ∧ r.2.mem ((c.tc : Thread Cert.GdnKernel.nD Cert.GdnKernel.τ).loc Cert.GdnKernel.main_arg5) = m ((c.tc : Thread Cert.GdnKernel.nD Cert.GdnKernel.τ).loc Cert.GdnKernel.main_arg5))
      ∧ r.2.sem = fun _ => 0)

def quiescent_GdnKernelIdeal [hGdnKernelIdeal : Cert.GdnKernelIdeal.Facts] : Prop :=
  ∀ (m : (ℓ : Loc Cert.GdnKernelIdeal.nD Cert.GdnKernelIdeal.τ Cert.GdnKernelIdeal.sig) → Buf (Elt Ideal) ℓ) (g : Dev Cert.GdnKernelIdeal.nD → PrngReg), Pre_GdnKernelIdeal m →
    θ_run (Cert.GdnKernelIdeal.defs (F := Ideal)) (onTc (τ := Cert.GdnKernelIdeal.τ) (Cert.GdnKernelIdeal.main (F := Ideal))) ⟨m, fun _ => 0, g⟩ (fun r => (∀ c : Dev Cert.GdnKernelIdeal.nD,
      r.2.mem ((c.tc : Thread Cert.GdnKernelIdeal.nD Cert.GdnKernelIdeal.τ).loc Cert.GdnKernelIdeal.main_arg0) = m ((c.tc : Thread Cert.GdnKernelIdeal.nD Cert.GdnKernelIdeal.τ).loc Cert.GdnKernelIdeal.main_arg0)
      ∧ r.2.mem ((c.tc : Thread Cert.GdnKernelIdeal.nD Cert.GdnKernelIdeal.τ).loc Cert.GdnKernelIdeal.main_arg1) = m ((c.tc : Thread Cert.GdnKernelIdeal.nD Cert.GdnKernelIdeal.τ).loc Cert.GdnKernelIdeal.main_arg1)
      ∧ r.2.mem ((c.tc : Thread Cert.GdnKernelIdeal.nD Cert.GdnKernelIdeal.τ).loc Cert.GdnKernelIdeal.main_arg2) = m ((c.tc : Thread Cert.GdnKernelIdeal.nD Cert.GdnKernelIdeal.τ).loc Cert.GdnKernelIdeal.main_arg2)
      ∧ r.2.mem ((c.tc : Thread Cert.GdnKernelIdeal.nD Cert.GdnKernelIdeal.τ).loc Cert.GdnKernelIdeal.main_arg3) = m ((c.tc : Thread Cert.GdnKernelIdeal.nD Cert.GdnKernelIdeal.τ).loc Cert.GdnKernelIdeal.main_arg3)
      ∧ r.2.mem ((c.tc : Thread Cert.GdnKernelIdeal.nD Cert.GdnKernelIdeal.τ).loc Cert.GdnKernelIdeal.main_arg4) = m ((c.tc : Thread Cert.GdnKernelIdeal.nD Cert.GdnKernelIdeal.τ).loc Cert.GdnKernelIdeal.main_arg4)
      ∧ r.2.mem ((c.tc : Thread Cert.GdnKernelIdeal.nD Cert.GdnKernelIdeal.τ).loc Cert.GdnKernelIdeal.main_arg5) = m ((c.tc : Thread Cert.GdnKernelIdeal.nD Cert.GdnKernelIdeal.τ).loc Cert.GdnKernelIdeal.main_arg5))
      ∧ r.2.sem = fun _ => 0)

def quiescent_GdnReferenceIdeal [hGdnReferenceIdeal : Cert.GdnReferenceIdeal.Facts] : Prop :=
  ∀ (m : (ℓ : Loc Cert.GdnReferenceIdeal.nD Cert.GdnReferenceIdeal.τ Cert.GdnReferenceIdeal.sig) → Buf (Elt Ideal) ℓ) (g : Dev Cert.GdnReferenceIdeal.nD → PrngReg), Pre_GdnReferenceIdeal m →
    θ_run (Cert.GdnReferenceIdeal.defs (F := Ideal)) (onTc (τ := Cert.GdnReferenceIdeal.τ) (Cert.GdnReferenceIdeal.main (F := Ideal))) ⟨m, fun _ => 0, g⟩ (fun r => (∀ c : Dev Cert.GdnReferenceIdeal.nD,
      r.2.mem ((c.tc : Thread Cert.GdnReferenceIdeal.nD Cert.GdnReferenceIdeal.τ).loc Cert.GdnReferenceIdeal.main_arg0) = m ((c.tc : Thread Cert.GdnReferenceIdeal.nD Cert.GdnReferenceIdeal.τ).loc Cert.GdnReferenceIdeal.main_arg0)
      ∧ r.2.mem ((c.tc : Thread Cert.GdnReferenceIdeal.nD Cert.GdnReferenceIdeal.τ).loc Cert.GdnReferenceIdeal.main_arg1) = m ((c.tc : Thread Cert.GdnReferenceIdeal.nD Cert.GdnReferenceIdeal.τ).loc Cert.GdnReferenceIdeal.main_arg1)
      ∧ r.2.mem ((c.tc : Thread Cert.GdnReferenceIdeal.nD Cert.GdnReferenceIdeal.τ).loc Cert.GdnReferenceIdeal.main_arg2) = m ((c.tc : Thread Cert.GdnReferenceIdeal.nD Cert.GdnReferenceIdeal.τ).loc Cert.GdnReferenceIdeal.main_arg2)
      ∧ r.2.mem ((c.tc : Thread Cert.GdnReferenceIdeal.nD Cert.GdnReferenceIdeal.τ).loc Cert.GdnReferenceIdeal.main_arg3) = m ((c.tc : Thread Cert.GdnReferenceIdeal.nD Cert.GdnReferenceIdeal.τ).loc Cert.GdnReferenceIdeal.main_arg3)
      ∧ r.2.mem ((c.tc : Thread Cert.GdnReferenceIdeal.nD Cert.GdnReferenceIdeal.τ).loc Cert.GdnReferenceIdeal.main_arg4) = m ((c.tc : Thread Cert.GdnReferenceIdeal.nD Cert.GdnReferenceIdeal.τ).loc Cert.GdnReferenceIdeal.main_arg4)
      ∧ r.2.mem ((c.tc : Thread Cert.GdnReferenceIdeal.nD Cert.GdnReferenceIdeal.τ).loc Cert.GdnReferenceIdeal.main_arg5) = m ((c.tc : Thread Cert.GdnReferenceIdeal.nD Cert.GdnReferenceIdeal.τ).loc Cert.GdnReferenceIdeal.main_arg5))
      ∧ r.2.sem = fun _ => 0)

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_AttnKernel_AttnKernelIdeal : Prop :=
  IdealRules.named_const.Statement Cert.AttnKernelIdeal.κ "inv_log_2" .f32 0x3FB8AA3B#32 (((Real.log 2)⁻¹ : ℝ) : EReal)

def algebraic_AttnKernelIdeal_AttnReferenceIdeal_pre_finite [hAttnKernelIdeal : Cert.AttnKernelIdeal.Facts] [hAttnReferenceIdeal : Cert.AttnReferenceIdeal.Facts] [hPre_finite : Cert.Pre_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)) →
    ∃ (v0 : (c : Dev Cert.AttnKernelIdeal.nD) → Buf (Elt Ideal) ((c.tc : Thread Cert.AttnKernelIdeal.nD Cert.AttnKernelIdeal.τ).loc Cert.AttnKernelIdeal.main_v0)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v0) = v0 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v99) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)
      ∧ m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8)) →
    ∃ (v0 : (c : Dev Cert.ProjKernelIdeal.nD) → Buf (Elt Ideal) ((c.tc : Thread Cert.ProjKernelIdeal.nD Cert.ProjKernelIdeal.τ).loc Cert.ProjKernelIdeal.main_v0_0)) (v1 : (c : Dev Cert.ProjKernelIdeal.nD) → Buf (Elt Ideal) ((c.tc : Thread Cert.ProjKernelIdeal.nD Cert.ProjKernelIdeal.τ).loc Cert.ProjKernelIdeal.main_v0_1)) (v2 : (c : Dev Cert.ProjKernelIdeal.nD) → Buf (Elt Ideal) ((c.tc : Thread Cert.ProjKernelIdeal.nD Cert.ProjKernelIdeal.τ).loc Cert.ProjKernelIdeal.main_v0_2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0_0) = v0 c
          ∧ r.2.mem ((c.tc : Thread Cert.ProjKernelIdeal.nD Cert.ProjKernelIdeal.τ).loc Cert.ProjKernelIdeal.main_v0_1) = v1 c
          ∧ r.2.mem ((c.tc : Thread Cert.ProjKernelIdeal.nD Cert.ProjKernelIdeal.τ).loc Cert.ProjKernelIdeal.main_v0_2) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
          ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
          ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v80) = v0 c
          ∧ r.2.mem ((c.tc : Thread Cert.ProjReferenceIdeal.nD Cert.ProjReferenceIdeal.τ).loc Cert.ProjReferenceIdeal.main_v143) = v1 c
          ∧ r.2.mem ((c.tc : Thread Cert.ProjReferenceIdeal.nD Cert.ProjReferenceIdeal.τ).loc Cert.ProjReferenceIdeal.main_v206) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8))

def preserves_GdnKernel_GdnKernelIdeal : Prop :=
  True

def algebraic_GdnKernelIdeal_GdnReferenceIdeal [hGdnKernelIdeal : Cert.GdnKernelIdeal.Facts] [hGdnReferenceIdeal : Cert.GdnReferenceIdeal.Facts] : Prop :=
  ∀ (m : (ℓ : Loc Cert.GdnKernelIdeal.nD Cert.GdnKernelIdeal.τ Cert.GdnKernelIdeal.sig) → Buf (Elt Ideal) ℓ) (g : Dev Cert.GdnKernelIdeal.nD → PrngReg)
    (m' : (ℓ : Loc Cert.GdnReferenceIdeal.nD Cert.GdnReferenceIdeal.τ Cert.GdnReferenceIdeal.sig) → Buf (Elt Ideal) ℓ) (g' : Dev Cert.GdnReferenceIdeal.nD → PrngReg), Pre_GdnKernelIdeal m →
    (∀ c : Dev Cert.GdnKernelIdeal.nD,
      m' ((c.tc : Thread Cert.GdnReferenceIdeal.nD Cert.GdnReferenceIdeal.τ).loc Cert.GdnReferenceIdeal.main_arg0) = m ((c.tc : Thread Cert.GdnKernelIdeal.nD Cert.GdnKernelIdeal.τ).loc Cert.GdnKernelIdeal.main_arg0)
      ∧ m' ((c.tc : Thread Cert.GdnReferenceIdeal.nD Cert.GdnReferenceIdeal.τ).loc Cert.GdnReferenceIdeal.main_arg1) = m ((c.tc : Thread Cert.GdnKernelIdeal.nD Cert.GdnKernelIdeal.τ).loc Cert.GdnKernelIdeal.main_arg1)
      ∧ m' ((c.tc : Thread Cert.GdnReferenceIdeal.nD Cert.GdnReferenceIdeal.τ).loc Cert.GdnReferenceIdeal.main_arg2) = m ((c.tc : Thread Cert.GdnKernelIdeal.nD Cert.GdnKernelIdeal.τ).loc Cert.GdnKernelIdeal.main_arg2)
      ∧ m' ((c.tc : Thread Cert.GdnReferenceIdeal.nD Cert.GdnReferenceIdeal.τ).loc Cert.GdnReferenceIdeal.main_arg3) = m ((c.tc : Thread Cert.GdnKernelIdeal.nD Cert.GdnKernelIdeal.τ).loc Cert.GdnKernelIdeal.main_arg3)
      ∧ m' ((c.tc : Thread Cert.GdnReferenceIdeal.nD Cert.GdnReferenceIdeal.τ).loc Cert.GdnReferenceIdeal.main_arg4) = m ((c.tc : Thread Cert.GdnKernelIdeal.nD Cert.GdnKernelIdeal.τ).loc Cert.GdnKernelIdeal.main_arg4)
      ∧ m' ((c.tc : Thread Cert.GdnReferenceIdeal.nD Cert.GdnReferenceIdeal.τ).loc Cert.GdnReferenceIdeal.main_arg5) = m ((c.tc : Thread Cert.GdnKernelIdeal.nD Cert.GdnKernelIdeal.τ).loc Cert.GdnKernelIdeal.main_arg5)) →
    ∃ (v0 : (c : Dev Cert.GdnKernelIdeal.nD) → Buf (Elt Ideal) ((c.tc : Thread Cert.GdnKernelIdeal.nD Cert.GdnKernelIdeal.τ).loc Cert.GdnKernelIdeal.main_v11_0)) (v1 : (c : Dev Cert.GdnKernelIdeal.nD) → Buf (Elt Ideal) ((c.tc : Thread Cert.GdnKernelIdeal.nD Cert.GdnKernelIdeal.τ).loc Cert.GdnKernelIdeal.main_v11_1)),
      θ_run (Cert.GdnKernelIdeal.defs (F := Ideal)) (onTc (τ := Cert.GdnKernelIdeal.τ) (Cert.GdnKernelIdeal.main (F := Ideal))) ⟨m, fun _ => 0, g⟩ (fun r => ∀ c : Dev Cert.GdnKernelIdeal.nD,
          r.2.mem ((c.tc : Thread Cert.GdnKernelIdeal.nD Cert.GdnKernelIdeal.τ).loc Cert.GdnKernelIdeal.main_v11_0) = v0 c
          ∧ r.2.mem ((c.tc : Thread Cert.GdnKernelIdeal.nD Cert.GdnKernelIdeal.τ).loc Cert.GdnKernelIdeal.main_v11_1) = v1 c
          ∧ r.2.mem ((c.tc : Thread Cert.GdnKernelIdeal.nD Cert.GdnKernelIdeal.τ).loc Cert.GdnKernelIdeal.main_arg0) = m ((c.tc : Thread Cert.GdnKernelIdeal.nD Cert.GdnKernelIdeal.τ).loc Cert.GdnKernelIdeal.main_arg0)
          ∧ r.2.mem ((c.tc : Thread Cert.GdnKernelIdeal.nD Cert.GdnKernelIdeal.τ).loc Cert.GdnKernelIdeal.main_arg1) = m ((c.tc : Thread Cert.GdnKernelIdeal.nD Cert.GdnKernelIdeal.τ).loc Cert.GdnKernelIdeal.main_arg1)
          ∧ r.2.mem ((c.tc : Thread Cert.GdnKernelIdeal.nD Cert.GdnKernelIdeal.τ).loc Cert.GdnKernelIdeal.main_arg2) = m ((c.tc : Thread Cert.GdnKernelIdeal.nD Cert.GdnKernelIdeal.τ).loc Cert.GdnKernelIdeal.main_arg2)
          ∧ r.2.mem ((c.tc : Thread Cert.GdnKernelIdeal.nD Cert.GdnKernelIdeal.τ).loc Cert.GdnKernelIdeal.main_arg3) = m ((c.tc : Thread Cert.GdnKernelIdeal.nD Cert.GdnKernelIdeal.τ).loc Cert.GdnKernelIdeal.main_arg3)
          ∧ r.2.mem ((c.tc : Thread Cert.GdnKernelIdeal.nD Cert.GdnKernelIdeal.τ).loc Cert.GdnKernelIdeal.main_arg4) = m ((c.tc : Thread Cert.GdnKernelIdeal.nD Cert.GdnKernelIdeal.τ).loc Cert.GdnKernelIdeal.main_arg4)
          ∧ r.2.mem ((c.tc : Thread Cert.GdnKernelIdeal.nD Cert.GdnKernelIdeal.τ).loc Cert.GdnKernelIdeal.main_arg5) = m ((c.tc : Thread Cert.GdnKernelIdeal.nD Cert.GdnKernelIdeal.τ).loc Cert.GdnKernelIdeal.main_arg5))
      ∧ θ_run (Cert.GdnReferenceIdeal.defs (F := Ideal)) (onTc (τ := Cert.GdnReferenceIdeal.τ) (Cert.GdnReferenceIdeal.main (F := Ideal))) ⟨m', fun _ => 0, g'⟩ (fun r => ∀ c : Dev Cert.GdnReferenceIdeal.nD,
          r.2.mem ((c.tc : Thread Cert.GdnReferenceIdeal.nD Cert.GdnReferenceIdeal.τ).loc Cert.GdnReferenceIdeal.main_v67) = v0 c
          ∧ r.2.mem ((c.tc : Thread Cert.GdnReferenceIdeal.nD Cert.GdnReferenceIdeal.τ).loc Cert.GdnReferenceIdeal.main_v69) = v1 c
          ∧ r.2.mem ((c.tc : Thread Cert.GdnReferenceIdeal.nD Cert.GdnReferenceIdeal.τ).loc Cert.GdnReferenceIdeal.main_arg0) = m' ((c.tc : Thread Cert.GdnReferenceIdeal.nD Cert.GdnReferenceIdeal.τ).loc Cert.GdnReferenceIdeal.main_arg0)
          ∧ r.2.mem ((c.tc : Thread Cert.GdnReferenceIdeal.nD Cert.GdnReferenceIdeal.τ).loc Cert.GdnReferenceIdeal.main_arg1) = m' ((c.tc : Thread Cert.GdnReferenceIdeal.nD Cert.GdnReferenceIdeal.τ).loc Cert.GdnReferenceIdeal.main_arg1)
          ∧ r.2.mem ((c.tc : Thread Cert.GdnReferenceIdeal.nD Cert.GdnReferenceIdeal.τ).loc Cert.GdnReferenceIdeal.main_arg2) = m' ((c.tc : Thread Cert.GdnReferenceIdeal.nD Cert.GdnReferenceIdeal.τ).loc Cert.GdnReferenceIdeal.main_arg2)
          ∧ r.2.mem ((c.tc : Thread Cert.GdnReferenceIdeal.nD Cert.GdnReferenceIdeal.τ).loc Cert.GdnReferenceIdeal.main_arg3) = m' ((c.tc : Thread Cert.GdnReferenceIdeal.nD Cert.GdnReferenceIdeal.τ).loc Cert.GdnReferenceIdeal.main_arg3)
          ∧ r.2.mem ((c.tc : Thread Cert.GdnReferenceIdeal.nD Cert.GdnReferenceIdeal.τ).loc Cert.GdnReferenceIdeal.main_arg4) = m' ((c.tc : Thread Cert.GdnReferenceIdeal.nD Cert.GdnReferenceIdeal.τ).loc Cert.GdnReferenceIdeal.main_arg4)
          ∧ r.2.mem ((c.tc : Thread Cert.GdnReferenceIdeal.nD Cert.GdnReferenceIdeal.τ).loc Cert.GdnReferenceIdeal.main_arg5) = m' ((c.tc : Thread Cert.GdnReferenceIdeal.nD Cert.GdnReferenceIdeal.τ).loc Cert.GdnReferenceIdeal.main_arg5))

def Claim : Prop :=
  ∃ (hOutKernel : Cert.OutKernel.Facts) (hOutKernelIdeal : Cert.OutKernelIdeal.Facts) (hOutReferenceIdeal : Cert.OutReferenceIdeal.Facts) (hAttnKernel : Cert.AttnKernel.Facts) (hAttnKernelIdeal : Cert.AttnKernelIdeal.Facts) (hAttnReferenceIdeal : Cert.AttnReferenceIdeal.Facts) (hProjKernel : Cert.ProjKernel.Facts) (hProjKernelIdeal : Cert.ProjKernelIdeal.Facts) (hProjReferenceIdeal : Cert.ProjReferenceIdeal.Facts) (hGdnKernel : Cert.GdnKernel.Facts) (hGdnKernelIdeal : Cert.GdnKernelIdeal.Facts) (hGdnReferenceIdeal : Cert.GdnReferenceIdeal.Facts) (hPre_finite : Cert.Pre_finite.Facts),
    quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_AttnKernel (hAttnKernel := hAttnKernel)
    ∧ quiescent_AttnKernelIdeal (hAttnKernelIdeal := hAttnKernelIdeal)
    ∧ quiescent_AttnKernelIdeal_pre_finite (hAttnKernelIdeal := hAttnKernelIdeal) (hPre_finite := hPre_finite)
    ∧ quiescent_AttnReferenceIdeal (hAttnReferenceIdeal := hAttnReferenceIdeal)
    ∧ quiescent_AttnReferenceIdeal_pre_finite (hAttnReferenceIdeal := hAttnReferenceIdeal) (hPre_finite := hPre_finite)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_GdnKernel (hGdnKernel := hGdnKernel)
    ∧ quiescent_GdnKernelIdeal (hGdnKernelIdeal := hGdnKernelIdeal)
    ∧ quiescent_GdnReferenceIdeal (hGdnReferenceIdeal := hGdnReferenceIdeal)
    ∧ preserves_OutKernel_OutKernelIdeal
    ∧ algebraic_OutKernelIdeal_OutReferenceIdeal (hOutKernelIdeal := hOutKernelIdeal) (hOutReferenceIdeal := hOutReferenceIdeal)
    ∧ preserves_AttnKernel_AttnKernelIdeal
    ∧ algebraic_AttnKernelIdeal_AttnReferenceIdeal_pre_finite (hAttnKernelIdeal := hAttnKernelIdeal) (hAttnReferenceIdeal := hAttnReferenceIdeal) (hPre_finite := hPre_finite)
    ∧ preserves_ProjKernel_ProjKernelIdeal
    ∧ algebraic_ProjKernelIdeal_ProjReferenceIdeal (hProjKernelIdeal := hProjKernelIdeal) (hProjReferenceIdeal := hProjReferenceIdeal)
    ∧ preserves_GdnKernel_GdnKernelIdeal
    ∧ algebraic_GdnKernelIdeal_GdnReferenceIdeal (hGdnKernelIdeal := hGdnKernelIdeal) (hGdnReferenceIdeal := hGdnReferenceIdeal)
-- ==== Pre_finite.lean ====
abbrev S16x2048x4096 : Shape := ⟨3, ![16, 2048, 4096]⟩
abbrev S16x2048x3072 : Shape := ⟨3, ![16, 2048, 3072]⟩
abbrev S_ : Shape := ⟨0, ![]⟩

class Facts : Prop where
  bitsLt_bf16_f32 : FTy.bits .bf16 < FTy.bits .f32
  bcast_S_S16x2048x4096 : S_.BroadcastsInDim S16x2048x4096 (![] : Fin 0 → Fin S16x2048x4096.rank)
  reducesTo_S16x2048x4096_S_d0_1_2 : S16x2048x4096.ReducesTo [0, 1, 2] S_
  h_S_ : 0 < S_.numel
  bcast_S_S16x2048x3072 : S_.BroadcastsInDim S16x2048x3072 (![] : Fin 0 → Fin S16x2048x3072.rank)
  reducesTo_S16x2048x3072_S_d0_1_2 : S16x2048x3072.ReducesTo [0, 1, 2] S_

variable [Facts]

def fn {F : FTy → Type} [FloatOps F] (main_arg0 : FVec F S16x2048x4096 .bf16) (main_arg1 : FVec F S16x2048x3072 .bf16) (main_arg2 : FVec F S16x2048x3072 .bf16) : IVec S_ 1 :=
  let main_v0 : FVec F S16x2048x4096 .f32 := (extf .f32 · bitsLt_bf16_f32) main_arg0
  let main_v1 : FVec F S16x2048x4096 .f32 := Host.absf main_v0
  let main_cst : FVec F S_ .f32 := constant S_ .f32 0x7F800000#32
  let main_v2 : FVec F S16x2048x4096 .f32 := broadcastInDim S16x2048x4096 ![] bcast_S_S16x2048x4096 main_cst
  let main_v3 : IVec S16x2048x4096 1 := cmpf .olt main_v1 main_v2
  let main_c : IVec S_ 1 := constantI S_ 1 1#1
  let main_v4 : IVec S_ 1 := (fun x v => Host.reduce IntOp.andi x v reducesTo_S16x2048x4096_S_d0_1_2 h_S_) main_v3 main_c
  let main_v5 : FVec F S16x2048x3072 .f32 := (extf .f32 · bitsLt_bf16_f32) main_arg1
  let main_v6 : FVec F S16x2048x3072 .f32 := Host.absf main_v5
  let main_cst_0 : FVec F S_ .f32 := constant S_ .f32 0x7F800000#32
  let main_v7 : FVec F S16x2048x3072 .f32 := broadcastInDim S16x2048x3072 ![] bcast_S_S16x2048x3072 main_cst_0
  let main_v8 : IVec S16x2048x3072 1 := cmpf .olt main_v6 main_v7
  let main_c_1 : IVec S_ 1 := constantI S_ 1 1#1
  let main_v9 : IVec S_ 1 := (fun x v => Host.reduce IntOp.andi x v reducesTo_S16x2048x3072_S_d0_1_2 h_S_) main_v8 main_c_1
  let main_v10 : FVec F S16x2048x3072 .f32 := (extf .f32 · bitsLt_bf16_f32) main_arg2
  let main_v11 : FVec F S16x2048x3072 .f32 := Host.absf main_v10
  let main_cst_2 : FVec F S_ .f32 := constant S_ .f32 0x7F800000#32
  let main_v12 : FVec F S16x2048x3072 .f32 := broadcastInDim S16x2048x3072 ![] bcast_S_S16x2048x3072 main_cst_2
  let main_v13 : IVec S16x2048x3072 1 := cmpf .olt main_v11 main_v12
  let main_c_3 : IVec S_ 1 := constantI S_ 1 1#1
  let main_v14 : IVec S_ 1 := (fun x v => Host.reduce IntOp.andi x v reducesTo_S16x2048x3072_S_d0_1_2 h_S_) main_v13 main_c_3
  let main_v15 : IVec S_ 1 := andi main_v4 main_v9
  let main_v16 : IVec S_ 1 := andi main_v15 main_v14
  main_v16
-- ==== OutKernel.lean ====
abbrev S32768x1024 : Shape := ⟨2, ![32768, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutReferenceIdeal.lean ====
abbrev S32768x1024 : Shape := ⟨2, ![32768, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AttnKernel.lean ====
abbrev S16x2048x4096 : Shape := ⟨3, ![16, 2048, 4096]⟩
abbrev S16x2048x3072 : Shape := ⟨3, ![16, 2048, 3072]⟩
abbrev S16x2048x1024 : Shape := ⟨3, ![16, 2048, 1024]⟩
abbrev S1x2048x128 : Shape := ⟨3, ![1, 2048, 128]⟩
abbrev S3x2048x128 : Shape := ⟨3, ![3, 2048, 128]⟩
abbrev S4x128x256 : Shape := ⟨3, ![4, 128, 256]⟩
abbrev S4x128x128 : Shape := ⟨3, ![4, 128, 128]⟩
abbrev S1x128x128 : Shape := ⟨3, ![1, 128, 128]⟩
abbrev S1x512x128 : Shape := ⟨3, ![1, 512, 128]⟩
abbrev S512x128 : Shape := ⟨2, ![512, 128]⟩
abbrev S3x128x128 : Shape := ⟨3, ![3, 128, 128]⟩
abbrev S4x256x128 : Shape := ⟨3, ![4, 256, 128]⟩
abbrev S4x128 : Shape := ⟨2, ![4, 128]⟩
abbrev S4x128x1 : Shape := ⟨3, ![4, 128, 1]⟩
abbrev S1x128x256 : Shape := ⟨3, ![1, 128, 256]⟩
abbrev S3x128x256 : Shape := ⟨3, ![3, 128, 256]⟩
abbrev S4x256x256 : Shape := ⟨3, ![4, 256, 256]⟩
abbrev S128x128 : Shape := ⟨2, ![128, 128]⟩

abbrev nBuf : Space → Nat
  | .hbm => 4
  | .vmem => 24
  | .smem => 0
  | _ => 0

abbrev bufTy : (tb : Table) → Fin (tcTables nBuf tb) → BufTy
  | .hbm, ⟨0, _⟩ => ⟨S16x2048x4096, .bf16⟩
  | .hbm, ⟨1, _⟩ => ⟨S16x2048x3072, .bf16⟩
  | .hbm, ⟨2, _⟩ => ⟨S16x2048x3072, .bf16⟩
  | .hbm, ⟨3, _⟩ => ⟨S16x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S3x2048x128, .f32⟩
  | .local _ .vmem, ⟨23, _⟩ => ⟨S3x2048x128, .f32⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_317 : BitVec 32 := 0#32
  let c4_i32 : BitVec 32 := 4#32
  let v647 : BitVec 32 := Scalar.addi c0_i32_317 c4_i32
  let c1_i32 : BitVec 32 := 1#32
  ⟨c0_i32_317, v647, c1_i32⟩
def k0_mult1 (k0_t1 : Fin k0_t1_loop.trips) : BitVec 32 :=
  let c0_i32_317 : BitVec 32 := 0#32
  let c1_i32 : BitVec 32 := 1#32
  let arg15 : BitVec 32 := Scf.iv c0_i32_317 c1_i32 k0_t1
  let c512_i32 : BitVec 32 := 512#32
  let v648 : BitVec 32 := Scalar.muli arg15 c512_i32
  v648
def k0_off1 (k0_t1 : Fin k0_t1_loop.trips) : Fin 3 → Nat :=
  let c0_319 : Index := 0#32
  let c0_i32_317 : BitVec 32 := 0#32
  let c1_i32 : BitVec 32 := 1#32
  let arg15 : BitVec 32 := Scf.iv c0_i32_317 c1_i32 k0_t1
  let c512_i32 : BitVec 32 := 512#32
  let v648 : BitVec 32 := Scalar.muli arg15 c512_i32
  let v649 : BitVec 32 := v648
  let v650 : Index := Scalar.indexCast v649
  let c0_320 : Index := 0#32
  ![0, v650.toNat, 0]
def k0_off2 (k0_t1 : Fin k0_t1_loop.trips) : Fin 3 → Nat :=
  let c1_321 : Index := 1#32
  let c0_i32_317 : BitVec 32 := 0#32
  let c1_i32 : BitVec 32 := 1#32
  let arg15 : BitVec 32 := Scf.iv c0_i32_317 c1_i32 k0_t1
  let c512_i32 : BitVec 32 := 512#32
  let v648 : BitVec 32 := Scalar.muli arg15 c512_i32
  let v649 : BitVec 32 := v648
  let v653 : Index := Scalar.indexCast v649
  let c0_322 : Index := 0#32
  ![1, v653.toNat, 0]
def k0_off3 (k0_t1 : Fin k0_t1_loop.trips) : Fin 3 → Nat :=
  let c2_323 : Index := 2#32
  let c0_i32_317 : BitVec 32 := 0#32
  let c1_i32 : BitVec 32 := 1#32
  let arg15 : BitVec 32 := Scf.iv c0_i32_317 c1_i32 k0_t1
  let c512_i32 : BitVec 32 := 512#32
  let v648 : BitVec 32 := Scalar.muli arg15 c512_i32
  let v649 : BitVec 32 := v648
  let v656 : Index := Scalar.indexCast v649
  let c0_324 : Index := 0#32
  ![2, v656.toNat, 0]
def k0_off4 (k0_t1 : Fin k0_t1_loop.trips) : Fin 3 → Nat :=
  let c0_331 : Index := 0#32
  let c0_i32_317 : BitVec 32 := 0#32
  let c1_i32 : BitVec 32 := 1#32
  let arg15 : BitVec 32 := Scf.iv c0_i32_317 c1_i32 k0_t1
  let c512_i32 : BitVec 32 := 512#32
  let v648 : BitVec 32 := Scalar.muli arg15 c512_i32
  let v649 : BitVec 32 := v648
  let v684 : Index := Scalar.indexCast v649
  let c0_332 : Index := 0#32
  ![0, v684.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnKernelIdeal.lean ====
variable {F : FTy → Type} [FloatOps F] [Named F]
def κ : String → Option EReal := fun
  | "inv_log_2" => some (((Real.log 2)⁻¹ : ℝ) : EReal)
  | _ => none
-- ==== AttnReferenceIdeal.lean ====
abbrev S16x2048x4096 : Shape := ⟨3, ![16, 2048, 4096]⟩
abbrev S16x2048x3072 : Shape := ⟨3, ![16, 2048, 3072]⟩
abbrev S16x2048x1024 : Shape := ⟨3, ![16, 2048, 1024]⟩
abbrev S16x1x2048x3072 : Shape := ⟨4, ![16, 1, 2048, 3072]⟩
abbrev S16x2048x1x3072 : Shape := ⟨4, ![16, 2048, 1, 3072]⟩
abbrev S16x4x512x3072 : Shape := ⟨4, ![16, 4, 512, 3072]⟩
abbrev S16x512x4x3072 : Shape := ⟨4, ![16, 512, 4, 3072]⟩
abbrev S16x16x128x3072 : Shape := ⟨4, ![16, 16, 128, 3072]⟩
abbrev S16x128x16x3072 : Shape := ⟨4, ![16, 128, 16, 3072]⟩
abbrev S1x16x2048x3072 : Shape := ⟨4, ![1, 16, 2048, 3072]⟩
abbrev S3x16x2048x3072 : Shape := ⟨4, ![3, 16, 2048, 3072]⟩
abbrev S3x16x2048x1024 : Shape := ⟨4, ![3, 16, 2048, 1024]⟩
abbrev S3x16x2048x8x128 : Shape := ⟨5, ![3, 16, 2048, 8, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x2048x2048 : Shape := ⟨3, ![1, 2048, 2048]⟩
abbrev S3x2048x2048 : Shape := ⟨3, ![3, 2048, 2048]⟩
abbrev S3x16x8x2048x2048 : Shape := ⟨5, ![3, 16, 8, 2048, 2048]⟩
abbrev S3x1x1x2048x2048 : Shape := ⟨5, ![3, 1, 1, 2048, 2048]⟩
abbrev S3x16x8x2048 : Shape := ⟨4, ![3, 16, 8, 2048]⟩
abbrev S3x16x8x2048x1 : Shape := ⟨5, ![3, 16, 8, 2048, 1]⟩
abbrev S3x16x8x128x2048 : Shape := ⟨5, ![3, 16, 8, 128, 2048]⟩
abbrev S16x8x2048 : Shape := ⟨3, ![16, 8, 2048]⟩
abbrev S1x16x8x2048 : Shape := ⟨4, ![1, 16, 8, 2048]⟩
abbrev S3x16x2048x8 : Shape := ⟨4, ![3, 16, 2048, 8]⟩
abbrev S3x16x2048x8x1 : Shape := ⟨5, ![3, 16, 2048, 8, 1]⟩
abbrev S16x2048x8x128 : Shape := ⟨4, ![16, 2048, 8, 128]⟩

abbrev nBuf : Space → Nat
  | .hbm => 125
  | .vmem => 0
  | .smem => 0
  | _ => 0

abbrev bufTy : (tb : Table) → Fin (tcTables nBuf tb) → BufTy
  | .hbm, ⟨0, _⟩ => ⟨S16x2048x4096, .bf16⟩
  | .hbm, ⟨1, _⟩ => ⟨S16x2048x3072, .bf16⟩
  | .hbm, ⟨2, _⟩ => ⟨S16x2048x3072, .bf16⟩
  | .hbm, ⟨3, _⟩ => ⟨S16x2048x1024, .bf16⟩
  | .hbm, ⟨4, _⟩ => ⟨S16x2048x1024, .f32⟩
  | .hbm, ⟨5, _⟩ => ⟨S16x2048x3072, .bf16⟩
  | .hbm, ⟨6, _⟩ => ⟨S16x1x2048x3072, .bf16⟩
  | .hbm, ⟨7, _⟩ => ⟨S16x2048x1x3072, .bf16⟩
  | .hbm, ⟨8, _⟩ => ⟨S16x2048x3072, .bf16⟩
  | .hbm, ⟨9, _⟩ => ⟨S16x4x512x3072, .bf16⟩
  | .hbm, ⟨10, _⟩ => ⟨S16x512x4x3072, .bf16⟩
  | .hbm, ⟨11, _⟩ => ⟨S16x2048x3072, .bf16⟩
  | .hbm, ⟨12, _⟩ => ⟨S16x16x128x3072, .bf16⟩
  | .hbm, ⟨13, _⟩ => ⟨S16x128x16x3072, .bf16⟩
  | .hbm, ⟨14, _⟩ => ⟨S16x2048x3072, .bf16⟩
  | .hbm, ⟨15, _⟩ => ⟨S1x16x2048x3072, .bf16⟩
  | .hbm, ⟨16, _⟩ => ⟨S1x16x2048x3072, .bf16⟩
  | .hbm, ⟨17, _⟩ => ⟨S1x16x2048x3072, .bf16⟩
  | .hbm, ⟨18, _⟩ => ⟨S3x16x2048x3072, .bf16⟩
  | .hbm, ⟨19, _⟩ => ⟨S3x16x2048x3072, .f32⟩
  | .hbm, ⟨20, _⟩ => ⟨S3x16x2048x1024, .f32⟩
  | .hbm, ⟨21, _⟩ => ⟨S3x16x2048x8x128, .f32⟩
  | .hbm, ⟨22, _⟩ => ⟨S3x16x2048x1024, .f32⟩
  | .hbm, ⟨23, _⟩ => ⟨S3x16x2048x8x128, .f32⟩
  | .hbm, ⟨24, _⟩ => ⟨S3x16x2048x1024, .f32⟩
  | .hbm, ⟨25, _⟩ => ⟨S3x16x2048x8x128, .f32⟩
  | .hbm, ⟨26, _⟩ => ⟨S2048, .i32⟩
  | .hbm, ⟨27, _⟩ => ⟨S2048x1, .i32⟩
  | .hbm, ⟨28, _⟩ => ⟨S1x2048, .i32⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S_, .i32⟩
  | .hbm, ⟨33, _⟩ => ⟨S2048x2048, .i32⟩
  | .hbm, ⟨34, _⟩ => ⟨S2048x2048, .i1⟩
  | .hbm, ⟨35, _⟩ => ⟨S_, .i32⟩
  | .hbm, ⟨36, _⟩ => ⟨S2048x2048, .i32⟩
  | .hbm, ⟨37, _⟩ => ⟨S2048x2048, .i1⟩
  | .hbm, ⟨38, _⟩ => ⟨S2048x2048, .i1⟩
  | .hbm, ⟨39, _⟩ => ⟨S_, .i32⟩
  | .hbm, ⟨40, _⟩ => ⟨S2048x2048, .i32⟩
  | .hbm, ⟨41, _⟩ => ⟨S2048x2048, .i32⟩
  | .hbm, ⟨42, _⟩ => ⟨S_, .i32⟩
  | .hbm, ⟨43, _⟩ => ⟨S2048x2048, .i32⟩
  | .hbm, ⟨44, _⟩ => ⟨S2048x2048, .i1⟩
  | .hbm, ⟨45, _⟩ => ⟨S2048x2048, .i1⟩
  | .hbm, ⟨46, _⟩ => ⟨S_, .i32⟩
  | .hbm, ⟨47, _⟩ => ⟨S2048x2048, .i32⟩
  | .hbm, ⟨48, _⟩ => ⟨S2048x2048, .i1⟩
  | .hbm, ⟨49, _⟩ => ⟨S_, .i32⟩
  | .hbm, ⟨50, _⟩ => ⟨S2048x2048, .i32⟩
  | .hbm, ⟨51, _⟩ => ⟨S2048x2048, .i1⟩
  | .hbm, ⟨52, _⟩ => ⟨S2048x2048, .i1⟩
  | .hbm, ⟨53, _⟩ => ⟨S_, .i32⟩
  | .hbm, ⟨54, _⟩ => ⟨S2048x2048, .i32⟩
  | .hbm, ⟨55, _⟩ => ⟨S2048x2048, .i32⟩
  | .hbm, ⟨56, _⟩ => ⟨S_, .i32⟩
  | .hbm, ⟨57, _⟩ => ⟨S2048x2048, .i32⟩
  | .hbm, ⟨58, _⟩ => ⟨S2048x2048, .i1⟩
  | .hbm, ⟨59, _⟩ => ⟨S2048x2048, .i1⟩
  | .hbm, ⟨60, _⟩ => ⟨S_, .i32⟩
  | .hbm, ⟨61, _⟩ => ⟨S2048x2048, .i32⟩
  | .hbm, ⟨62, _⟩ => ⟨S2048x2048, .i1⟩
  | .hbm, ⟨63, _⟩ => ⟨S_, .i32⟩
  | .hbm, ⟨64, _⟩ => ⟨S2048x2048, .i32⟩
  | .hbm, ⟨65, _⟩ => ⟨S2048x2048, .i1⟩
  | .hbm, ⟨66, _⟩ => ⟨S2048x2048, .i1⟩
  | .hbm, ⟨67, _⟩ => ⟨S_, .i32⟩
  | .hbm, ⟨68, _⟩ => ⟨S2048x2048, .i32⟩
  | .hbm, ⟨69, _⟩ => ⟨S2048x2048, .i32⟩
  | .hbm, ⟨70, _⟩ => ⟨S_, .i32⟩
  | .hbm, ⟨71, _⟩ => ⟨S2048x2048, .i32⟩
  | .hbm, ⟨72, _⟩ => ⟨S2048x2048, .i1⟩
  | .hbm, ⟨73, _⟩ => ⟨S2048x2048, .i1⟩
  | .hbm, ⟨74, _⟩ => ⟨S1x2048x2048, .i1⟩
  | .hbm, ⟨75, _⟩ => ⟨S1x2048x2048, .i1⟩
  | .hbm, ⟨76, _⟩ => ⟨S1x2048x2048, .i1⟩
  | .hbm, ⟨77, _⟩ => ⟨S3x2048x2048, .i1⟩
  | .hbm, ⟨78, _⟩ => ⟨S3x16x8x2048x2048, .f32⟩
  | .hbm, ⟨79, _⟩ => ⟨S_, .f32⟩
  | .hbm, ⟨80, _⟩ => ⟨S_, .f32⟩
  | .hbm, ⟨81, _⟩ => ⟨S3x16x8x2048x2048, .f32⟩
  | .hbm, ⟨82, _⟩ => ⟨S3x16x8x2048x2048, .f32⟩
  | .hbm, ⟨83, _⟩ => ⟨S3x1x1x2048x2048, .i1⟩
  | .hbm, ⟨84, _⟩ => ⟨S_, .f32⟩
  | .hbm, ⟨85, _⟩ => ⟨S_, .f32⟩
  | .hbm, ⟨86, _⟩ => ⟨S3x16x8x2048x2048, .i1⟩
  | .hbm, ⟨87, _⟩ => ⟨S3x16x8x2048x2048, .f32⟩
  | .hbm, ⟨88, _⟩ => ⟨S3x16x8x2048x2048, .f32⟩
  | .hbm, ⟨89, _⟩ => ⟨S_, .f32⟩
  | .hbm, ⟨90, _⟩ => ⟨S3x16x8x2048, .f32⟩
  | .hbm, ⟨91, _⟩ => ⟨S3x16x8x2048x1, .f32⟩
  | .hbm, ⟨92, _⟩ => ⟨S3x16x8x2048x2048, .f32⟩
  | .hbm, ⟨93, _⟩ => ⟨S3x16x8x2048x2048, .f32⟩
  | .hbm, ⟨94, _⟩ => ⟨S3x16x8x2048x2048, .f32⟩
  | .hbm, ⟨95, _⟩ => ⟨S_, .f32⟩
  | .hbm, ⟨96, _⟩ => ⟨S3x16x8x2048, .f32⟩
  | .hbm, ⟨97, _⟩ => ⟨S3x16x8x2048, .f32⟩
  | .hbm, ⟨98, _⟩ => ⟨S3x16x8x2048, .f32⟩
  | .hbm, ⟨99, _⟩ => ⟨S3x16x8x2048x1, .f32⟩
  | .hbm, ⟨100, _⟩ => ⟨S3x16x8x2048x2048, .f32⟩
  | .hbm, ⟨101, _⟩ => ⟨S3x16x8x2048x2048, .f32⟩
  | .hbm, ⟨102, _⟩ => ⟨S3x16x8x2048x2048, .f32⟩
  | .hbm, ⟨103, _⟩ => ⟨S3x16x8x128x2048, .f32⟩
  | .hbm, ⟨104, _⟩ => ⟨S3x16x2048x8x128, .f32⟩
  | .hbm, ⟨105, _⟩ => ⟨S_, .f32⟩
  | .hbm, ⟨106, _⟩ => ⟨S16x8x2048, .f32⟩
  | .hbm, ⟨107, _⟩ => ⟨S1x16x8x2048, .f32⟩
  | .hbm, ⟨108, _⟩ => ⟨S3x16x8x2048, .f32⟩
  | .hbm, ⟨109, _⟩ => ⟨S3x16x8x2048, .f32⟩
  | .hbm, ⟨110, _⟩ => ⟨S3x16x8x2048, .f32⟩
  | .hbm, ⟨111, _⟩ => ⟨S_, .f32⟩
  | .hbm, ⟨112, _⟩ => ⟨S16x8x2048, .f32⟩
  | .hbm, ⟨113, _⟩ => ⟨S1x16x8x2048, .f32⟩
  | .hbm, ⟨114, _⟩ => ⟨S3x16x8x2048, .f32⟩
  | .hbm, ⟨115, _⟩ => ⟨S3x16x8x2048, .f32⟩
  | .hbm, ⟨116, _⟩ => ⟨S3x16x2048x8, .f32⟩
  | .hbm, ⟨117, _⟩ => ⟨S3x16x2048x8x1, .f32⟩
  | .hbm, ⟨118, _⟩ => ⟨S3x16x2048x8x128, .f32⟩
  | .hbm, ⟨119, _⟩ => ⟨S3x16x2048x8x128, .f32⟩
  | .hbm, ⟨120, _⟩ => ⟨S_, .f32⟩
  | .hbm, ⟨121, _⟩ => ⟨S16x2048x8x128, .f32⟩
  | .hbm, ⟨122, _⟩ => ⟨S16x2048x1024, .f32⟩
  | .hbm, ⟨123, _⟩ => ⟨S16x2048x1024, .f32⟩
  | .hbm, ⟨124, _⟩ => ⟨S16x2048x1024, .bf16⟩
  | _, _ => ⟨S16x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_c : Ref sig .tc := ⟨.hbm, 32, rfl⟩
abbrev main_v29 : Ref sig .tc := ⟨.hbm, 33, rfl⟩
abbrev main_v30 : Ref sig .tc := ⟨.hbm, 34, rfl⟩
abbrev main_c_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c_1 : Ref sig .tc := ⟨.hbm, 39, rfl⟩
abbrev main_v34 : Ref sig .tc := ⟨.hbm, 40, rfl⟩
abbrev main_v35 : Ref sig .tc := ⟨.hbm, 41, rfl⟩
abbrev main_c_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_3 : Ref sig .tc := ⟨.hbm, 46, rfl⟩
abbrev main_v39 : Ref sig .tc := ⟨.hbm, 47, rfl⟩
abbrev main_v40 : Ref sig .tc := ⟨.hbm, 48, rfl⟩
abbrev main_c_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_5 : Ref sig .tc := ⟨.hbm, 53, rfl⟩
abbrev main_v44 : Ref sig .tc := ⟨.hbm, 54, rfl⟩
abbrev main_v45 : Ref sig .tc := ⟨.hbm, 55, rfl⟩
abbrev main_c_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_7 : Ref sig .tc := ⟨.hbm, 60, rfl⟩
abbrev main_v49 : Ref sig .tc := ⟨.hbm, 61, rfl⟩
abbrev main_v50 : Ref sig .tc := ⟨.hbm, 62, rfl⟩
abbrev main_c_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_9 : Ref sig .tc := ⟨.hbm, 67, rfl⟩
abbrev main_v54 : Ref sig .tc := ⟨.hbm, 68, rfl⟩
abbrev main_v55 : Ref sig .tc := ⟨.hbm, 69, rfl⟩
abbrev main_c_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_14 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_15 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_16 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩

abbrev nD : Nat := 1
abbrev τ : Topo := Topo.v7x

variable {F : FTy → Type} [FloatOps F]
-- ==== ProjKernel.lean ====
abbrev S32768x1024 : Shape := ⟨2, ![32768, 1024]⟩
abbrev S1x1024 : Shape := ⟨2, ![1, 1024]⟩
abbrev S1024x4096 : Shape := ⟨2, ![1024, 4096]⟩
abbrev S1024x3072 : Shape := ⟨2, ![1024, 3072]⟩
abbrev S32768x128 : Shape := ⟨2, ![32768, 128]⟩
abbrev S3x128 : Shape := ⟨2, ![3, 128]⟩
abbrev S32768x4096 : Shape := ⟨2, ![32768, 4096]⟩
abbrev S16x4x512x3072 : Shape := ⟨4, ![16, 4, 512, 3072]⟩
abbrev S16x16x128x3072 : Shape := ⟨4, ![16, 16, 128, 3072]⟩
abbrev S256x1024 : Shape := ⟨2, ![256, 1024]⟩
abbrev S256x128 : Shape := ⟨2, ![256, 128]⟩
abbrev S256x4096 : Shape := ⟨2, ![256, 4096]⟩
abbrev S1x4x64x3072 : Shape := ⟨4, ![1, 4, 64, 3072]⟩
abbrev S1x16x16x3072 : Shape := ⟨4, ![1, 16, 16, 3072]⟩
abbrev S8x256x128 : Shape := ⟨3, ![8, 256, 128]⟩
abbrev S256 : Shape := ⟨1, ![256]⟩
abbrev S256x1 : Shape := ⟨2, ![256, 1]⟩
abbrev S1x256x128 : Shape := ⟨3, ![1, 256, 128]⟩
abbrev S1024x512 : Shape := ⟨2, ![1024, 512]⟩
abbrev S256x512 : Shape := ⟨2, ![256, 512]⟩
abbrev S1x128 : Shape := ⟨2, ![1, 128]⟩
abbrev S64x128 : Shape := ⟨2, ![64, 128]⟩
abbrev S4x64x512 : Shape := ⟨3, ![4, 64, 512]⟩
abbrev S1x4x64x512 : Shape := ⟨4, ![1, 4, 64, 512]⟩
abbrev S16x128 : Shape := ⟨2, ![16, 128]⟩
abbrev S16x16x512 : Shape := ⟨3, ![16, 16, 512]⟩
abbrev S1x16x16x512 : Shape := ⟨4, ![1, 16, 16, 512]⟩

abbrev nBuf : Space → Nat
  | .hbm => 12
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4096, .bf16⟩
  | .hbm, ⟨3, _⟩ => ⟨S1024x3072, .bf16⟩
  | .hbm, ⟨4, _⟩ => ⟨S1024x3072, .bf16⟩
  | .hbm, ⟨5, _⟩ => ⟨S32768x128, .f32⟩
  | .hbm, ⟨6, _⟩ => ⟨S32768x128, .f32⟩
  | .hbm, ⟨7, _⟩ => ⟨S3x128, .f32⟩
  | .hbm, ⟨8, _⟩ => ⟨S3x128, .f32⟩
  | .hbm, ⟨9, _⟩ => ⟨S32768x4096, .bf16⟩
  | .hbm, ⟨10, _⟩ => ⟨S16x4x512x3072, .bf16⟩
  | .hbm, ⟨11, _⟩ => ⟨S16x16x128x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S1024x3072, .bf16⟩
  | .local _ .vmem, ⟨5, _⟩ => ⟨S1024x3072, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S3x128, .f32⟩
  | .local _ .vmem, ⟨11, _⟩ => ⟨S3x128, .f32⟩
  | .local _ .vmem, ⟨12, _⟩ => ⟨S256x4096, .bf16⟩
  | .local _ .vmem, ⟨13, _⟩ => ⟨S256x4096, .bf16⟩
  | .local _ .vmem, ⟨14, _⟩ => ⟨S1x4x64x3072, .bf16⟩
  | .local _ .vmem, ⟨15, _⟩ => ⟨S1x4x64x3072, .bf16⟩
  | .local _ .vmem, ⟨16, _⟩ => ⟨S1x16x16x3072, .bf16⟩
  | .local _ .vmem, ⟨17, _⟩ => ⟨S1x16x16x3072, .bf16⟩
  | .local _ .vmem, ⟨18, _⟩ => ⟨S8x256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x64x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x16x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjReferenceIdeal.lean ====
abbrev S32768x1024 : Shape := ⟨2, ![32768, 1024]⟩
abbrev S1x1024 : Shape := ⟨2, ![1, 1024]⟩
abbrev S1024x4096 : Shape := ⟨2, ![1024, 4096]⟩
abbrev S1024x3072 : Shape := ⟨2, ![1024, 3072]⟩
abbrev S32768x128 : Shape := ⟨2, ![32768, 128]⟩
abbrev S3x128 : Shape := ⟨2, ![3, 128]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩
abbrev S1x128 : Shape := ⟨2, ![1, 128]⟩
abbrev S128 : Shape := ⟨1, ![128]⟩
abbrev S32768x8x128 : Shape := ⟨3, ![32768, 8, 128]⟩
abbrev S32768x8 : Shape := ⟨2, ![32768, 8]⟩
abbrev S32768x8x1 : Shape := ⟨3, ![32768, 8, 1]⟩
abbrev S1x1x128 : Shape := ⟨3, ![1, 1, 128]⟩
abbrev S32768x1x128 : Shape := ⟨3, ![32768, 1, 128]⟩
abbrev S32768x8x64 : Shape := ⟨3, ![32768, 8, 64]⟩
abbrev S32768x3072 : Shape := ⟨2, ![32768, 3072]⟩
abbrev S16x512x4x3072 : Shape := ⟨4, ![16, 512, 4, 3072]⟩
abbrev S16x4x512x3072 : Shape := ⟨4, ![16, 4, 512, 3072]⟩
abbrev S16x128x16x3072 : Shape := ⟨4, ![16, 128, 16, 3072]⟩
abbrev S16x16x128x3072 : Shape := ⟨4, ![16, 16, 128, 3072]⟩

abbrev nBuf : Space → Nat
  | .hbm => 239
  | .vmem => 0
  | .smem => 0
  | _ => 0

abbrev hbmTy0_0 (i : Nat) : BufTy := match i % 128 with
  | 0 => ⟨S32768x1024, .f32⟩
  | 1 => ⟨S1x1024, .f32⟩
  | 2 => ⟨S1024x4096, .bf16⟩
  | 3 => ⟨S1024x3072, .bf16⟩
  | 4 => ⟨S1024x3072, .bf16⟩
  | 5 => ⟨S32768x128, .f32⟩
  | 6 => ⟨S32768x128, .f32⟩
  | 7 => ⟨S3x128, .f32⟩
  | 8 => ⟨S3x128, .f32⟩
  | 9 => ⟨S32768x1024, .f32⟩
  | 10 => ⟨S_, .f32⟩
  | 11 => ⟨S32768, .f32⟩
  | 12 => ⟨S32768x1, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x1, .f32⟩
  | 20 => ⟨S32768x1024, .f32⟩
  | 21 => ⟨S32768x1024, .f32⟩
  | 22 => ⟨S32768x1024, .f32⟩
  | 23 => ⟨S32768x1024, .f32⟩
  | 24 => ⟨S1024x4096, .f32⟩
  | 25 => ⟨S32768x4096, .f32⟩
  | 26 => ⟨S32768x1024, .f32⟩
  | 27 => ⟨S1x128, .f32⟩
  | 28 => ⟨S128, .f32⟩
  | 29 => ⟨S32768x8x128, .f32⟩
  | 30 => ⟨S32768x8x128, .f32⟩
  | 31 => ⟨S_, .f32⟩
  | 32 => ⟨S32768x8, .f32⟩
  | 33 => ⟨S32768x8x1, .f32⟩
  | 34 => ⟨S_, .f32⟩
  | 35 => ⟨S32768x8x1, .f32⟩
  | 36 => ⟨S32768x8x1, .f32⟩
  | 37 => ⟨S_, .f32⟩
  | 38 => ⟨S32768x8x1, .f32⟩
  | 39 => ⟨S32768x8x1, .f32⟩
  | 40 => ⟨S32768x8x1, .f32⟩
  | 41 => ⟨S32768x8x128, .f32⟩
  | 42 => ⟨S32768x8x128, .f32⟩
  | 43 => ⟨S1x1x128, .f32⟩
  | 44 => ⟨S32768x8x128, .f32⟩
  | 45 => ⟨S32768x8x128, .f32⟩
  | 46 => ⟨S32768x1x128, .f32⟩
  | 47 => ⟨S32768x1x128, .f32⟩
  | 48 => ⟨S32768x8x64, .f32⟩
  | 49 => ⟨S32768x8x64, .f32⟩
  | 50 => ⟨S32768x8x128, .f32⟩
  | 51 => ⟨S32768x8x128, .f32⟩
  | 52 => ⟨S32768x8x128, .f32⟩
  | 53 => ⟨S32768x8x128, .f32⟩
  | 54 => ⟨S32768x8x128, .f32⟩
  | 55 => ⟨S32768x8x128, .f32⟩
  | 56 => ⟨S32768x1024, .f32⟩
  | 57 => ⟨S32768x1024, .f32⟩
  | 58 => ⟨S1x128, .f32⟩
  | 59 => ⟨S128, .f32⟩
  | 60 => ⟨S32768x8x128, .f32⟩
  | 61 => ⟨S32768x8x128, .f32⟩
  | 62 => ⟨S_, .f32⟩
  | 63 => ⟨S32768x8, .f32⟩
  | 64 => ⟨S32768x8x1, .f32⟩
  | 65 => ⟨S_, .f32⟩
  | 66 => ⟨S32768x8x1, .f32⟩
  | 67 => ⟨S32768x8x1, .f32⟩
  | 68 => ⟨S_, .f32⟩
  | 69 => ⟨S32768x8x1, .f32⟩
  | 70 => ⟨S32768x8x1, .f32⟩
  | 71 => ⟨S32768x8x1, .f32⟩
  | 72 => ⟨S32768x8x128, .f32⟩
  | 73 => ⟨S32768x8x128, .f32⟩
  | 74 => ⟨S1x1x128, .f32⟩
  | 75 => ⟨S32768x8x128, .f32⟩
  | 76 => ⟨S32768x8x128, .f32⟩
  | 77 => ⟨S32768x1x128, .f32⟩
  | 78 => ⟨S32768x1x128, .f32⟩
  | 79 => ⟨S32768x8x64, .f32⟩
  | 80 => ⟨S32768x8x64, .f32⟩
  | 81 => ⟨S32768x8x128, .f32⟩
  | 82 => ⟨S32768x8x128, .f32⟩
  | 83 => ⟨S32768x8x128, .f32⟩
  | 84 => ⟨S32768x8x128, .f32⟩
  | 85 => ⟨S32768x8x128, .f32⟩
  | 86 => ⟨S32768x8x128, .f32⟩
  | 87 => ⟨S32768x1024, .f32⟩
  | 88 => ⟨S32768x1024, .f32⟩
  | 89 => ⟨S32768x1024, .f32⟩
  | 90 => ⟨S32768x1024, .f32⟩
  | 91 => ⟨S32768x1024, .f32⟩
  | 92 => ⟨S_, .f32⟩
  | 93 => ⟨S32768x1024, .f32⟩
  | 94 => ⟨S32768x1024, .f32⟩
  | 95 => ⟨S_, .f32⟩
  | 96 => ⟨S32768x1024, .f32⟩
  | 97 => ⟨S32768x1024, .f32⟩
  | 98 => ⟨S32768x1024, .f32⟩
  | 99 => ⟨S32768x4096, .f32⟩
  | 100 => ⟨S32768x4096, .bf16⟩
  | 101 => ⟨S1024x3072, .f32⟩
  | 102 => ⟨S32768x3072, .f32⟩
  | 103 => ⟨S32768x1024, .f32⟩
  | 104 => ⟨S1x128, .f32⟩
  | 105 => ⟨S128, .f32⟩
  | 106 => ⟨S32768x8x128, .f32⟩
  | 107 => ⟨S32768x8x128, .f32⟩
  | 108 => ⟨S_, .f32⟩
  | 109 => ⟨S32768x8, .f32⟩
  | 110 => ⟨S32768x8x1, .f32⟩
  | 111 => ⟨S_, .f32⟩
  | 112 => ⟨S32768x8x1, .f32⟩
  | 113 => ⟨S32768x8x1, .f32⟩
  | 114 => ⟨S_, .f32⟩
  | 115 => ⟨S32768x8x1, .f32⟩
  | 116 => ⟨S32768x8x1, .f32⟩
  | 117 => ⟨S32768x8x1, .f32⟩
  | 118 => ⟨S32768x8x128, .f32⟩
  | 119 => ⟨S32768x8x128, .f32⟩
  | 120 => ⟨S1x1x128, .f32⟩
  | 121 => ⟨S32768x8x128, .f32⟩
  | 122 => ⟨S32768x8x128, .f32⟩
  | 123 => ⟨S32768x1x128, .f32⟩
  | 124 => ⟨S32768x1x128, .f32⟩
  | 125 => ⟨S32768x8x64, .f32⟩
  | 126 => ⟨S32768x8x64, .f32⟩
  | 127 => ⟨S32768x8x128, .f32⟩
  | _ => ⟨S32768x1024, .f32⟩

abbrev hbmTy0_1 (i : Nat) : BufTy := match i % 128 with
  | 0 => ⟨S32768x8x128, .f32⟩
  | 1 => ⟨S32768x8x128, .f32⟩
  | 2 => ⟨S32768x8x128, .f32⟩
  | 3 => ⟨S32768x8x128, .f32⟩
  | 4 => ⟨S32768x8x128, .f32⟩
  | 5 => ⟨S32768x1024, .f32⟩
  | 6 => ⟨S32768x1024, .f32⟩
  | 7 => ⟨S1x128, .f32⟩
  | 8 => ⟨S128, .f32⟩
  | 9 => ⟨S32768x8x128, .f32⟩
  | 10 => ⟨S32768x8x128, .f32⟩
  | 11 => ⟨S_, .f32⟩
  | 12 => ⟨S32768x8, .f32⟩
  | 13 => ⟨S32768x8x1, .f32⟩
  | 14 => ⟨S_, .f32⟩
  | 15 => ⟨S32768x8x1, .f32⟩
  | 16 => ⟨S32768x8x1, .f32⟩
  | 17 => ⟨S_, .f32⟩
  | 18 => ⟨S32768x8x1, .f32⟩
  | 19 => ⟨S32768x8x1, .f32⟩
  | 20 => ⟨S32768x8x1, .f32⟩
  | 21 => ⟨S32768x8x128, .f32⟩
  | 22 => ⟨S32768x8x128, .f32⟩
  | 23 => ⟨S1x1x128, .f32⟩
  | 24 => ⟨S32768x8x128, .f32⟩
  | 25 => ⟨S32768x8x128, .f32⟩
  | 26 => ⟨S32768x1x128, .f32⟩
  | 27 => ⟨S32768x1x128, .f32⟩
  | 28 => ⟨S32768x8x64, .f32⟩
  | 29 => ⟨S32768x8x64, .f32⟩
  | 30 => ⟨S32768x8x128, .f32⟩
  | 31 => ⟨S32768x8x128, .f32⟩
  | 32 => ⟨S32768x8x128, .f32⟩
  | 33 => ⟨S32768x8x128, .f32⟩
  | 34 => ⟨S32768x8x128, .f32⟩
  | 35 => ⟨S32768x8x128, .f32⟩
  | 36 => ⟨S32768x1024, .f32⟩
  | 37 => ⟨S32768x1024, .f32⟩
  | 38 => ⟨S32768x3072, .f32⟩
  | 39 => ⟨S32768x3072, .bf16⟩
  | 40 => ⟨S16x512x4x3072, .bf16⟩
  | 41 => ⟨S16x4x512x3072, .bf16⟩
  | 42 => ⟨S1024x3072, .f32⟩
  | 43 => ⟨S32768x3072, .f32⟩
  | 44 => ⟨S32768x1024, .f32⟩
  | 45 => ⟨S1x128, .f32⟩
  | 46 => ⟨S128, .f32⟩
  | 47 => ⟨S32768x8x128, .f32⟩
  | 48 => ⟨S32768x8x128, .f32⟩
  | 49 => ⟨S_, .f32⟩
  | 50 => ⟨S32768x8, .f32⟩
  | 51 => ⟨S32768x8x1, .f32⟩
  | 52 => ⟨S_, .f32⟩
  | 53 => ⟨S32768x8x1, .f32⟩
  | 54 => ⟨S32768x8x1, .f32⟩
  | 55 => ⟨S_, .f32⟩
  | 56 => ⟨S32768x8x1, .f32⟩
  | 57 => ⟨S32768x8x1, .f32⟩
  | 58 => ⟨S32768x8x1, .f32⟩
  | 59 => ⟨S32768x8x128, .f32⟩
  | 60 => ⟨S32768x8x128, .f32⟩
  | 61 => ⟨S1x1x128, .f32⟩
  | 62 => ⟨S32768x8x128, .f32⟩
  | 63 => ⟨S32768x8x128, .f32⟩
  | 64 => ⟨S32768x1x128, .f32⟩
  | 65 => ⟨S32768x1x128, .f32⟩
  | 66 => ⟨S32768x8x64, .f32⟩
  | 67 => ⟨S32768x8x64, .f32⟩
  | 68 => ⟨S32768x8x128, .f32⟩
  | 69 => ⟨S32768x8x128, .f32⟩
  | 70 => ⟨S32768x8x128, .f32⟩
  | 71 => ⟨S32768x8x128, .f32⟩
  | 72 => ⟨S32768x8x128, .f32⟩
  | 73 => ⟨S32768x8x128, .f32⟩
  | 74 => ⟨S32768x1024, .f32⟩
  | 75 => ⟨S32768x1024, .f32⟩
  | 76 => ⟨S1x128, .f32⟩
  | 77 => ⟨S128, .f32⟩
  | 78 => ⟨S32768x8x128, .f32⟩
  | 79 => ⟨S32768x8x128, .f32⟩
  | 80 => ⟨S_, .f32⟩
  | 81 => ⟨S32768x8, .f32⟩
  | 82 => ⟨S32768x8x1, .f32⟩
  | 83 => ⟨S_, .f32⟩
  | 84 => ⟨S32768x8x1, .f32⟩
  | 85 => ⟨S32768x8x1, .f32⟩
  | 86 => ⟨S_, .f32⟩
  | 87 => ⟨S32768x8x1, .f32⟩
  | 88 => ⟨S32768x8x1, .f32⟩
  | 89 => ⟨S32768x8x1, .f32⟩
  | 90 => ⟨S32768x8x128, .f32⟩
  | 91 => ⟨S32768x8x128, .f32⟩
  | 92 => ⟨S1x1x128, .f32⟩
  | 93 => ⟨S32768x8x128, .f32⟩
  | 94 => ⟨S32768x8x128, .f32⟩
  | 95 => ⟨S32768x1x128, .f32⟩
  | 96 => ⟨S32768x1x128, .f32⟩
  | 97 => ⟨S32768x8x64, .f32⟩
  | 98 => ⟨S32768x8x64, .f32⟩
  | 99 => ⟨S32768x8x128, .f32⟩
  | 100 => ⟨S32768x8x128, .f32⟩
  | 101 => ⟨S32768x8x128, .f32⟩
  | 102 => ⟨S32768x8x128, .f32⟩
  | 103 => ⟨S32768x8x128, .f32⟩
  | 104 => ⟨S32768x8x128, .f32⟩
  | 105 => ⟨S32768x1024, .f32⟩
  | 106 => ⟨S32768x1024, .f32⟩
  | 107 => ⟨S32768x3072, .f32⟩
  | 108 => ⟨S32768x3072, .bf16⟩
  | 109 => ⟨S16x128x16x3072, .bf16⟩
  | 110 => ⟨S16x16x128x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_10 : Ref sig .tc := ⟨.hbm, 108, rfl⟩
abbrev main_v88 : Ref sig .tc := ⟨.hbm, 109, rfl⟩
abbrev main_v89 : Ref sig .tc := ⟨.hbm, 110, rfl⟩
abbrev main_cst_11 : Ref sig .tc := ⟨.hbm, 111, rfl⟩
abbrev main_v90 : Ref sig .tc := ⟨.hbm, 112, rfl⟩
abbrev main_v91 : Ref sig .tc := ⟨.hbm, 113, rfl⟩
abbrev main_cst_12 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_13 : Ref sig .tc := ⟨.hbm, 139, rfl⟩
abbrev main_v116 : Ref sig .tc := ⟨.hbm, 140, rfl⟩
abbrev main_v117 : Ref sig .tc := ⟨.hbm, 141, rfl⟩
abbrev main_cst_14 : Ref sig .tc := ⟨.hbm, 142, rfl⟩
abbrev main_v118 : Ref sig .tc := ⟨.hbm, 143, rfl⟩
abbrev main_v119 : Ref sig .tc := ⟨.hbm, 144, rfl⟩
abbrev main_cst_15 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_cst_16 : Ref sig .tc := ⟨.hbm, 177, rfl⟩
abbrev main_v151 : Ref sig .tc := ⟨.hbm, 178, rfl⟩
abbrev main_v152 : Ref sig .tc := ⟨.hbm, 179, rfl⟩
abbrev main_cst_17 : Ref sig .tc := ⟨.hbm, 180, rfl⟩
abbrev main_v153 : Ref sig .tc := ⟨.hbm, 181, rfl⟩
abbrev main_v154 : Ref sig .tc := ⟨.hbm, 182, rfl⟩
abbrev main_cst_18 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_cst_19 : Ref sig .tc := ⟨.hbm, 208, rfl⟩
abbrev main_v179 : Ref sig .tc := ⟨.hbm, 209, rfl⟩
abbrev main_v180 : Ref sig .tc := ⟨.hbm, 210, rfl⟩
abbrev main_cst_20 : Ref sig .tc := ⟨.hbm, 211, rfl⟩
abbrev main_v181 : Ref sig .tc := ⟨.hbm, 212, rfl⟩
abbrev main_v182 : Ref sig .tc := ⟨.hbm, 213, rfl⟩
abbrev main_cst_21 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩

abbrev nD : Nat := 1
abbrev τ : Topo := Topo.v7x

variable {F : FTy → Type} [FloatOps F]
-- ==== GdnKernel.lean ====
abbrev S32768x1024 : Shape := ⟨2, ![32768, 1024]⟩
abbrev S1024 : Shape := ⟨1, ![1024]⟩
abbrev S1024x6160 : Shape := ⟨2, ![1024, 6160]⟩
abbrev S8 : Shape := ⟨1, ![8]⟩
abbrev S4x4096 : Shape := ⟨2, ![4, 4096]⟩
abbrev S1024x6144 : Shape := ⟨2, ![1024, 6144]⟩
abbrev S1024x16 : Shape := ⟨2, ![1024, 16]⟩
abbrev S16x1024 : Shape := ⟨2, ![16, 1024]⟩
abbrev S_ : Shape := ⟨0, ![]⟩
abbrev S16 : Shape := ⟨1, ![16]⟩
abbrev S16x1 : Shape := ⟨2, ![16, 1]⟩
abbrev S1x1024 : Shape := ⟨2, ![1, 1024]⟩
abbrev S32768x6144 : Shape := ⟨2, ![32768, 6144]⟩
abbrev S16x32768 : Shape := ⟨2, ![16, 32768]⟩
abbrev S256x1024 : Shape := ⟨2, ![256, 1024]⟩
abbrev S256x6144 : Shape := ⟨2, ![256, 6144]⟩
abbrev S16x256 : Shape := ⟨2, ![16, 256]⟩
abbrev S256 : Shape := ⟨1, ![256]⟩
abbrev S256x1 : Shape := ⟨2, ![256, 1]⟩
abbrev S272x1024 : Shape := ⟨2, ![272, 1024]⟩
abbrev S1024x512 : Shape := ⟨2, ![1024, 512]⟩
abbrev S272x512 : Shape := ⟨2, ![272, 512]⟩
abbrev S4x512 : Shape := ⟨2, ![4, 512]⟩
abbrev S1x512 : Shape := ⟨2, ![1, 512]⟩
abbrev S256x512 : Shape := ⟨2, ![256, 512]⟩

abbrev nBuf : Space → Nat
  | .hbm => 20
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6160, .f32⟩
  | .hbm, ⟨3, _⟩ => ⟨S8, .f32⟩
  | .hbm, ⟨4, _⟩ => ⟨S8, .f32⟩
  | .hbm, ⟨5, _⟩ => ⟨S4x4096, .f32⟩
  | .hbm, ⟨6, _⟩ => ⟨S1024x6144, .f32⟩
  | .hbm, ⟨7, _⟩ => ⟨S1024x6144, .bf16⟩
  | .hbm, ⟨8, _⟩ => ⟨S1024x16, .f32⟩
  | .hbm, ⟨9, _⟩ => ⟨S16x1024, .f32⟩
  | .hbm, ⟨10, _⟩ => ⟨S16x1024, .bf16⟩
  | .hbm, ⟨11, _⟩ => ⟨S_, .f32⟩
  | .hbm, ⟨12, _⟩ => ⟨S8, .f32⟩
  | .hbm, ⟨13, _⟩ => ⟨S16, .f32⟩
  | .hbm, ⟨14, _⟩ => ⟨S16x1, .f32⟩
  | .hbm, ⟨15, _⟩ => ⟨S16, .f32⟩
  | .hbm, ⟨16, _⟩ => ⟨S16x1, .f32⟩
  | .hbm, ⟨17, _⟩ => ⟨S1x1024, .f32⟩
  | .hbm, ⟨18, _⟩ => ⟨S32768x6144, .bf16⟩
  | .hbm, ⟨19, _⟩ => ⟨S16x32768, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x6144, .bf16⟩
  | .local _ .vmem, ⟨6, _⟩ => ⟨S16x1024, .bf16⟩
  | .local _ .vmem, ⟨7, _⟩ => ⟨S16x1, .f32⟩
  | .local _ .vmem, ⟨8, _⟩ => ⟨S16x1, .f32⟩
  | .local _ .vmem, ⟨9, _⟩ => ⟨S4x4096, .f32⟩
  | .local _ .vmem, ⟨10, _⟩ => ⟨S256x6144, .bf16⟩
  | .local _ .vmem, ⟨11, _⟩ => ⟨S256x6144, .bf16⟩
  | .local _ .vmem, ⟨12, _⟩ => ⟨S16x256, .f32⟩
  | .local _ .vmem, ⟨13, _⟩ => ⟨S16x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GdnReferenceIdeal.lean ====
abbrev S32768x1024 : Shape := ⟨2, ![32768, 1024]⟩
abbrev S1024 : Shape := ⟨1, ![1024]⟩
abbrev S1024x6160 : Shape := ⟨2, ![1024, 6160]⟩
abbrev S8 : Shape := ⟨1, ![8]⟩
abbrev S4x4096 : Shape := ⟨2, ![4, 4096]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x6160 : Shape := ⟨2, ![32768, 6160]⟩
abbrev S32768x4096 : Shape := ⟨2, ![32768, 4096]⟩
abbrev S16x2048x4096 : Shape := ⟨3, ![16, 2048, 4096]⟩
abbrev S16x2051x4096 : Shape := ⟨3, ![16, 2051, 4096]⟩
abbrev S1x4096 : Shape := ⟨2, ![1, 4096]⟩
abbrev S4096 : Shape := ⟨1, ![4096]⟩
abbrev S1x1x4096 : Shape := ⟨3, ![1, 1, 4096]⟩
abbrev S32768x2048 : Shape := ⟨2, ![32768, 2048]⟩
abbrev S32768x8 : Shape := ⟨2, ![32768, 8]⟩
abbrev S1x8 : Shape := ⟨2, ![1, 8]⟩
abbrev S32768x6144 : Shape := ⟨2, ![32768, 6144]⟩
abbrev S32768x16 : Shape := ⟨2, ![32768, 16]⟩
abbrev S16x32768 : Shape := ⟨2, ![16, 32768]⟩

abbrev nBuf : Space → Nat
  | .hbm => 105
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6160, .f32⟩
  | .hbm, ⟨3, _⟩ => ⟨S8, .f32⟩
  | .hbm, ⟨4, _⟩ => ⟨S8, .f32⟩
  | .hbm, ⟨5, _⟩ => ⟨S4x4096, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x6160, .f32⟩
  | .hbm, ⟨23, _⟩ => ⟨S32768x4096, .f32⟩
  | .hbm, ⟨24, _⟩ => ⟨S16x2048x4096, .f32⟩
  | .hbm, ⟨25, _⟩ => ⟨S_, .i32⟩
  | .hbm, ⟨26, _⟩ => ⟨S_, .f32⟩
  | .hbm, ⟨27, _⟩ => ⟨S16x2051x4096, .f32⟩
  | .hbm, ⟨28, _⟩ => ⟨S16x2048x4096, .f32⟩
  | .hbm, ⟨29, _⟩ => ⟨S1x4096, .f32⟩
  | .hbm, ⟨30, _⟩ => ⟨S4096, .f32⟩
  | .hbm, ⟨31, _⟩ => ⟨S1x1x4096, .f32⟩
  | .hbm, ⟨32, _⟩ => ⟨S16x2048x4096, .f32⟩
  | .hbm, ⟨33, _⟩ => ⟨S16x2048x4096, .f32⟩
  | .hbm, ⟨34, _⟩ => ⟨S_, .f32⟩
  | .hbm, ⟨35, _⟩ => ⟨S16x2048x4096, .f32⟩
  | .hbm, ⟨36, _⟩ => ⟨S16x2048x4096, .f32⟩
  | .hbm, ⟨37, _⟩ => ⟨S16x2048x4096, .f32⟩
  | .hbm, ⟨38, _⟩ => ⟨S1x4096, .f32⟩
  | .hbm, ⟨39, _⟩ => ⟨S4096, .f32⟩
  | .hbm, ⟨40, _⟩ => ⟨S1x1x4096, .f32⟩
  | .hbm, ⟨41, _⟩ => ⟨S16x2048x4096, .f32⟩
  | .hbm, ⟨42, _⟩ => ⟨S16x2048x4096, .f32⟩
  | .hbm, ⟨43, _⟩ => ⟨S16x2048x4096, .f32⟩
  | .hbm, ⟨44, _⟩ => ⟨S16x2048x4096, .f32⟩
  | .hbm, ⟨45, _⟩ => ⟨S1x4096, .f32⟩
  | .hbm, ⟨46, _⟩ => ⟨S4096, .f32⟩
  | .hbm, ⟨47, _⟩ => ⟨S1x1x4096, .f32⟩
  | .hbm, ⟨48, _⟩ => ⟨S16x2048x4096, .f32⟩
  | .hbm, ⟨49, _⟩ => ⟨S16x2048x4096, .f32⟩
  | .hbm, ⟨50, _⟩ => ⟨S16x2048x4096, .f32⟩
  | .hbm, ⟨51, _⟩ => ⟨S16x2048x4096, .f32⟩
  | .hbm, ⟨52, _⟩ => ⟨S1x4096, .f32⟩
  | .hbm, ⟨53, _⟩ => ⟨S4096, .f32⟩
  | .hbm, ⟨54, _⟩ => ⟨S1x1x4096, .f32⟩
  | .hbm, ⟨55, _⟩ => ⟨S16x2048x4096, .f32⟩
  | .hbm, ⟨56, _⟩ => ⟨S16x2048x4096, .f32⟩
  | .hbm, ⟨57, _⟩ => ⟨S16x2048x4096, .f32⟩
  | .hbm, ⟨58, _⟩ => ⟨S32768x2048, .f32⟩
  | .hbm, ⟨59, _⟩ => ⟨S32768x8, .f32⟩
  | .hbm, ⟨60, _⟩ => ⟨S32768x8, .f32⟩
  | .hbm, ⟨61, _⟩ => ⟨S32768x8, .f32⟩
  | .hbm, ⟨62, _⟩ => ⟨S_, .f32⟩
  | .hbm, ⟨63, _⟩ => ⟨S32768x8, .f32⟩
  | .hbm, ⟨64, _⟩ => ⟨S32768x8, .f32⟩
  | .hbm, ⟨65, _⟩ => ⟨S_, .f32⟩
  | .hbm, ⟨66, _⟩ => ⟨S32768x8, .f32⟩
  | .hbm, ⟨67, _⟩ => ⟨S32768x8, .f32⟩
  | .hbm, ⟨68, _⟩ => ⟨S8, .f32⟩
  | .hbm, ⟨69, _⟩ => ⟨S8, .f32⟩
  | .hbm, ⟨70, _⟩ => ⟨S32768x8, .f32⟩
  | .hbm, ⟨71, _⟩ => ⟨S1x8, .f32⟩
  | .hbm, ⟨72, _⟩ => ⟨S32768x8, .f32⟩
  | .hbm, ⟨73, _⟩ => ⟨S32768x8, .f32⟩
  | .hbm, ⟨74, _⟩ => ⟨S_, .f32⟩
  | .hbm, ⟨75, _⟩ => ⟨S32768x8, .f32⟩
  | .hbm, ⟨76, _⟩ => ⟨S32768x8, .f32⟩
  | .hbm, ⟨77, _⟩ => ⟨S32768x8, .f32⟩
  | .hbm, ⟨78, _⟩ => ⟨S32768x8, .f32⟩
  | .hbm, ⟨79, _⟩ => ⟨S32768x8, .i1⟩
  | .hbm, ⟨80, _⟩ => ⟨S32768x8, .f32⟩
  | .hbm, ⟨81, _⟩ => ⟨S32768x8, .f32⟩
  | .hbm, ⟨82, _⟩ => ⟨S32768x8, .f32⟩
  | .hbm, ⟨83, _⟩ => ⟨S32768x8, .f32⟩
  | .hbm, ⟨84, _⟩ => ⟨S32768x8, .f32⟩
  | .hbm, ⟨85, _⟩ => ⟨S32768x8, .f32⟩
  | .hbm, ⟨86, _⟩ => ⟨S32768x8, .f32⟩
  | .hbm, ⟨87, _⟩ => ⟨S32768x8, .f32⟩
  | .hbm, ⟨88, _⟩ => ⟨S1x8, .f32⟩
  | .hbm, ⟨89, _⟩ => ⟨S32768x8, .f32⟩
  | .hbm, ⟨90, _⟩ => ⟨S32768x8, .f32⟩
  | .hbm, ⟨91, _⟩ => ⟨S32768x4096, .f32⟩
  | .hbm, ⟨92, _⟩ => ⟨S32768x2048, .f32⟩
  | .hbm, ⟨93, _⟩ => ⟨S32768x2048, .f32⟩
  | .hbm, ⟨94, _⟩ => ⟨S_, .f32⟩
  | .hbm, ⟨95, _⟩ => ⟨S32768x2048, .f32⟩
  | .hbm, ⟨96, _⟩ => ⟨S32768x2048, .f32⟩
  | .hbm, ⟨97, _⟩ => ⟨S_, .f32⟩
  | .hbm, ⟨98, _⟩ => ⟨S32768x2048, .f32⟩
  | .hbm, ⟨99, _⟩ => ⟨S32768x2048, .f32⟩
  | .hbm, ⟨100, _⟩ => ⟨S32768x2048, .f32⟩
  | .hbm, ⟨101, _⟩ => ⟨S32768x6144, .f32⟩
  | .hbm, ⟨102, _⟩ => ⟨S32768x6144, .bf16⟩
  | .hbm, ⟨103, _⟩ => ⟨S32768x16, .f32⟩
  | .hbm, ⟨104, _⟩ => ⟨S16x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_call2_v5 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== Proof.OutValue.lean ====
/- The value of the output projection: the kernel's result array is `x + o · w`, index by index. -/
module

public import proofs.«01_k».proof.Proof.Gen.OutKernelIdeal.Value
public import proofs.«01_k».proof.Proof.Gen.OutReferenceIdeal.Run
public import Idealize.ShloMosaic.Lib.Pipeline.ValueKit
public import Idealize.ShloMosaic.Lib.Pointwise

@[expose] public section

set_option maxRecDepth 16384

noncomputable section

namespace Cert.OutValue

open Cert.OutKernelIdeal Cert.OutKernelIdeal.Gen Idealize.ShloMosaic Idealize.ShloMosaic.TcCoe Idealize.SL.Sem

variable (m : (ℓ : Loc nD τ sig) → Buf (Elt Ideal) ℓ)

/-- The residual stream plus the product of the attention's output with the weights. -/
def G (o : FVec Ideal S32768x1024 .bf16) (w : FVec Ideal S1024x1024 .f32) (x : FVec Ideal S32768x1024 .f32) :
    FVec Ideal S32768x1024 .f32 :=
  addf x (Host.dotGeneral (F := Ideal) Cert.OutReferenceIdeal.dot_S32768x1024_S1024x1024_S32768x1024_1_0_0_1_n_n none
    (extf (F := Ideal) .f32 o Cert.OutReferenceIdeal.Gen.bitsLt_bf16_f32) w)

/-- Where each window's block lies at a grid point. -/
theorem idx : ∀ t : Fin cfg0.N, win0_0.index t = ![(grid0.coords t 0).val, 0] ∧ win0_1.index t = ![0, 0]
    ∧ win0_2.index t = ![(grid0.coords t 0).val, 0] ∧ win0_3.index t = ![(grid0.coords t 0).val, 0] := by
  decide +kernel

/-- The result array after the run is `G` of the arguments. -/
theorem final (c : Dev nD) :
    (dats m 0 c).arrAt 3 cfg0.N = G (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  frame_out
  unfold_payloads
  unfold G
  pointwise
  blk_point [iblk, V_main_arg0, V_main_arg2, idx t]

end Cert.OutValue

end
-- ==== Proof.OutClaims.lean ====
/- The claims about the output projection. -/
module

public import proofs.«01_k».proof.Defs
public import proofs.«01_k».proof.Proof.OutValue
public import proofs.«01_k».proof.Proof.Gen.OutKernel.Frame
public import Idealize.ShloMosaic.Lib.Claim
public import Idealize.ShloMosaic.Lib.Quiescent

@[expose] public section

noncomputable section

namespace Cert.OutClaims

open Idealize.ShloMosaic Idealize.ShloMosaic.TcCoe Idealize.SL.Sem

/-- The kernel runs, leaves its arguments as they were and its counters at zero. -/
theorem frame_kernel : Cert.quiescent_OutKernel (hOutKernel := Cert.OutKernel.Gen.facts) :=
  fun m ρ _ => Cert.OutKernel.Gen.frame m ρ

/-- The same of the idealized kernel. -/
theorem frame_kernelIdeal : Cert.quiescent_OutKernelIdeal (hOutKernelIdeal := Cert.OutKernelIdeal.Gen.facts) :=
  fun m ρ _ => Cert.OutKernelIdeal.Gen.frame m ρ

/-- The reference runs and leaves its arguments as they were; it declares no counters. -/
theorem frame_referenceIdeal :
    Cert.quiescent_OutReferenceIdeal (hOutReferenceIdeal := Cert.OutReferenceIdeal.Gen.facts) := fun m ρ _ =>
  (θ_run _ _ _).mono (fun r h => ⟨fun c => (h c).2, sem_eq_zero_of_no_sems (by decide) r.2⟩)
    (Cert.OutReferenceIdeal.Value.run (F := Ideal) m ρ)

/-- Both runs end with `x + o · w`. -/
theorem algebraic :
    Cert.algebraic_OutKernelIdeal_OutReferenceIdeal (hOutKernelIdeal := Cert.OutKernelIdeal.Gen.facts)
      (hOutReferenceIdeal := Cert.OutReferenceIdeal.Gen.facts) := by
  intro m g m' g' _ hagree
  refine ⟨_, (θ_run _ _ _).mono (fun r h c => ⟨((h c).1).trans (OutValue.final m c), (h c).2⟩)
    (Cert.OutKernelIdeal.Value.run_blocks (F := Ideal) m g), ?_⟩
  refine (θ_run _ _ _).mono (fun r h c => ⟨((h c).1).trans ?_, (h c).2⟩)
    (Cert.OutReferenceIdeal.Value.run (F := Ideal) m' g')
  rw [(hagree c).1, (hagree c).2.1, (hagree c).2.2]
  rfl

end Cert.OutClaims

end
-- ==== Proof.AttnMath.lean ====
/- The arithmetic of a masked softmax by powers of two, and of merging three of them by their denominators. -/
module

public import Idealize.ShloMosaic.Lib.Pointwise
public import Mathlib.Analysis.SpecialFunctions.Pow.Real

@[expose] public section

noncomputable section

namespace Cert.AttnMath

open Idealize.ShloMosaic

variable {ι : Type} [Fintype ι]

/-- The sum of `2 ^ σ k` over the keys that a query may see. -/
def den (P : ι → Prop) [DecidablePred P] (σ : ι → ℝ) : ℝ := ∑ k, if P k then (2 : ℝ) ^ σ k else 0

/-- The sum of `2 ^ σ k * ν k` over the keys that a query may see. -/
def num (P : ι → Prop) [DecidablePred P] (σ ν : ι → ℝ) : ℝ := ∑ k, if P k then (2 : ℝ) ^ σ k * ν k else 0

/-- The logarithm to the base two. -/
def lb (d : ℝ) : ℝ := Real.log d / Real.log 2

/-- The logarithm to the base two undoes the power. -/
theorem two_rpow_lb (d : ℝ) (hd : 0 < d) : (2 : ℝ) ^ lb d = d := by
  have hl : Real.log 2 ≠ 0 := (Real.log_pos (by norm_num)).ne'
  rw [Real.rpow_def_of_pos (by norm_num), lb, mul_div_cancel₀ _ hl, Real.exp_log hd]

/-- A masked score: `-∞` off the mask. -/
def score (P : ι → Prop) [DecidablePred P] (σ : ι → ℝ) (k : ι) : EReal := if P k then (σ k : EReal) else ⊥

/-- The sum of embedded reals is the embedded sum. -/
theorem sum_coe (f : ι → ℝ) : (∑ k, (f k : EReal)) = ((∑ k, f k : ℝ) : EReal) := by
  classical
  have h : ∀ s : Finset ι, (∑ k ∈ s, (f k : EReal)) = ((∑ k ∈ s, f k : ℝ) : EReal) := fun s => by
    induction s using Finset.induction_on with
    | empty => simp
    | insert a s ha ih => rw [Finset.sum_insert ha, Finset.sum_insert ha, ih, EReal.coe_add]
  exact h _

/-- A query that sees a key has a positive denominator. -/
theorem den_pos (P : ι → Prop) [DecidablePred P] (σ : ι → ℝ) (hP : ∃ k, P k) : 0 < den P σ := by
  obtain ⟨k, hk⟩ := hP
  refine Finset.sum_pos' (fun i _ => ?_) ⟨k, Finset.mem_univ _, ?_⟩
  · split_ifs
    · positivity
    · exact le_rfl
  · rw [if_pos hk]; positivity

/-- The greatest masked score is a real number. -/
theorem max_real (P : ι → Prop) [DecidablePred P] (σ : ι → ℝ) (hP : ∃ k, P k) :
    ∃ M : ℝ, Finset.univ.fold max ⊥ (score P σ) = (M : EReal) := by
  classical
  have hsup : Finset.univ.fold max ⊥ (score P σ) = Finset.univ.sup (score P σ) := rfl
  obtain ⟨k₀, hk₀⟩ := hP
  obtain ⟨k, -, hk⟩ := Finset.exists_mem_eq_sup Finset.univ ⟨k₀, Finset.mem_univ _⟩ (score P σ)
  have hle : (σ k₀ : EReal) ≤ Finset.univ.sup (score P σ) := by
    have h := Finset.le_sup (f := score P σ) (Finset.mem_univ k₀)
    rwa [show score P σ k₀ = (σ k₀ : EReal) from if_pos hk₀] at h
  by_cases hp : P k
  · exact ⟨σ k, by rw [hsup, hk]; exact if_pos hp⟩
  · rw [hk, show score P σ k = ⊥ from if_neg hp] at hle
    exact absurd hle (by simp)

/-- A masked score less a real, as a power of two. -/
theorem exp2_score (P : ι → Prop) [DecidablePred P] (σ : ι → ℝ) (M : ℝ) (k : ι) :
    Ideal.exp2 (score P σ k - (M : EReal)) = (((if P k then (2 : ℝ) ^ (σ k) else 0) * (2 : ℝ) ^ (-M) : ℝ) : EReal) := by
  by_cases hp : P k
  · rw [show score P σ k = (σ k : EReal) from if_pos hp, if_pos hp, ← EReal.coe_sub, Ideal.exp2_coe,
      ← Real.rpow_add (by norm_num)]
    rfl
  · rw [show score P σ k = ⊥ from if_neg hp, if_neg hp, zero_mul]
    simp

/-- The kernel's weighted row sum. -/
theorem acc_eq (P : ι → Prop) [DecidablePred P] (σ ν : ι → ℝ) (M : ℝ) :
    (∑ k, Ideal.exp2 (score P σ k - (M : EReal)) * (ν k : EReal)) = ((num P σ ν * (2 : ℝ) ^ (-M) : ℝ) : EReal) := by
  simp only [exp2_score, ← EReal.coe_mul]
  rw [sum_coe, num, Finset.sum_mul]
  congr 1
  refine Finset.sum_congr rfl fun k _ => ?_
  split_ifs <;> ring

/-- The kernel's row sum against weights that are one wherever the mask is open. -/
theorem den_eq (P : ι → Prop) [DecidablePred P] (σ ω : ι → ℝ) (hω : ∀ k, P k → ω k = 1) (M : ℝ) :
    (∑ k, Ideal.exp2 (score P σ k - (M : EReal)) * (ω k : EReal)) = ((den P σ * (2 : ℝ) ^ (-M) : ℝ) : EReal) := by
  rw [acc_eq]
  congr 2
  refine Finset.sum_congr rfl fun k _ => ?_
  split_ifs with h
  · rw [hω k h, mul_one]
  · rfl

/-- Division of reals, the divisor not zero. -/
theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-- The output row of one group: the mean of the values, weighted by the powers of two. -/
theorem out_eq (P : ι → Prop) [DecidablePred P] (σ ν ω : ι → ℝ) (hω : ∀ k, P k → ω k = 1) (hP : ∃ k, P k) :
    Ideal.div (∑ k, Ideal.exp2 (score P σ k - Finset.univ.fold max ⊥ (score P σ)) * (ν k : EReal))
      (∑ k, Ideal.exp2 (score P σ k - Finset.univ.fold max ⊥ (score P σ)) * (ω k : EReal))
      = ((num P σ ν / den P σ : ℝ) : EReal) := by
  obtain ⟨M, hM⟩ := max_real P σ hP
  have hd := den_pos P σ hP
  have h2 : (0 : ℝ) < (2 : ℝ) ^ (-M) := by positivity
  rw [hM, acc_eq, den_eq P σ ω hω, div_coe _ _ (by positivity)]
  congr 1
  field_simp

/-- The log denominator of one group, to the base two. -/
theorem lse_eq (P : ι → Prop) [DecidablePred P] (σ ω : ι → ℝ) (hω : ∀ k, P k → ω k = 1) (hP : ∃ k, P k) :
    Finset.univ.fold max ⊥ (score P σ)
      + Ideal.log (∑ k, Ideal.exp2 (score P σ k - Finset.univ.fold max ⊥ (score P σ)) * (ω k : EReal))
        * (((Real.log 2)⁻¹ : ℝ) : EReal)
      = ((lb (den P σ) : ℝ) : EReal) := by
  obtain ⟨M, hM⟩ := max_real P σ hP
  have hd := den_pos P σ hP
  have h2 : (0 : ℝ) < (2 : ℝ) ^ (-M) := by positivity
  have hl : Real.log 2 ≠ 0 := (Real.log_pos (by norm_num)).ne'
  rw [hM, den_eq P σ ω hω, Ideal.log_coe, if_neg (not_le.mpr (by positivity)), ← EReal.coe_mul, ← EReal.coe_add]
  congr 1
  rw [Real.log_mul hd.ne' h2.ne', Real.log_rpow (by norm_num), lb]
  field_simp
  ring

/-- Two to the power of a log denominator less a real. -/
theorem exp2_logb (d M : ℝ) (hd : 0 < d) :
    Ideal.exp2 (((lb d : ℝ) : EReal) - (M : EReal)) = ((d * (2 : ℝ) ^ (-M) : ℝ) : EReal) := by
  rw [← EReal.coe_sub, Ideal.exp2_coe]
  congr 1
  change (2 : ℝ) ^ (lb d - M) = _
  rw [sub_eq_add_neg, Real.rpow_add (by norm_num), two_rpow_lb d hd]

/-- The kernel's merge of three groups. -/
theorem merge_eq (n₀ n₁ n₂ d₀ d₁ d₂ : ℝ) (h₀ : 0 < d₀) (h₁ : 0 < d₁) (h₂ : 0 < d₂)
    (l₀ l₁ l₂ o₀ o₁ o₂ : EReal) (hl₀ : l₀ = ((lb d₀ : ℝ) : EReal)) (hl₁ : l₁ = ((lb d₁ : ℝ) : EReal))
    (hl₂ : l₂ = ((lb d₂ : ℝ) : EReal)) (ho₀ : o₀ = ((n₀ / d₀ : ℝ) : EReal)) (ho₁ : o₁ = ((n₁ / d₁ : ℝ) : EReal))
    (ho₂ : o₂ = ((n₂ / d₂ : ℝ) : EReal)) :
    Ideal.div (Ideal.exp2 (l₀ - max (max l₀ l₁) l₂) * o₀ + Ideal.exp2 (l₁ - max (max l₀ l₁) l₂) * o₁
        + Ideal.exp2 (l₂ - max (max l₀ l₁) l₂) * o₂)
      (Ideal.exp2 (l₀ - max (max l₀ l₁) l₂) + Ideal.exp2 (l₁ - max (max l₀ l₁) l₂) + Ideal.exp2 (l₂ - max (max l₀ l₁) l₂))
      = (((n₀ + n₁ + n₂) / (d₀ + d₁ + d₂) : ℝ) : EReal) := by
  obtain ⟨M, hM⟩ : ∃ M : ℝ, max (max l₀ l₁) l₂ = (M : EReal) := by
    subst hl₀ hl₁ hl₂
    exact ⟨max (max (lb d₀) (lb d₁)) (lb d₂), by
      simp only [EReal.coe_strictMono.monotone.map_max]⟩
  have h2 : (0 : ℝ) < (2 : ℝ) ^ (-M) := by positivity
  rw [hM, hl₀, hl₁, hl₂, ho₀, ho₁, ho₂, exp2_logb _ _ h₀, exp2_logb _ _ h₁, exp2_logb _ _ h₂]
  simp only [← EReal.coe_mul, ← EReal.coe_add]
  rw [div_coe _ _ (by positivity)]
  congr 1
  field_simp

/-- A sum over the columns of a tile is the sum over the keys, when the open columns and the open keys match. -/
theorem sum_reindex {κ : Type} [Fintype κ] (P : ι → Prop) [DecidablePred P] (Q : κ → Prop) [DecidablePred Q]
    (f : ι → ℝ) (g : κ → ℝ) (i : ∀ k, P k → κ) (hQ : ∀ k h, Q (i k h))
    (inj : ∀ k₁ h₁ k₂ h₂, i k₁ h₁ = i k₂ h₂ → k₁ = k₂) (surj : ∀ s, Q s → ∃ k h, i k h = s)
    (hfg : ∀ k h, f k = g (i k h)) :
    (∑ k, if P k then f k else 0) = ∑ s, if Q s then g s else 0 := by
  rw [← Finset.sum_filter, ← Finset.sum_filter]
  refine Finset.sum_bij (fun k hk => i k (Finset.mem_filter.1 hk).2) (fun k hk => ?_) (fun a ha b hb h => ?_)
    (fun s hs => ?_) (fun k hk => ?_)
  · exact Finset.mem_filter.2 ⟨Finset.mem_univ _, hQ _ _⟩
  · exact inj _ _ _ _ h
  · obtain ⟨k, h, e⟩ := surj s (Finset.mem_filter.1 hs).2
    exact ⟨k, Finset.mem_filter.2 ⟨Finset.mem_univ _, h⟩, e⟩
  · exact hfg _ _

/-! ### Positions and rows

The rows of a group of dilation `d` stand in residue order: `L = 2048 / d` positions of one residue after another. -/

/-- The row that holds position `t`. -/
def row (d L t : ℕ) : ℕ := t % d * L + t / d

/-- The position that row `r` holds. -/
def time (d L r : ℕ) : ℕ := r % L * d + r / L

/-- The key at position `s` is open to the query at position `t`: it lies `j * d` positions back, `j = 0 .. 128`. -/
def Open (d t s : ℕ) : Prop := s ≤ t ∧ t - s ≤ 128 * d ∧ (t - s) % d = 0

instance (d t s : ℕ) : Decidable (Open d t s) := inferInstanceAs (Decidable (_ ∧ _ ∧ _))

/-- The score of the key at position `s` for the query at position `t`. -/
def sig (d L : ℕ) (Q K : ℕ → Fin 128 → ℝ) (t : ℕ) (s : Fin 2048) : ℝ := ∑ e, Q (row d L t) e * K (row d L s) e

/-- The denominator of the query at position `t`. -/
def D (d L : ℕ) (Q K : ℕ → Fin 128 → ℝ) (t : ℕ) : ℝ := den (fun s : Fin 2048 => Open d t s) (sig d L Q K t)

/-- The numerator of the query at position `t`, in one column of the values. -/
def N (d L : ℕ) (Q K V : ℕ → Fin 128 → ℝ) (t : ℕ) (c : Fin 128) : ℝ :=
  num (fun s : Fin 2048 => Open d t s) (sig d L Q K t) (fun s => V (row d L s) c)

/-- A query always sees its own position. -/
theorem D_pos (d L : ℕ) (Q K : ℕ → Fin 128 → ℝ) (t : ℕ) (ht : t < 2048) : 0 < D d L Q K t :=
  den_pos _ _ ⟨⟨t, ht⟩, by simp [Open]⟩

/-- One query of one tile: scores `S` masked by `P`, the keys of the open columns at the rows `κ`, are what the query at
    position `t` sees; so the tile's weighted sums give that query's output and log denominator. -/
theorem batch {n : ℕ} (P : Fin n → Prop) [DecidablePred P] (d L t : ℕ) (Q K V : ℕ → Fin 128 → ℝ) (c : Fin 128)
    (κ : Fin n → ℕ) (S W1 W2 : Fin n → EReal) (kv : Fin n → Fin 128 → ℝ) (vv wv : Fin n → ℝ)
    (hS : ∀ k, S k = if P k then ∑ e, (Q (row d L t) e : EReal) * (kv k e : EReal) else ⊥)
    (hW1 : ∀ k, W1 k = (vv k : EReal)) (hW2 : ∀ k, W2 k = (wv k : EReal))
    (hkv : ∀ k, P k → kv k = K (κ k)) (hvv : ∀ k, P k → vv k = V (κ k) c) (hwv : ∀ k, P k → wv k = 1)
    (hκ : ∀ k, P k → time d L (κ k) < 2048 ∧ Open d t (time d L (κ k)) ∧ row d L (time d L (κ k)) = κ k)
    (inj : ∀ k₁ k₂, κ k₁ = κ k₂ → P k₁ → P k₂ → k₁ = k₂)
    (surj : ∀ s, s < 2048 → Open d t s → ∃ k, P k ∧ time d L (κ k) = s) (ht : t < 2048) :
    Ideal.div (∑ k, Ideal.exp2 (S k - Finset.univ.fold max ⊥ S) * W1 k) (∑ k, Ideal.exp2 (S k - Finset.univ.fold max ⊥ S) * W2 k)
        = ((N d L Q K V t c / D d L Q K t : ℝ) : EReal)
      ∧ Finset.univ.fold max ⊥ S + Ideal.log (∑ k, Ideal.exp2 (S k - Finset.univ.fold max ⊥ S) * W2 k)
          * (((Real.log 2)⁻¹ : ℝ) : EReal) = ((lb (D d L Q K t) : ℝ) : EReal) := by
  obtain ⟨k₀, hk₀, -⟩ := surj t ht (by simp [Open])
  have hSS : S = score P (fun k => ∑ e, Q (row d L t) e * kv k e) := funext fun k => by
    rw [hS k, score]
    split_ifs
    · simp only [← EReal.coe_mul, sum_coe]
    · rfl
  obtain rfl : W1 = fun k => (vv k : EReal) := funext hW1
  obtain rfl : W2 = fun k => (wv k : EReal) := funext hW2
  have hre : ∀ (f : Fin n → ℝ) (g : Fin 2048 → ℝ), (∀ k (h : P k), f k = g ⟨time d L (κ k), (hκ k h).1⟩) →
      (∑ k, if P k then f k else 0) = ∑ s : Fin 2048, if Open d t s then g s else 0 := fun f g hfg =>
    sum_reindex P (fun s : Fin 2048 => Open d t s) f g (fun k h => ⟨time d L (κ k), (hκ k h).1⟩) (fun k h => (hκ k h).2.1)
      (fun k₁ h₁ k₂ h₂ h => inj k₁ k₂ (by
        have h' : time d L (κ k₁) = time d L (κ k₂) := congrArg Fin.val h
        rw [← (hκ k₁ h₁).2.2, ← (hκ k₂ h₂).2.2, h']) h₁ h₂)
      (fun s hs => by
        obtain ⟨k, hk, e⟩ := surj s s.2 hs
        exact ⟨k, hk, Fin.ext e⟩) hfg
  have hσ : ∀ k (h : P k), (∑ e, Q (row d L t) e * kv k e) = sig d L Q K t ⟨time d L (κ k), (hκ k h).1⟩ := fun k h => by
    simp only [sig, hkv k h, (hκ k h).2.2]
  have hD : den P (fun k => ∑ e, Q (row d L t) e * kv k e) = D d L Q K t := by
    unfold D den
    exact hre _ (fun s => (2:ℝ) ^ sig d L Q K t s) fun k h => by
      show (2 : ℝ) ^ (∑ e, Q (row d L t) e * kv k e) = _
      rw [hσ k h]
  have hN : num P (fun k => ∑ e, Q (row d L t) e * kv k e) vv = N d L Q K V t c := by
    unfold N num
    exact hre _ (fun s => (2:ℝ) ^ sig d L Q K t s * V (row d L s) c) fun k h => by
      show (2 : ℝ) ^ (∑ e, Q (row d L t) e * kv k e) * vv k = _
      rw [hσ k h, hvv k h]
      simp only [(hκ k h).2.2]
  rw [hSS, out_eq P _ vv wv hwv ⟨k₀, hk₀⟩, lse_eq P _ wv hwv ⟨k₀, hk₀⟩, hD, hN]
  exact ⟨rfl, rfl⟩

end Cert.AttnMath

end
-- ==== Proof.AttnFinal.lean ====
/- The attention as a function of its whole inputs: the form in which the kernel and the reference meet. -/
module

public import proofs.«01_k».proof.Proof.AttnMath

@[expose] public section

noncomputable section

namespace Cert.AttnFinal

open Idealize.ShloMosaic
open AttnMath

/-- One head's 128 channels of a projected stream, from column `off` on, as reals by row and channel. -/
def chan {w : ℕ} (x : (⟨3, ![16, 2048, w]⟩ : Shape).Idx → EReal) (b : Fin 16) (off r : ℕ) (e : Fin 128) : ℝ :=
  if h : r < 2048 ∧ off + e < w then (x (ix3 b ⟨r, h.1⟩ ⟨off + e, h.2⟩)).toReal else 0

/-- Every entry is a real. -/
def Finite {s : Shape} (x : s.Idx → EReal) : Prop := ∀ y, x y = ((x y).toReal : EReal)

/-- The weighted values of one group: queries, keys and values lie 1024 columns apart. -/
def num {w : ℕ} (x : (⟨3, ![16, 2048, w]⟩ : Shape).Idx → EReal) (d L : ℕ) (b : Fin 16) (h t : ℕ) (c : Fin 128) : ℝ :=
  N d L (chan x b (128 * h)) (chan x b (1024 + 128 * h)) (chan x b (2048 + 128 * h)) t c

/-- The denominator of one group. -/
def den {w : ℕ} (x : (⟨3, ![16, 2048, w]⟩ : Shape).Idx → EReal) (d L : ℕ) (b : Fin 16) (h t : ℕ) : ℝ :=
  D d L (chan x b (128 * h)) (chan x b (1024 + 128 * h)) t

/-- The merged groups' output. -/
def merged (a0 : (⟨3, ![16, 2048, 4096]⟩ : Shape).Idx → EReal) (a1 a2 : (⟨3, ![16, 2048, 3072]⟩ : Shape).Idx → EReal)
    (b : Fin 16) (h t : ℕ) (c : Fin 128) : ℝ :=
  (num a0 1 2048 b h t c + num a1 4 512 b h t c + num a2 16 128 b h t c)
    / (den a0 1 2048 b h t + den a1 4 512 b h t + den a2 16 128 b h t)

/-- The attention's output: the three groups merged, times the gate. -/
def out (a0 : (⟨3, ![16, 2048, 4096]⟩ : Shape).Idx → EReal) (a1 a2 : (⟨3, ![16, 2048, 3072]⟩ : Shape).Idx → EReal)
    (b : Fin 16) (t : Fin 2048) (c : Fin 1024) : EReal :=
  ((merged a0 a1 a2 b (c / 128) t ⟨c % 128, Nat.mod_lt _ (by decide)⟩ : ℝ) : EReal) * a0 (ix3 b t ⟨3072 + c, by omega⟩)

end Cert.AttnFinal

end
-- ==== Proof.AttnPre.lean ====
/- What the precondition says: the arguments' entries are reals. -/
module

public import proofs.«01_k».proof.Pre_finite
public import proofs.«01_k».proof.Proof.AttnFinal
public import Idealize.ShloMosaic.Lib.ReduceAll

@[expose] public section

set_option maxRecDepth 16384

noncomputable section

namespace Cert.AttnPre

open Cert.Pre_finite Idealize.ShloMosaic

/-- The side conditions of the precondition's operations. -/
instance facts : Cert.Pre_finite.Facts where
  bitsLt_bf16_f32 := by decide
  bcast_S_S16x2048x4096 := by decide
  reducesTo_S16x2048x4096_S_d0_1_2 := by decide
  h_S_ := by decide
  bcast_S_S16x2048x3072 := by decide
  reducesTo_S16x2048x3072_S_d0_1_2 := by decide

/-- A scalar has one index. -/
instance scalar : Subsingleton S_.Idx := ⟨fun a b => funext fun i => i.elim0⟩

/-- The word of the bound is `+∞`. -/
theorem top_word : Ideal.ofBits FTy.f32 2139095040#32 = ⊤ := by simp [Ideal.ofBits, Ideal.ieee]

/-- An extended real whose absolute value is below `+∞` is a real. -/
theorem real_of_abs (x : EReal) (h : Ideal.cmp .olt (max x (-x)) ⊤ = 1#1) : x = ((x.toReal : ℝ) : EReal) := by
  have hlt : max x (-x) < ⊤ := by
    by_contra hc
    simp [Ideal.cmp, hc] at h
  refine (EReal.coe_toReal (fun ht => ?_) (fun hb => ?_)).symm
  · rw [ht] at hlt
    simp at hlt
  · rw [hb] at hlt
    simp at hlt

/-- All entries of an array pass the test when its conjunction does. -/
theorem finite_of_all {s : Shape} {axes : List (Fin s.rank)} (x : FVec Ideal s .bf16) (hb : S_.BroadcastsInDim s (![] : Fin 0 → Fin s.rank))
    (hr : s.ReducesTo axes S_) (hl : FTy.bits .bf16 < FTy.bits .f32) (hu : 0 < S_.numel) (j : S_.Idx)
    (h : Host.reduce IntOp.andi (cmpf .olt (Host.absf (extf (F := Ideal) .f32 x hl)) (broadcastInDim s ![] hb (constant (F := Ideal) S_ .f32 0x7F800000#32)))
      (constantI S_ 1 1#1) hr hu j = 1#1) : AttnFinal.Finite x := fun y => by
  have hy := Host.reduce_andi_all _ _ hr hu j h y
  refine real_of_abs (x y) ?_
  rw [← top_word]
  exact hy

/-- The precondition's test passes only on arrays of reals. -/
theorem finite (a0 : FVec Ideal S16x2048x4096 .bf16) (a1 a2 : FVec Ideal S16x2048x3072 .bf16)
    (h : Cert.Pre_finite.fn (F := Ideal) a0 a1 a2 = fun _ => 1#1) : AttnFinal.Finite a0 ∧ AttnFinal.Finite a1 ∧ AttnFinal.Finite a2 := by
  have h' := congrFun h ix0
  obtain ⟨h01, h2⟩ := IntOp.andi_eq_one.1 h'
  obtain ⟨h0, h1⟩ := IntOp.andi_eq_one.1 h01
  exact ⟨finite_of_all a0 _ _ _ _ _ h0, finite_of_all a1 _ _ _ _ _ h1, finite_of_all a2 _ _ _ _ _ h2⟩

end Cert.AttnPre

end
-- ==== Proof.AttnScore.lean ====
module

public import proofs.«01_k».proof.Proof.Gen.AttnKernelIdeal.Value
public import proofs.«01_k».proof.Proof.AttnMath
public import Idealize.ShloMosaic.Lib.Pipeline.ValueKit
public import Idealize.ShloMosaic.Lib.Pointwise

@[expose] public section

set_option maxRecDepth 16384

noncomputable section

/-! One tile of the attention kernel: what its masked scores, its weighted sums and its merge compute. -/

namespace Cert.AttnBatch
open Cert.AttnKernelIdeal Cert.AttnKernelIdeal.Gen Idealize.ShloMosaic Idealize.ShloMosaic.TcCoe Idealize.ShloMosaic.WordCmp

/-- The pattern of minus infinity denotes minus infinity. -/
theorem ofBits_bot : Ideal.ofBits .f32 4286578688#32 = ⊥ := by simp [Ideal.ofBits, Ideal.ieee]

/-- The windowed mask: column `n` is open to row `a` when `a ≤ n ≤ a + 128`. -/
theorem midMask (n a : ℕ) (hn : n < 256) (ha : a < 128) :
    IntOp.ori (IntOp.andi (IntOp.cmpi .slt (BitVec.ofNat 32 n) 128#32) (IntOp.cmpi .sge (BitVec.ofNat 32 n) (BitVec.ofNat 32 a)))
      (IntOp.andi (IntOp.cmpi .sge (BitVec.ofNat 32 n) 128#32)
        (IntOp.cmpi .sle (IntOp.subi (BitVec.ofNat 32 n) 128#32) (BitVec.ofNat 32 a)))
      = BitVec.ofBool (decide (a ≤ n ∧ n ≤ a + 128)) := by
  have hs : 128 ≤ n → IntOp.subi (BitVec.ofNat 32 n) 128#32 = BitVec.ofNat 32 (n - 128) := fun h => by
    apply BitVec.eq_of_toNat_eq
    simp only [IntOp.subi, BitVec.toNat_sub, BitVec.toNat_ofNat]
    omega
  rw [show (128#32) = BitVec.ofNat 32 128 from rfl] at hs ⊢
  by_cases h : 128 ≤ n
  · rw [hs h, cmpi_slt_ofNat (by omega) (by omega), cmpi_sge_ofNat (by omega) (by omega), cmpi_sge_ofNat (by omega) (by omega),
      cmpi_sle_ofNat (by omega) (by omega), andi_ofBool, andi_ofBool, ori_ofBool]
    congr 1
    rw [Bool.eq_iff_iff]
    simp
    omega
  · rw [cmpi_slt_ofNat (by omega) (by omega), cmpi_sge_ofNat (by omega) (by omega), cmpi_sge_ofNat (by omega) (by omega)]
    have hz : ∀ x : BitVec 1, IntOp.andi (BitVec.ofBool (decide (128 ≤ n))) x = BitVec.ofBool false := fun x => by
      simp [h, IntOp.andi]
    rw [hz, andi_ofBool, ori_ofBool]
    congr 1
    rw [Bool.eq_iff_iff]
    simp
    omega

/-- The scores of a tile whose keys start 128 rows before its queries. -/
theorem midScore (q kc kp : Vec Ideal S1x512x128 .bf16) (b : Fin 4) (a : Fin 128) (n : Fin 256) :
    k0_pay13 (F := Ideal) k0_pay5 q kc kp (ix3 b a n) = if a.val ≤ n.val ∧ n.val ≤ a.val + 128 then
      ∑ e : Fin 128, q (ix3 0 ⟨b * 128 + a, by omega⟩ e) *
        (if h : n.val < 128 then kp (ix3 0 ⟨b * 128 + n, by omega⟩ e) else kc (ix3 0 ⟨b * 128 + (n - 128), by omega⟩ e)) else ⊥ := by
  unfold_payloads
  pointwise
  rw [midMask _ _ n.2 a.2, ofBits_bot]
  by_cases h : a.val ≤ n.val ∧ n.val ≤ a.val + 128 <;> simp [h, Scalar.select]

/-- The scores of a tile whose first 128 keys are absent. -/
theorem firstScore (q k : Vec Ideal S1x512x128 .bf16) (b : Fin 4) (a : Fin 128) (n : Fin 256) :
    k0_pay10 (F := Ideal) q k (ix3 b a n) = if (a.val ≤ n.val ∧ n.val ≤ a.val + 128) ∧ (128 ≤ n.val ∨ 0 < b.val) then
      ∑ e : Fin 128, q (ix3 0 ⟨b * 128 + a, by omega⟩ e) *
        (if h : n.val < 128 then if h' : b.val < 1 then 0 else k (ix3 0 ⟨(b - 1) * 128 + n, by omega⟩ e)
          else k (ix3 0 ⟨b * 128 + (n - 128), by omega⟩ e)) else ⊥ := by
  unfold_payloads
  pointwise
  rw [midMask _ _ n.2 a.2, ofBits_bot, show (128#32) = BitVec.ofNat 32 128 from rfl, show (0#32) = BitVec.ofNat 32 0 from rfl,
    cmpi_sge_ofNat (by omega) (by omega), cmpi_sgt_ofNat (by omega) (by omega), ori_ofBool, andi_ofBool]
  by_cases h : (a.val ≤ n.val ∧ n.val ≤ a.val + 128) ∧ (128 ≤ n.val ∨ 0 < b.val)
  · rw [if_pos h]
    have : (decide (a.val ≤ n.val ∧ n.val ≤ a.val + 128) && (decide (128 ≤ n.val) || decide (0 < b.val))) = true := by
      simpa using h
    rw [this]
    simp [Scalar.select]
  · rw [if_neg h]
    have : (decide (a.val ≤ n.val ∧ n.val ≤ a.val + 128) && (decide (128 ≤ n.val) || decide (0 < b.val))) = false := by
      rw [Bool.eq_false_iff]
      intro h'
      exact h (by simpa using h')
    rw [this]
    simp [Scalar.select]

/-- The scores of a tile whose queries see the keys of their own block only. -/
theorem curScore (q k : Vec Ideal S1x512x128 .bf16) (b : Fin 4) (a : Fin 128) (n : Fin 128) :
    k0_pay59 (F := Ideal) k0_pay7 q k (ix3 b a n) = if n.val ≤ a.val then
      ∑ e : Fin 128, q (ix3 0 ⟨b * 128 + a, by omega⟩ e) * k (ix3 0 ⟨b * 128 + n, by omega⟩ e) else ⊥ := by
  unfold_payloads
  pointwise
  rw [cmpi_sle_ofNat (by omega) (by omega), ofBits_bot]
  by_cases h : n.val ≤ a.val <;> simp [h, Scalar.select]

end Cert.AttnBatch

end
-- ==== Proof.AttnBatch.lean ====
module

public import proofs.«01_k».proof.Proof.Gen.AttnKernelIdeal.Value
public import proofs.«01_k».proof.Proof.AttnMath
public import Idealize.ShloMosaic.Lib.Pipeline.ValueKit
public import Idealize.ShloMosaic.Lib.Pointwise

@[expose] public section

set_option maxRecDepth 16384

noncomputable section

/-! One tile of the attention kernel: what its masked scores, its weighted sums and its merge compute. -/

namespace Cert.AttnBatch
open Cert.AttnKernelIdeal Cert.AttnKernelIdeal.Gen Idealize.ShloMosaic Idealize.ShloMosaic.TcCoe Idealize.ShloMosaic.WordCmp

/-- The pattern of minus infinity denotes minus infinity. -/
theorem ofBits_bot' : Ideal.ofBits .f32 4286578688#32 = ⊥ := by simp [Ideal.ofBits, Ideal.ieee]

/-- The named constant is `1 / ln 2`. -/
theorem inv_log_2 : Named.named (F := Ideal) κ "inv_log_2" (φ := .f32) 1069066811#32 = (((Real.log 2)⁻¹ : ℝ) : EReal) :=
  IdealRules.named_const.ideal_named_scalar κ "inv_log_2" (φ := .f32) 1069066811#32 _ (by simp [κ])

/-- A weighted sum over 256 columns is the sum over its two halves. -/
theorem sum_halves (E : Fin 256 → EReal) (f g : Fin 128 → EReal) :
    ∑ x : Fin 128, E ⟨x, by omega⟩ * f x + ∑ x : Fin 128, E ⟨128 + x, by omega⟩ * g x
      = ∑ n : Fin 256, E n * (if h : n.val < 128 then f ⟨n, h⟩ else g ⟨n - 128, by omega⟩) := by
  refine Eq.trans ?_ (Fin.sum_univ_add (a := 128) (b := 128)
    (fun n : Fin (128 + 128) => E n * (if h : n.val < 128 then f ⟨n, h⟩ else g ⟨n - 128, by omega⟩))).symm
  refine congrArg₂ (· + ·) (Finset.sum_congr rfl fun x _ => ?_) (Finset.sum_congr rfl fun x _ => ?_)
  · rw [dif_pos (show ((Fin.castAdd 128 x : Fin (128 + 128)) : ℕ) < 128 from x.2)]
    rfl
  · rw [dif_neg (show ¬ ((Fin.natAdd 128 x : Fin (128 + 128)) : ℕ) < 128 by simp)]
    refine congrArg₂ (· * ·) rfl (congrArg g (Fin.ext ?_))
    simp

/-- A sum over 256 columns is the sum over its two halves, the second of them weighted by one. -/
theorem sum_halves_one (E : Fin 256 → EReal) (f : Fin 128 → EReal) :
    ∑ x : Fin 128, E ⟨x, by omega⟩ * f x + ∑ x : Fin 128, E ⟨128 + x, by omega⟩
      = ∑ n : Fin 256, E n * (if h : n.val < 128 then f ⟨n, h⟩ else 1) := by
  rw [← sum_halves E f (fun _ => 1)]
  simp only [mul_one]

/-- A sum over 256 columns is the sum over its two halves. -/
theorem sum_halves_plain (E : Fin 256 → EReal) :
    ∑ x : Fin 128, E ⟨x, by omega⟩ + ∑ x : Fin 128, E ⟨128 + x, by omega⟩ = ∑ n : Fin 256, E n * 1 := by
  have h := sum_halves_one E (fun _ => 1)
  simp only [mul_one, dite_eq_ite, ite_self] at h ⊢
  exact h

/-- The exponential to the base two at the ideal values. -/
theorem exp2_ideal (x : EReal) : FloatOps.exp2 (F := Ideal) (φ := .f32) x = Ideal.exp2 x := rfl

/-- The weights of a row of scores. -/
def wts {w : ℕ} (S : Fin w → EReal) (n : Fin w) : EReal := Ideal.exp2 (S n - Finset.univ.fold max ⊥ S)

/-- The output of a tile of 256 keys: the weighted sum of the values over the sum of the weights. -/
theorem outMid (s : FVec Ideal S4x128x256 .f32) (vc vp : Vec Ideal S1x512x128 .bf16) (i : Fin 512) (c : Fin 128) :
    k0_pay35 (F := Ideal) k0_pay8 s vc vp (ix3 0 i c) = Ideal.div
      (∑ n, wts (fun n => s (ix3 ⟨i / 128, by omega⟩ ⟨i % 128, by omega⟩ n)) n *
        (if h : n.val < 128 then vp (ix3 0 ⟨i / 128 * 128 + n, by omega⟩ c) else vc (ix3 0 ⟨i / 128 * 128 + (n - 128), by omega⟩ c)))
      (∑ n, wts (fun n => s (ix3 ⟨i / 128, by omega⟩ ⟨i % 128, by omega⟩ n)) n * 1) := by
  suffices h : ∀ R, R = _ → k0_pay35 (F := Ideal) k0_pay8 s vc vp (ix3 0 i c) = R from h _ rfl
  intro R hR
  unfold_payloads
  pointwise
  simp only [exp2_ideal]
  simp only [ofBits_bot']
  refine Eq.trans ?_ hR.symm
  exact congrArg₂ Ideal.div
    (sum_halves (wts fun n => s (ix3 ⟨i / 128, by omega⟩ ⟨i % 128, by omega⟩ n))
      (fun x => vp (ix3 0 ⟨i / 128 * 128 + x, by omega⟩ c)) (fun x => vc (ix3 0 ⟨i / 128 * 128 + x, by omega⟩ c)))
    (sum_halves_plain (wts fun n => s (ix3 ⟨i / 128, by omega⟩ ⟨i % 128, by omega⟩ n)))

/-- The log denominator of a tile of 256 keys, to the base two. -/
theorem lseMid (s : FVec Ideal S4x128x256 .f32) (vc vp : Vec Ideal S1x512x128 .bf16) (i : Fin 512) (c : Fin 128) :
    k0_pay36 (F := Ideal) k0_pay8 s vc vp (ix3 0 i c)
      = Finset.univ.fold max ⊥ (fun n => s (ix3 ⟨i / 128, by omega⟩ ⟨i % 128, by omega⟩ n)) +
      Ideal.log (∑ n, wts (fun n => s (ix3 ⟨i / 128, by omega⟩ ⟨i % 128, by omega⟩ n)) n * 1) * (((Real.log 2)⁻¹ : ℝ) : EReal) := by
  suffices h : ∀ R, R = _ → k0_pay36 (F := Ideal) k0_pay8 s vc vp (ix3 0 i c) = R from h _ rfl
  intro R hR
  unfold_payloads
  pointwise
  simp only [exp2_ideal]
  simp only [ofBits_bot', inv_log_2]
  refine Eq.trans ?_ hR.symm
  exact congrArg (fun z => _ + Ideal.log z * _) (sum_halves_plain (wts fun n => s (ix3 ⟨i / 128, by omega⟩ ⟨i % 128, by omega⟩ n)))

/-- The output of a tile whose first 128 keys are absent. -/
theorem outFirst (s : FVec Ideal S4x128x256 .f32) (v : Vec Ideal S1x512x128 .bf16) (i : Fin 512) (c : Fin 128) :
    k0_pay48 (F := Ideal) k0_pay8 s v (ix3 0 i c) = Ideal.div
      (∑ n, wts (fun n => s (ix3 ⟨i / 128, by omega⟩ ⟨i % 128, by omega⟩ n)) n *
        (if h : n.val < 128 then if h' : i.val / 128 < 1 then 0 else v (ix3 0 ⟨(i / 128 - 1) * 128 + n, by omega⟩ c)
          else v (ix3 0 ⟨i / 128 * 128 + (n - 128), by omega⟩ c)))
      (∑ n, wts (fun n => s (ix3 ⟨i / 128, by omega⟩ ⟨i % 128, by omega⟩ n)) n *
        (if h : n.val < 128 then if h' : i.val / 128 < 1 then 0 else 1 else 1)) := by
  suffices h : ∀ R, R = _ → k0_pay48 (F := Ideal) k0_pay8 s v (ix3 0 i c) = R from h _ rfl
  intro R hR
  unfold_payloads
  pointwise
  simp only [exp2_ideal]
  simp only [ofBits_bot']
  refine Eq.trans ?_ hR.symm
  exact congrArg₂ Ideal.div
    (sum_halves (wts fun n => s (ix3 ⟨i / 128, by omega⟩ ⟨i % 128, by omega⟩ n))
      (fun x => if h' : i.val / 128 < 1 then 0 else v (ix3 0 ⟨(i / 128 - 1) * 128 + x, by omega⟩ c))
      (fun x => v (ix3 0 ⟨i / 128 * 128 + x, by omega⟩ c)))
    (sum_halves_one (wts fun n => s (ix3 ⟨i / 128, by omega⟩ ⟨i % 128, by omega⟩ n)) (fun x => if h' : i.val / 128 < 1 then 0 else 1))

/-- The log denominator of a tile whose first 128 keys are absent. -/
theorem lseFirst (s : FVec Ideal S4x128x256 .f32) (v : Vec Ideal S1x512x128 .bf16) (i : Fin 512) (c : Fin 128) :
    k0_pay50 (k0_pay49 (F := Ideal) k0_pay8 s v) (ix3 0 i c)
      = Finset.univ.fold max ⊥ (fun n => s (ix3 ⟨i / 128, by omega⟩ ⟨i % 128, by omega⟩ n)) +
      Ideal.log (∑ n, wts (fun n => s (ix3 ⟨i / 128, by omega⟩ ⟨i % 128, by omega⟩ n)) n *
        (if h : n.val < 128 then if h' : i.val / 128 < 1 then 0 else 1 else 1)) * (((Real.log 2)⁻¹ : ℝ) : EReal) := by
  suffices h : ∀ R, R = _ → k0_pay50 (k0_pay49 (F := Ideal) k0_pay8 s v) (ix3 0 i c) = R from h _ rfl
  intro R hR
  unfold_payloads
  pointwise
  simp only [exp2_ideal]
  simp only [ofBits_bot', inv_log_2]
  refine Eq.trans ?_ hR.symm
  exact congrArg (fun z => _ + Ideal.log z * _)
    (sum_halves_one (wts fun n => s (ix3 ⟨i / 128, by omega⟩ ⟨i % 128, by omega⟩ n)) (fun x => if h' : i.val / 128 < 1 then 0 else 1))

/-- The output of a tile whose queries see their own block only. -/
theorem outCur (s : FVec Ideal S4x128x128 .f32) (v : Vec Ideal S1x512x128 .bf16) (b : Fin 4) (i c : Fin 128) :
    k0_pay80 (F := Ideal) k0_pay8 s v (ix3 b i c) = Ideal.div
      (∑ n, wts (fun n => s (ix3 b i n)) n * v (ix3 0 ⟨b * 128 + n, by omega⟩ c))
      (∑ n, wts (fun n => s (ix3 b i n)) n * 1) := by
  suffices h : ∀ R, R = _ → k0_pay80 (F := Ideal) k0_pay8 s v (ix3 b i c) = R from h _ rfl
  intro R hR
  unfold_payloads
  pointwise
  simp only [exp2_ideal]
  simp only [ofBits_bot']
  refine Eq.trans ?_ hR.symm
  simp only [mul_one]
  exact congrArg₂ Ideal.div rfl rfl

/-- The log denominator of a tile whose queries see their own block only. -/
theorem lseCur (s : FVec Ideal S4x128x128 .f32) (v : Vec Ideal S1x512x128 .bf16) (b : Fin 4) (i c : Fin 128) :
    k0_pay81 (F := Ideal) k0_pay8 s v (ix3 b i c) = Finset.univ.fold max ⊥ (fun n => s (ix3 b i n)) +
      Ideal.log (∑ n, wts (fun n => s (ix3 b i n)) n * 1) * (((Real.log 2)⁻¹ : ℝ) : EReal) := by
  suffices h : ∀ R, R = _ → k0_pay81 (F := Ideal) k0_pay8 s v (ix3 b i c) = R from h _ rfl
  intro R hR
  unfold_payloads
  pointwise
  simp only [exp2_ideal]
  simp only [ofBits_bot', inv_log_2]
  refine Eq.trans ?_ hR.symm
  simp only [mul_one]
  exact congrArg (fun z => _ + Ideal.log z * _) rfl

/-- The merge of three groups' outputs, weighted by their denominators, times the gate. -/
theorem merge (l0 l1 l2 o0 o1 o2 : Vec Ideal S1x512x128 .f32) (z : Vec Ideal S1x512x128 .bf16) (i : Fin 512) (c : Fin 128)
    (n0 n1 n2 d0 d1 d2 : ℝ) (h0 : 0 < d0) (h1 : 0 < d1) (h2 : 0 < d2)
    (hl0 : l0 (ix3 0 i c) = ((AttnMath.lb d0 : ℝ) : EReal)) (hl1 : l1 (ix3 0 i c) = ((AttnMath.lb d1 : ℝ) : EReal))
    (hl2 : l2 (ix3 0 i c) = ((AttnMath.lb d2 : ℝ) : EReal))
    (ho0 : o0 (ix3 0 i c) = ((n0 / d0 : ℝ) : EReal)) (ho1 : o1 (ix3 0 i c) = ((n1 / d1 : ℝ) : EReal))
    (ho2 : o2 (ix3 0 i c) = ((n2 / d2 : ℝ) : EReal)) :
    k0_pay3 (k0_pay4 (F := Ideal) l0 l1 l2 o0 o1 o2 z) (ix3 0 i c)
      = (((n0 + n1 + n2) / (d0 + d1 + d2) : ℝ) : EReal) * z (ix3 0 i c) := by
  unfold_payloads
  pointwise
  exact congrArg (· * z (ix3 0 i c)) (AttnMath.merge_eq n0 n1 n2 d0 d1 d2 h0 h1 h2 _ _ _ _ _ _ hl0 hl1 hl2 ho0 ho1 ho2)

end Cert.AttnBatch

end
-- ==== Proof.AttnTile.lean ====
module

public import proofs.«01_k».proof.Proof.AttnScore
public import proofs.«01_k».proof.Proof.AttnBatch

@[expose] public section

set_option maxRecDepth 16384

noncomputable section

/-! The three kinds of tile of the attention kernel, each shown to compute what its queries see. -/

namespace Cert.AttnTile
open Cert.AttnKernelIdeal Cert.AttnKernelIdeal.Gen Idealize.ShloMosaic Idealize.ShloMosaic.TcCoe
open AttnMath (N D lb time row Open)

/-- A load holds the rows of `Q` from `first` on. -/
def Holds (q : Vec Ideal S1x512x128 .bf16) (Q : ℕ → Fin 128 → ℝ) (first : ℕ) : Prop :=
  ∀ (i : Fin 512) (e : Fin 128), q (ix3 0 i e) = ((Q (first + i) e : ℝ) : EReal)

/-- Position and row of the group of dilation four. -/
theorem four (r y : ℕ) (hr : r < 4) (hy : y < 512) : time 4 512 (512 * r + y) = 4 * y + r ∧ row 4 512 (4 * y + r) = 512 * r + y := by
  simp only [time, row]
  constructor <;> omega

/-- Position and row of the group of dilation sixteen. -/
theorem sixteen (r y : ℕ) (hr : r < 16) (hy : y < 128) :
    time 16 128 (128 * r + y) = 16 * y + r ∧ row 16 128 (16 * y + r) = 128 * r + y := by
  simp only [time, row]
  constructor <;> omega

/-- The open keys of the group of dilation four. -/
theorem open_four (r i s : ℕ) (hr : r < 4) :
    Open 4 (4 * i + r) s ↔ ∃ y, s = 4 * y + r ∧ y ≤ i ∧ i ≤ y + 128 := by
  simp only [Open]
  constructor
  · rintro ⟨h₁, h₂, h₃⟩
    refine ⟨s / 4, ?_, ?_, ?_⟩
    · omega
    · omega
    · omega
  · rintro ⟨y, rfl, h₁, h₂⟩
    refine ⟨by omega, by omega, ?_⟩
    rw [show 4 * i + r - (4 * y + r) = 4 * (i - y) by omega]
    exact Nat.mul_mod_right 4 _

/-- The open keys of the group of dilation sixteen. -/
theorem open_sixteen (r i s : ℕ) (hr : r < 16) (hi : i < 128) :
    Open 16 (16 * i + r) s ↔ ∃ y, s = 16 * y + r ∧ y ≤ i := by
  simp only [Open]
  constructor
  · rintro ⟨h₁, h₂, h₃⟩
    refine ⟨s / 16, ?_, ?_⟩
    · omega
    · omega
  · rintro ⟨y, rfl, h₁⟩
    refine ⟨by omega, by omega, ?_⟩
    rw [show 16 * i + r - (16 * y + r) = 16 * (i - y) by omega]
    exact Nat.mul_mod_right 16 _

/-- A tile of the group of dilation one that starts after the first 512 positions. -/
theorem mid (first t : ℕ) (h₁ : 128 ≤ first) (h₂ : first + 512 ≤ 2048) (Q K V : ℕ → Fin 128 → ℝ)
    (q kc kp vc vp : Vec Ideal S1x512x128 .bf16) (hq : Holds q Q first) (hkc : Holds kc K first) (hkp : Holds kp K (first - 128))
    (hvc : Holds vc V first) (hvp : Holds vp V (first - 128)) (i : Fin 512) (c : Fin 128) (ht : t = first + i) :
    k0_pay35 (F := Ideal) k0_pay8 (k0_pay13 (F := Ideal) k0_pay5 q kc kp) vc vp (ix3 0 i c)
        = ((N 1 2048 Q K V t c / D 1 2048 Q K t : ℝ) : EReal)
      ∧ k0_pay36 (F := Ideal) k0_pay8 (k0_pay13 (F := Ideal) k0_pay5 q kc kp) vc vp (ix3 0 i c) = ((lb (D 1 2048 Q K t) : ℝ) : EReal) := by
  rw [AttnBatch.outMid, AttnBatch.lseMid]
  have hrow : row 1 2048 t = t := by simp only [row]; omega
  refine AttnMath.batch (fun n : Fin 256 => i.val % 128 ≤ n.val ∧ n.val ≤ i.val % 128 + 128) 1 2048 t Q K V c
    (fun n => first + i / 128 * 128 + n - 128) _ _ _
    (fun n e => if n.val < 128 then K (first - 128 + (i / 128 * 128 + n)) e else K (first + (i / 128 * 128 + (n - 128))) e)
    (fun n => if n.val < 128 then V (first - 128 + (i / 128 * 128 + n)) c else V (first + (i / 128 * 128 + (n - 128))) c)
    (fun _ => 1) ?_ ?_ (fun _ => rfl) ?_ ?_ (fun _ _ => rfl) ?_ ?_ ?_ (by omega)
  · intro n
    rw [AttnBatch.midScore]
    refine if_congr Iff.rfl (Finset.sum_congr rfl fun e _ => ?_) rfl
    rw [hq, hrow, show first + (⟨i / 128 * 128 + i % 128, by omega⟩ : Fin 512).val = t by simp only; omega]
    refine congrArg₂ (· * ·) rfl ?_
    split_ifs
    · exact hkp _ _
    · exact hkc _ _
  · intro n
    split_ifs
    · exact hvp _ _
    · exact hvc _ _
  · intro n h
    funext e
    split_ifs
    · exact congrArg (fun r => K r e) (by omega)
    · exact congrArg (fun r => K r e) (by omega)
  · intro n h
    split_ifs
    · exact congrArg (fun r => V r c) (by omega)
    · exact congrArg (fun r => V r c) (by omega)
  · intro n h
    simp only [time, row, Open]
    omega
  · intro n m h _ _
    apply Fin.ext
    omega
  · intro s hs ho
    simp only [time, Open] at ho ⊢
    refine ⟨⟨s + 128 - first - i / 128 * 128, by omega⟩, ?_, ?_⟩ <;> simp only <;> omega

/-- The first tile of the group of dilation one, or any tile of the group of dilation four: no key lies before its first row. -/
theorem first (d L first t : ℕ) (hd : (d = 1 ∧ L = 2048 ∧ first = 0) ∨ (d = 4 ∧ L = 512 ∧ first % 512 = 0 ∧ first < 2048))
    (Q K V : ℕ → Fin 128 → ℝ) (q k v : Vec Ideal S1x512x128 .bf16) (hq : Holds q Q first) (hk : Holds k K first)
    (hv : Holds v V first) (i : Fin 512) (c : Fin 128) (ht : t = time d L (first + i)) :
    k0_pay48 (F := Ideal) k0_pay8 (k0_pay10 (F := Ideal) q k) v (ix3 0 i c)
        = ((N d L Q K V t c / D d L Q K t : ℝ) : EReal)
      ∧ k0_pay50 (k0_pay49 (F := Ideal) k0_pay8 (k0_pay10 (F := Ideal) q k) v) (ix3 0 i c) = ((lb (D d L Q K t) : ℝ) : EReal) := by
  rw [AttnBatch.outFirst, AttnBatch.lseFirst]
  have hrow : row d L t = first + i := by
    rcases hd with ⟨rfl, rfl, rfl⟩ | ⟨rfl, rfl, _, _⟩ <;> simp only [row, time] at ht ⊢ <;> omega
  refine AttnMath.batch (fun n : Fin 256 => (i.val % 128 ≤ n.val ∧ n.val ≤ i.val % 128 + 128) ∧ (128 ≤ n.val ∨ 0 < i.val / 128))
    d L t Q K V c (fun n => first + i / 128 * 128 + n - 128) _ _ _
    (fun n e => if n.val < 128 then if i.val / 128 < 1 then 0 else K (first + ((i / 128 - 1) * 128 + n)) e
      else K (first + (i / 128 * 128 + (n - 128))) e)
    (fun n => if n.val < 128 then if i.val / 128 < 1 then 0 else V (first + ((i / 128 - 1) * 128 + n)) c
      else V (first + (i / 128 * 128 + (n - 128))) c)
    (fun n => if n.val < 128 then if i.val / 128 < 1 then 0 else 1 else 1) ?_ ?_ ?_ ?_ ?_ ?_ ?_ ?_ ?_ ?_
  · intro n
    rw [AttnBatch.firstScore]
    refine if_congr Iff.rfl (Finset.sum_congr rfl fun e _ => ?_) rfl
    rw [hq, hrow, show first + (⟨i / 128 * 128 + i % 128, by omega⟩ : Fin 512).val = first + i by simp only; omega]
    refine congrArg₂ (· * ·) rfl ?_
    split_ifs
    · rfl
    · exact hk _ _
    · exact hk _ _
  · intro n
    split_ifs
    · rfl
    · exact hv _ _
    · exact hv _ _
  · intro n
    split_ifs <;> rfl
  · intro n h
    funext e
    split_ifs
    · omega
    · exact congrArg (fun r => K r e) (by omega)
    · exact congrArg (fun r => K r e) (by omega)
  · intro n h
    split_ifs
    · omega
    · exact congrArg (fun r => V r c) (by omega)
    · exact congrArg (fun r => V r c) (by omega)
  · intro n h
    split_ifs
    · omega
    · rfl
    · rfl
  · intro n h
    rcases hd with ⟨rfl, rfl, rfl⟩ | ⟨rfl, rfl, h₃, h₄⟩
    · simp only [row, time, Open] at ht ⊢
      omega
    · obtain ⟨r, rfl⟩ : ∃ r, first = 512 * r := ⟨first / 512, by omega⟩
      obtain ⟨y, hy⟩ : ∃ y, i.val / 128 * 128 + n.val = y + 128 := ⟨i / 128 * 128 + n - 128, by omega⟩
      have e : 512 * r + i.val / 128 * 128 + n.val - 128 = 512 * r + y := by omega
      simp only [e]
      rw [(four r i (by omega) i.2).1] at ht
      rw [(four r y (by omega) (by omega)).1, ht, (four r y (by omega) (by omega)).2, open_four r i _ (by omega)]
      exact ⟨by omega, ⟨y, rfl, by omega, by omega⟩, rfl⟩
  · intro n m h hn hm
    apply Fin.ext
    omega
  · intro s hs ho
    rcases hd with ⟨rfl, rfl, rfl⟩ | ⟨rfl, rfl, h₃, h₄⟩
    · simp only [time, Open] at ho ht ⊢
      refine ⟨⟨s + 128 - i / 128 * 128, by omega⟩, ?_, ?_⟩ <;> simp only <;> omega
    · obtain ⟨r, rfl⟩ : ∃ r, first = 512 * r := ⟨first / 512, by omega⟩
      rw [(four r i (by omega) i.2).1] at ht
      rw [ht, open_four r i _ (by omega)] at ho
      obtain ⟨y, rfl, h₁, h₂⟩ := ho
      refine ⟨⟨y + 128 - i / 128 * 128, by omega⟩, by simp only; omega, ?_⟩
      simp only
      rw [show 512 * r + i / 128 * 128 + (y + 128 - i / 128 * 128) - 128 = 512 * r + y by omega, (four r y (by omega) (by omega)).1]
  · rcases hd with ⟨rfl, rfl, rfl⟩ | ⟨rfl, rfl, _, _⟩ <;> simp only [time] at ht <;> omega

/-- A tile of the group of dilation sixteen: 128 positions of one residue see each other. -/
theorem cur (first t : ℕ) (h₁ : first % 512 = 0) (h₂ : first < 2048) (Q K V : ℕ → Fin 128 → ℝ)
    (q k v : Vec Ideal S1x512x128 .bf16) (hq : Holds q Q first) (hk : Holds k K first) (hv : Holds v V first)
    (b : Fin 4) (i c : Fin 128) (ht : t = first / 128 + b + 16 * i) :
    k0_pay80 (F := Ideal) k0_pay8 (k0_pay59 (F := Ideal) k0_pay7 q k) v (ix3 b i c)
        = ((N 16 128 Q K V t c / D 16 128 Q K t : ℝ) : EReal)
      ∧ k0_pay81 (F := Ideal) k0_pay8 (k0_pay59 (F := Ideal) k0_pay7 q k) v (ix3 b i c) = ((lb (D 16 128 Q K t) : ℝ) : EReal) := by
  rw [AttnBatch.outCur, AttnBatch.lseCur]
  obtain ⟨r, hr⟩ : ∃ r, first = 512 * r := ⟨first / 512, by omega⟩
  have ht' : t = 16 * i + (4 * r + b) := by omega
  have hc : ∀ y, first + (b * 128 + y) = 128 * (4 * r + b) + y := fun y => by omega
  have hrow : row 16 128 t = first + (b * 128 + i) := by rw [ht', hc, (sixteen _ _ (by omega) i.2).2]
  refine AttnMath.batch (fun n : Fin 128 => n.val ≤ i.val) 16 128 t Q K V c (fun n => first + (b * 128 + n)) _ _ _
    (fun n e => K (first + (b * 128 + n)) e) (fun n => V (first + (b * 128 + n)) c) (fun _ => 1)
    ?_ ?_ (fun _ => rfl) (fun _ _ => rfl) (fun _ _ => rfl) (fun _ _ => rfl) ?_ ?_ ?_ (by omega)
  · intro n
    rw [AttnBatch.curScore]
    refine if_congr Iff.rfl (Finset.sum_congr rfl fun e _ => ?_) rfl
    rw [hq, hk, hrow]
  · intro n
    exact hv _ _
  · intro n h
    rw [hc, (sixteen _ _ (by omega) n.2).1, (sixteen _ _ (by omega) n.2).2, ht', open_sixteen _ _ _ (by omega) i.2]
    exact ⟨by omega, ⟨n, rfl, h⟩, rfl⟩
  · intro n m h _ _
    apply Fin.ext
    omega
  · intro s hs ho
    rw [ht', open_sixteen _ _ _ (by omega) i.2] at ho
    obtain ⟨y, rfl, h⟩ := ho
    exact ⟨⟨y, by omega⟩, h, by rw [hc, (sixteen _ _ (by omega) (by omega)).1]⟩

end Cert.AttnTile

end
-- ==== Proof.AttnScratch.lean ====
module

public import proofs.«01_k».proof.Proof.AttnTile

@[expose] public section

set_option maxRecDepth 16384

noncomputable section

/-! What the kernel's two scratch buffers hold when its loop starts: every group's outputs and log denominators, by position. -/

namespace Cert.AttnScratch
open Cert.AttnKernelIdeal Cert.AttnKernelIdeal.Gen Idealize.ShloMosaic Idealize.ShloMosaic.TcCoe
open AttnMath (N D lb time row Open)
open AttnTile (Holds)

/-- A block of an input array, as the kernel reads it. -/
abbrev Inp := Memref sig Kind.tc Space.vmem S1x2048x128 EltTy.bf16

/-- The rows of an input block, as reals. -/
def rows (x : Vec Ideal S1x2048x128 .bf16) (r : ℕ) (e : Fin 128) : ℝ := if h : r < 2048 then (x (ix3 0 ⟨r, h⟩ e)).toReal else 0

/-- Every entry of a block is a real. -/
def AllReal (x : Vec Ideal S1x2048x128 .bf16) : Prop := ∀ y, x y = ((EReal.toReal (x y) : ℝ) : EReal)

/-- 512 rows of an input block, loaded. -/
abbrev ldx (a : Inp) (h : a.IsWhole) (x : Vec Ideal S1x2048x128 .bf16) (first : ℕ)
    (inb : ∀ k : Fin S1x2048x128.rank, (![0, first, 0] : Fin 3 → ℕ) k + S1x512x128.size k ≤ S1x2048x128.size k) : Vec Ideal S1x512x128 .bf16 :=
  View.readAt (Elt Ideal) a.view (Rect.unit (s := S1x2048x128) ![0, first, 0] S1x512x128.size inb).toLoadRect (h.unread x)

/-- A load of 512 rows holds those rows. -/
theorem holds_ldx (a : Inp) (h : a.IsWhole) (x : Vec Ideal S1x2048x128 .bf16) (hx : AllReal x) (first : ℕ)
    (inb : ∀ k : Fin S1x2048x128.rank, (![0, first, 0] : Fin 3 → ℕ) k + S1x512x128.size k ≤ S1x2048x128.size k) :
    Holds (ldx a h x first inb) (rows x) first := by
  intro i e
  have hb : first + 512 ≤ 2048 := inb 1
  unfold ldx
  rw [View.readAt_eq_ld, h.read_unread]
  rw [View.ld_unit_apply_of x _ _ inb (ix3 0 i e) (ix3 0 ⟨first + i, by omega⟩ e)
    (by intro k; fin_cases k <;> simp [ix3])]
  unfold rows
  rw [dif_pos (by omega), hx]
  rfl

/-- A function of group, position and column, as the contents of a scratch buffer. -/
def G (Γ : ℕ → ℕ → Fin 128 → EReal) (y : S3x2048x128.Idx) : EReal := Γ (y 0) (y 1) (y 2)

/-- Every group's outputs, by position. -/
def Γo (x0 x1 x2 x3 x4 x5 x6 x7 x8 : Vec Ideal S1x2048x128 .bf16) (g t : ℕ) (c : Fin 128) : EReal :=
  if g = 0 then ((N 1 2048 (rows x0) (rows x1) (rows x2) t c / D 1 2048 (rows x0) (rows x1) t : ℝ) : EReal)
  else if g = 1 then ((N 4 512 (rows x3) (rows x4) (rows x5) t c / D 4 512 (rows x3) (rows x4) t : ℝ) : EReal)
  else ((N 16 128 (rows x6) (rows x7) (rows x8) t c / D 16 128 (rows x6) (rows x7) t : ℝ) : EReal)

/-- Every group's log denominators, by position. -/
def Γl (x0 x1 x3 x4 x6 x7 : Vec Ideal S1x2048x128 .bf16) (g t : ℕ) (_ : Fin 128) : EReal :=
  if g = 0 then ((lb (D 1 2048 (rows x0) (rows x1) t) : ℝ) : EReal)
  else if g = 1 then ((lb (D 4 512 (rows x3) (rows x4) t) : ℝ) : EReal)
  else ((lb (D 16 128 (rows x6) (rows x7) t) : ℝ) : EReal)

/-- A store at a stride is a block of the contents, when its rows are. -/
theorem piece (Γ : ℕ → ℕ → Fin 128 → EReal) (g o s : ℕ) (r : Rect S3x2048x128) (h0 : r.size 0 = 1) (g0 : r.off 0 = g) (g1 : r.off 1 = o)
    (g2 : r.off 2 = 0) (s1 : r.stride 1 = s) (s2 : r.stride 2 = 1) (w : r.shape.Idx → EReal)
    (hw : ∀ (x : r.shape.Idx) (c : Fin 128), c.val = (x 2).val → w x = Γ g (o + s * (x 1)) c) : ∀ x, w x = G Γ (r.emb x) := by
  intro x
  have e0 : ((r.emb x 0 : Fin _) : ℕ) = g := by
    have : ((x 0 : Fin _) : ℕ) < 1 := lt_of_lt_of_eq (x 0).2 h0
    rw [Rect.emb_apply, g0, show ((x 0 : Fin _) : ℕ) = 0 by omega, Nat.mul_zero, Nat.add_zero]
  have e1 : ((r.emb x 1 : Fin _) : ℕ) = o + s * (x 1) := by rw [Rect.emb_apply, g1, s1]
  have e2 : ((r.emb x 2 : Fin 128) : ℕ) = (x 2) := by rw [Rect.emb_apply, g2, s2, Nat.zero_add, Nat.one_mul]
  rw [hw x (r.emb x 2) e2]
  unfold G
  rw [e0, e1]

/-- An index of a block of 512 rows, by its row and column. -/
theorem eta512 (x : S1x512x128.Idx) (c : Fin 128) (h : c.val = (x 2).val) : x = ix3 0 (x 1) c := by
  funext k
  fin_cases k
  · exact Subsingleton.elim (α := Fin 1) _ _
  · rfl
  · exact Fin.ext h.symm

/-- An index of a block of 128 rows, by its row and column. -/
theorem eta128 (x : S1x128x128.Idx) (c : Fin 128) (h : c.val = (x 2).val) : x = ix3 0 (x 1) c := by
  funext k
  fin_cases k
  · exact Subsingleton.elim (α := Fin 1) _ _
  · rfl
  · exact Fin.ext h.symm

section

variable {x0 x1 x2 x3 x4 x5 x6 x7 x8 : Vec Ideal S1x2048x128 .bf16}
variable (h0 : AllReal x0) (h1 : AllReal x1) (h2 : AllReal x2) (h3 : AllReal x3) (h4 : AllReal x4) (h5 : AllReal x5) (h6 : AllReal x6) (h7 : AllReal x7) (h8 : AllReal x8)
variable (a b v : Inp) (ha : a.IsWhole) (hb : b.IsWhole) (hv : v.IsWhole)

include h0 h1 h2 in
/-- A later tile of the group of dilation one. -/
theorem mid0 (first prev : ℕ) (hp : prev = first - 128) (hf : 128 ≤ first) (inb inb' inb'') :
    (∀ x, k0_pay35 (F := Ideal) k0_pay8 (k0_pay13 (F := Ideal) k0_pay5 (ldx a ha x0 first inb) (ldx b hb x1 first inb) (ldx b hb x1 prev inb'))
        (ldx v hv x2 first inb) (ldx v hv x2 prev inb') x
      = G (Γo x0 x1 x2 x3 x4 x5 x6 x7 x8) ((Rect.unit (s := S3x2048x128) ![0, first, 0] S1x512x128.size inb'').emb x))
    ∧ (∀ x, k0_pay36 (F := Ideal) k0_pay8 (k0_pay13 (F := Ideal) k0_pay5 (ldx a ha x0 first inb) (ldx b hb x1 first inb) (ldx b hb x1 prev inb'))
        (ldx v hv x2 first inb) (ldx v hv x2 prev inb') x
      = G (Γl x0 x1 x3 x4 x6 x7) ((Rect.unit (s := S3x2048x128) ![0, first, 0] S1x512x128.size inb'').emb x)) := by
  have hb2 : first + 512 ≤ 2048 := inb 1
  subst hp
  have key := fun (i : Fin 512) (c : Fin 128) => AttnTile.mid first (first + 1 * i) hf hb2 (rows x0) (rows x1) (rows x2) _ _ _ _ _
    (holds_ldx a ha x0 h0 first inb) (holds_ldx b hb x1 h1 first inb) (holds_ldx b hb x1 h1 (first - 128) inb')
    (holds_ldx v hv x2 h2 first inb) (holds_ldx v hv x2 h2 (first - 128) inb') i c (by omega)
  constructor
  · refine piece _ 0 first 1 (Rect.unit (s := S3x2048x128) ![0, first, 0] S1x512x128.size inb'') rfl rfl rfl rfl rfl rfl _ fun x c hc => ?_
    rw [eta512 x c hc]
    exact (key (x 1) c).1
  · refine piece _ 0 first 1 (Rect.unit (s := S3x2048x128) ![0, first, 0] S1x512x128.size inb'') rfl rfl rfl rfl rfl rfl _ fun x c hc => ?_
    rw [eta512 x c hc]
    exact (key (x 1) c).2

include h0 h1 h2 in
/-- The first tile of the group of dilation one. -/
theorem first0 (inb inb'') :
    (∀ x, k0_pay48 (F := Ideal) k0_pay8 (k0_pay10 (F := Ideal) (ldx a ha x0 0 inb) (ldx b hb x1 0 inb)) (ldx v hv x2 0 inb) x
      = G (Γo x0 x1 x2 x3 x4 x5 x6 x7 x8) ((Rect.unit (s := S3x2048x128) ![0, 0, 0] S1x512x128.size inb'').emb x))
    ∧ (∀ x, k0_pay50 (k0_pay49 (F := Ideal) k0_pay8 (k0_pay10 (F := Ideal) (ldx a ha x0 0 inb) (ldx b hb x1 0 inb)) (ldx v hv x2 0 inb)) x
      = G (Γl x0 x1 x3 x4 x6 x7) ((Rect.unit (s := S3x2048x128) ![0, 0, 0] S1x512x128.size inb'').emb x)) := by
  have key := fun (i : Fin 512) (c : Fin 128) => AttnTile.first 1 2048 0 (0 + 1 * i) (Or.inl ⟨rfl, rfl, rfl⟩) (rows x0) (rows x1) (rows x2) _ _ _
    (holds_ldx a ha x0 h0 0 inb) (holds_ldx b hb x1 h1 0 inb) (holds_ldx v hv x2 h2 0 inb) i c (by simp only [time]; omega)
  constructor
  · refine piece _ 0 0 1 (Rect.unit (s := S3x2048x128) ![0, 0, 0] S1x512x128.size inb'') rfl rfl rfl rfl rfl rfl _ fun x c hc => ?_
    rw [eta512 x c hc]
    exact (key (x 1) c).1
  · refine piece _ 0 0 1 (Rect.unit (s := S3x2048x128) ![0, 0, 0] S1x512x128.size inb'') rfl rfl rfl rfl rfl rfl _ fun x c hc => ?_
    rw [eta512 x c hc]
    exact (key (x 1) c).2

include h3 h4 h5 in
/-- A tile of the group of dilation four, stored at every fourth position. -/
theorem first1 (first r : ℕ) (hr : first = 512 * r) (inb) (inb'' pos) :
    (∀ x, k0_pay48 (F := Ideal) k0_pay8 (k0_pay10 (F := Ideal) (ldx a ha x3 first inb) (ldx b hb x4 first inb)) (ldx v hv x5 first inb) x
      = G (Γo x0 x1 x2 x3 x4 x5 x6 x7 x8)
        (({ off := ![1, r, 0], size := S1x512x128.size, stride := ![1, 4, 1], inb := inb'', stride_pos := pos } : Rect S3x2048x128).emb x))
    ∧ (∀ x, k0_pay50 (k0_pay49 (F := Ideal) k0_pay8 (k0_pay10 (F := Ideal) (ldx a ha x3 first inb) (ldx b hb x4 first inb)) (ldx v hv x5 first inb)) x
      = G (Γl x0 x1 x3 x4 x6 x7)
        (({ off := ![1, r, 0], size := S1x512x128.size, stride := ![1, 4, 1], inb := inb'', stride_pos := pos } : Rect S3x2048x128).emb x)) := by
  have hb2 : first + 512 ≤ 2048 := inb 1
  have key := fun (i : Fin 512) (c : Fin 128) => AttnTile.first 4 512 first (r + 4 * i) (Or.inr ⟨rfl, rfl, by omega, by omega⟩)
    (rows x3) (rows x4) (rows x5) _ _ _
    (holds_ldx a ha x3 h3 first inb) (holds_ldx b hb x4 h4 first inb) (holds_ldx v hv x5 h5 first inb) i c
    (by rw [hr, (AttnTile.four r i (by omega) i.2).1, Nat.add_comm])
  constructor
  · refine piece _ 1 r 4 ({ off := ![1, r, 0], size := S1x512x128.size, stride := ![1, 4, 1], inb := inb'', stride_pos := pos } : Rect S3x2048x128)
      rfl rfl rfl rfl rfl rfl _ fun x c hc => ?_
    rw [eta512 x c hc]
    exact (key (x 1) c).1
  · refine piece _ 1 r 4 ({ off := ![1, r, 0], size := S1x512x128.size, stride := ![1, 4, 1], inb := inb'', stride_pos := pos } : Rect S3x2048x128)
      rfl rfl rfl rfl rfl rfl _ fun x c hc => ?_
    rw [eta512 x c hc]
    exact (key (x 1) c).2

/-- One of the four blocks of a tile of the group of dilation sixteen. -/
def slab (j : Fin 4) (X : FVec Ideal S4x128x128 .f32) : FVec Ideal S1x128x128 .f32 :=
  (![k0_pay84, k0_pay86, k0_pay88, k0_pay91] : Fin 4 → FVec Ideal S4x128x128 .f32 → FVec Ideal S1x128x128 .f32) j X

/-- A block's entries are the tile's. -/
theorem slab_apply (j : Fin 4) (X : FVec Ideal S4x128x128 .f32) (i c : Fin 128) : slab j X (ix3 0 i c) = X (ix3 j i c) := by
  fin_cases j
  · show k0_pay84 X (ix3 0 i c) = _
    unfold_payloads
    pointwise
  · show k0_pay86 X (ix3 0 i c) = _
    unfold_payloads
    pointwise
  · show k0_pay88 X (ix3 0 i c) = _
    unfold_payloads
    pointwise
  · show k0_pay91 X (ix3 0 i c) = _
    unfold_payloads
    pointwise

include h6 h7 h8 in
/-- A block of the group of dilation sixteen, stored at every sixteenth position. -/
theorem cur2 (first r : ℕ) (j : Fin 4) (hf : first % 512 = 0) (hr : r = first / 128 + j) (inb) (inb'' pos) :
    (∀ x, slab j (k0_pay80 (F := Ideal) k0_pay8 (k0_pay59 (F := Ideal) k0_pay7 (ldx a ha x6 first inb) (ldx b hb x7 first inb)) (ldx v hv x8 first inb)) x
      = G (Γo x0 x1 x2 x3 x4 x5 x6 x7 x8)
        (({ off := ![2, r, 0], size := S1x128x128.size, stride := ![1, 16, 1], inb := inb'', stride_pos := pos } : Rect S3x2048x128).emb x))
    ∧ (∀ x, slab j (k0_pay81 (F := Ideal) k0_pay8 (k0_pay59 (F := Ideal) k0_pay7 (ldx a ha x6 first inb) (ldx b hb x7 first inb)) (ldx v hv x8 first inb)) x
      = G (Γl x0 x1 x3 x4 x6 x7)
        (({ off := ![2, r, 0], size := S1x128x128.size, stride := ![1, 16, 1], inb := inb'', stride_pos := pos } : Rect S3x2048x128).emb x)) := by
  have hb2 : first + 512 ≤ 2048 := inb 1
  have key := fun (i c : Fin 128) => AttnTile.cur first (r + 16 * i) hf (by omega) (rows x6) (rows x7) (rows x8) _ _ _
    (holds_ldx a ha x6 h6 first inb) (holds_ldx b hb x7 h7 first inb) (holds_ldx v hv x8 h8 first inb) j i c (by omega)
  constructor
  · refine piece _ 2 r 16 ({ off := ![2, r, 0], size := S1x128x128.size, stride := ![1, 16, 1], inb := inb'', stride_pos := pos } : Rect S3x2048x128)
      rfl rfl rfl rfl rfl rfl _ fun x c hc => ?_
    rw [eta128 x c hc]
    exact (slab_apply j _ (x 1) c).trans (key (x 1) c).1
  · refine piece _ 2 r 16 ({ off := ![2, r, 0], size := S1x128x128.size, stride := ![1, 16, 1], inb := inb'', stride_pos := pos } : Rect S3x2048x128)
      rfl rfl rfl rfl rfl rfl _ fun x c hc => ?_
    rw [eta128 x c hc]
    exact (slab_apply j _ (x 1) c).trans (key (x 1) c).2

end

end Cert.AttnScratch

end
-- ==== Proof.AttnContents.lean ====
module

public import proofs.«01_k».proof.Proof.AttnScratch
public import Idealize.ShloMosaic.Lib.Pipeline.ReadBack

@[expose] public section

set_option maxRecDepth 65536

noncomputable section

/-! The stores that fill the two scratch buffers, one by one. -/

namespace Cert.AttnScratch
open Cert.AttnKernelIdeal Cert.AttnKernelIdeal.Gen Idealize.ShloMosaic Idealize.ShloMosaic.TcCoe

/-- The last tile of the group of dilation four keeps its log denominator in two parts; joined, they are the other tiles'. -/
theorem lse_parts (s : FVec Ideal S4x128x256 .f32) (v : Vec Ideal S1x512x128 .bf16) :
    k0_pay75 (F := Ideal) (k0_pay72 (F := Ideal) k0_pay8 s v) (k0_pay73 s) = k0_pay50 (k0_pay49 (F := Ideal) k0_pay8 s v) := rfl

variable {x0 x1 x2 x3 x4 x5 x6 x7 x8 : Vec Ideal S1x2048x128 .bf16}
variable (h0 : AllReal x0) (h1 : AllReal x1) (h2 : AllReal x2) (h3 : AllReal x3) (h4 : AllReal x4) (h5 : AllReal x5)
  (h6 : AllReal x6) (h7 : AllReal x7) (h8 : AllReal x8)
variable (c : Dev nD) (arg2 : Inp) (harg2 : arg2.IsWhole) (arg3 : Inp) (harg3 : arg3.IsWhole) (arg4 : Inp) (harg4 : arg4.IsWhole)
  (arg5 : Inp) (harg5 : arg5.IsWhole) (arg6 : Inp) (harg6 : arg6.IsWhole) (arg7 : Inp) (harg7 : arg7.IsWhole)
  (arg8 : Inp) (harg8 : arg8.IsWhole) (arg9 : Inp) (harg9 : arg9.IsWhole) (arg10 : Inp) (harg10 : arg10.IsWhole)

include h0 h1 h2 h3 h4 h5 h6 h7 h8

/-- Every store into the buffer of outputs is a block of the groups' outputs. -/
theorem pieces_o : View.PiecesOf (G (Γo x0 x1 x2 x3 x4 x5 x6 x7 x8))
    (kernelRun0_A.sl.HS0_24 (F := Ideal) c arg2 harg2 arg3 harg3 arg4 harg4 arg5 harg5 arg6 harg6 arg7 harg7 arg8 harg8 arg9 harg9
      arg10 harg10 x0 x1 x2 x3 x4 x5 x6 x7 x8) := by
  unfold kernelRun0_A.sl.HS0_24 kernelRun0_A.sl.HS0_5
  refine ⟨?_, ?_, ?_, ?_, ?_, ?_, ?_, ?_, ?_, ?_, ?_, ?_, ?_, ?_, ?_, ?_, ?_, ?_, ?_, ?_, ?_, ?_, ?_, ?_, trivial⟩
  · exact (cur2 (x0 := x0) (x1 := x1) (x2 := x2) (x3 := x3) (x4 := x4) (x5 := x5) h6 h7 h8 arg8 arg9 arg10 harg8 harg9 harg10 1536 15 3 rfl rfl _ _ _).1
  · exact (cur2 (x0 := x0) (x1 := x1) (x2 := x2) (x3 := x3) (x4 := x4) (x5 := x5) h6 h7 h8 arg8 arg9 arg10 harg8 harg9 harg10 1536 14 2 rfl rfl _ _ _).1
  · exact (cur2 (x0 := x0) (x1 := x1) (x2 := x2) (x3 := x3) (x4 := x4) (x5 := x5) h6 h7 h8 arg8 arg9 arg10 harg8 harg9 harg10 1536 13 1 rfl rfl _ _ _).1
  · exact (cur2 (x0 := x0) (x1 := x1) (x2 := x2) (x3 := x3) (x4 := x4) (x5 := x5) h6 h7 h8 arg8 arg9 arg10 harg8 harg9 harg10 1536 12 0 rfl rfl _ _ _).1
  · exact (cur2 (x0 := x0) (x1 := x1) (x2 := x2) (x3 := x3) (x4 := x4) (x5 := x5) h6 h7 h8 arg8 arg9 arg10 harg8 harg9 harg10 1024 11 3 rfl rfl _ _ _).1
  · exact (cur2 (x0 := x0) (x1 := x1) (x2 := x2) (x3 := x3) (x4 := x4) (x5 := x5) h6 h7 h8 arg8 arg9 arg10 harg8 harg9 harg10 1024 10 2 rfl rfl _ _ _).1
  · exact (cur2 (x0 := x0) (x1 := x1) (x2 := x2) (x3 := x3) (x4 := x4) (x5 := x5) h6 h7 h8 arg8 arg9 arg10 harg8 harg9 harg10 1024 9 1 rfl rfl _ _ _).1
  · exact (cur2 (x0 := x0) (x1 := x1) (x2 := x2) (x3 := x3) (x4 := x4) (x5 := x5) h6 h7 h8 arg8 arg9 arg10 harg8 harg9 harg10 1024 8 0 rfl rfl _ _ _).1
  · exact (cur2 (x0 := x0) (x1 := x1) (x2 := x2) (x3 := x3) (x4 := x4) (x5 := x5) h6 h7 h8 arg8 arg9 arg10 harg8 harg9 harg10 512 7 3 rfl rfl _ _ _).1
  · exact (cur2 (x0 := x0) (x1 := x1) (x2 := x2) (x3 := x3) (x4 := x4) (x5 := x5) h6 h7 h8 arg8 arg9 arg10 harg8 harg9 harg10 512 6 2 rfl rfl _ _ _).1
  · exact (cur2 (x0 := x0) (x1 := x1) (x2 := x2) (x3 := x3) (x4 := x4) (x5 := x5) h6 h7 h8 arg8 arg9 arg10 harg8 harg9 harg10 512 5 1 rfl rfl _ _ _).1
  · exact (cur2 (x0 := x0) (x1 := x1) (x2 := x2) (x3 := x3) (x4 := x4) (x5 := x5) h6 h7 h8 arg8 arg9 arg10 harg8 harg9 harg10 512 4 0 rfl rfl _ _ _).1
  · exact (cur2 (x0 := x0) (x1 := x1) (x2 := x2) (x3 := x3) (x4 := x4) (x5 := x5) h6 h7 h8 arg8 arg9 arg10 harg8 harg9 harg10 0 3 3 rfl rfl _ _ _).1
  · exact (cur2 (x0 := x0) (x1 := x1) (x2 := x2) (x3 := x3) (x4 := x4) (x5 := x5) h6 h7 h8 arg8 arg9 arg10 harg8 harg9 harg10 0 2 2 rfl rfl _ _ _).1
  · exact (cur2 (x0 := x0) (x1 := x1) (x2 := x2) (x3 := x3) (x4 := x4) (x5 := x5) h6 h7 h8 arg8 arg9 arg10 harg8 harg9 harg10 0 1 1 rfl rfl _ _ _).1
  · exact (cur2 (x0 := x0) (x1 := x1) (x2 := x2) (x3 := x3) (x4 := x4) (x5 := x5) h6 h7 h8 arg8 arg9 arg10 harg8 harg9 harg10 0 0 0 rfl rfl _ _ _).1
  · exact (first1 (x0 := x0) (x1 := x1) (x2 := x2) (x6 := x6) (x7 := x7) (x8 := x8) h3 h4 h5 arg5 arg6 arg7 harg5 harg6 harg7 1536 3 rfl _ _ _).1
  · exact (first1 (x0 := x0) (x1 := x1) (x2 := x2) (x6 := x6) (x7 := x7) (x8 := x8) h3 h4 h5 arg5 arg6 arg7 harg5 harg6 harg7 1024 2 rfl _ _ _).1
  · exact (first1 (x0 := x0) (x1 := x1) (x2 := x2) (x6 := x6) (x7 := x7) (x8 := x8) h3 h4 h5 arg5 arg6 arg7 harg5 harg6 harg7 512 1 rfl _ _ _).1
  · exact (first1 (x0 := x0) (x1 := x1) (x2 := x2) (x6 := x6) (x7 := x7) (x8 := x8) h3 h4 h5 arg5 arg6 arg7 harg5 harg6 harg7 0 0 rfl _ _ _).1
  · exact (mid0 (x3 := x3) (x4 := x4) (x5 := x5) (x6 := x6) (x7 := x7) (x8 := x8) h0 h1 h2 arg2 arg3 arg4 harg2 harg3 harg4 1536 1408 rfl (by decide) _ _ inb_S3x2048x128_S1x512x128_0_1536_0).1
  · exact (mid0 (x3 := x3) (x4 := x4) (x5 := x5) (x6 := x6) (x7 := x7) (x8 := x8) h0 h1 h2 arg2 arg3 arg4 harg2 harg3 harg4 1024 896 rfl (by decide) _ _ inb_S3x2048x128_S1x512x128_0_1024_0).1
  · exact (mid0 (x3 := x3) (x4 := x4) (x5 := x5) (x6 := x6) (x7 := x7) (x8 := x8) h0 h1 h2 arg2 arg3 arg4 harg2 harg3 harg4 512 384 rfl (by decide) _ _ inb_S3x2048x128_S1x512x128_0_512_0).1
  · exact (first0 (x3 := x3) (x4 := x4) (x5 := x5) (x6 := x6) (x7 := x7) (x8 := x8) h0 h1 h2 arg2 arg3 arg4 harg2 harg3 harg4 _ inb_S3x2048x128_S1x512x128_0_0_0).1

/-- Every store into the buffer of log denominators is a block of the groups' log denominators. -/
theorem pieces_l : View.PiecesOf (G (Γl x0 x1 x3 x4 x6 x7))
    (kernelRun0_A.sl.HS1_24 (F := Ideal) c arg2 harg2 arg3 harg3 arg4 harg4 arg5 harg5 arg6 harg6 arg7 harg7 arg8 harg8 arg9 harg9
      arg10 harg10 x0 x1 x2 x3 x4 x5 x6 x7 x8) := by
  unfold kernelRun0_A.sl.HS1_24
  refine ⟨?_, ?_, ?_, ?_, ?_, ?_, ?_, ?_, ?_, ?_, ?_, ?_, ?_, ?_, ?_, ?_, ?_, ?_, ?_, ?_, ?_, ?_, ?_, ?_, trivial⟩
  · exact (cur2 (x0 := x0) (x1 := x1) (x2 := x2) (x3 := x3) (x4 := x4) (x5 := x5) h6 h7 h8 arg8 arg9 arg10 harg8 harg9 harg10 1536 15 3 rfl rfl _ _ _).2
  · exact (cur2 (x0 := x0) (x1 := x1) (x2 := x2) (x3 := x3) (x4 := x4) (x5 := x5) h6 h7 h8 arg8 arg9 arg10 harg8 harg9 harg10 1536 14 2 rfl rfl _ _ _).2
  · exact (cur2 (x0 := x0) (x1 := x1) (x2 := x2) (x3 := x3) (x4 := x4) (x5 := x5) h6 h7 h8 arg8 arg9 arg10 harg8 harg9 harg10 1536 13 1 rfl rfl _ _ _).2
  · exact (cur2 (x0 := x0) (x1 := x1) (x2 := x2) (x3 := x3) (x4 := x4) (x5 := x5) h6 h7 h8 arg8 arg9 arg10 harg8 harg9 harg10 1536 12 0 rfl rfl _ _ _).2
  · exact (cur2 (x0 := x0) (x1 := x1) (x2 := x2) (x3 := x3) (x4 := x4) (x5 := x5) h6 h7 h8 arg8 arg9 arg10 harg8 harg9 harg10 1024 11 3 rfl rfl _ _ _).2
  · exact (cur2 (x0 := x0) (x1 := x1) (x2 := x2) (x3 := x3) (x4 := x4) (x5 := x5) h6 h7 h8 arg8 arg9 arg10 harg8 harg9 harg10 1024 10 2 rfl rfl _ _ _).2
  · exact (cur2 (x0 := x0) (x1 := x1) (x2 := x2) (x3 := x3) (x4 := x4) (x5 := x5) h6 h7 h8 arg8 arg9 arg10 harg8 harg9 harg10 1024 9 1 rfl rfl _ _ _).2
  · exact (cur2 (x0 := x0) (x1 := x1) (x2 := x2) (x3 := x3) (x4 := x4) (x5 := x5) h6 h7 h8 arg8 arg9 arg10 harg8 harg9 harg10 1024 8 0 rfl rfl _ _ _).2
  · exact (cur2 (x0 := x0) (x1 := x1) (x2 := x2) (x3 := x3) (x4 := x4) (x5 := x5) h6 h7 h8 arg8 arg9 arg10 harg8 harg9 harg10 512 7 3 rfl rfl _ _ _).2
  · exact (cur2 (x0 := x0) (x1 := x1) (x2 := x2) (x3 := x3) (x4 := x4) (x5 := x5) h6 h7 h8 arg8 arg9 arg10 harg8 harg9 harg10 512 6 2 rfl rfl _ _ _).2
  · exact (cur2 (x0 := x0) (x1 := x1) (x2 := x2) (x3 := x3) (x4 := x4) (x5 := x5) h6 h7 h8 arg8 arg9 arg10 harg8 harg9 harg10 512 5 1 rfl rfl _ _ _).2
  · exact (cur2 (x0 := x0) (x1 := x1) (x2 := x2) (x3 := x3) (x4 := x4) (x5 := x5) h6 h7 h8 arg8 arg9 arg10 harg8 harg9 harg10 512 4 0 rfl rfl _ _ _).2
  · exact (cur2 (x0 := x0) (x1 := x1) (x2 := x2) (x3 := x3) (x4 := x4) (x5 := x5) h6 h7 h8 arg8 arg9 arg10 harg8 harg9 harg10 0 3 3 rfl rfl _ _ _).2
  · exact (cur2 (x0 := x0) (x1 := x1) (x2 := x2) (x3 := x3) (x4 := x4) (x5 := x5) h6 h7 h8 arg8 arg9 arg10 harg8 harg9 harg10 0 2 2 rfl rfl _ _ _).2
  · exact (cur2 (x0 := x0) (x1 := x1) (x2 := x2) (x3 := x3) (x4 := x4) (x5 := x5) h6 h7 h8 arg8 arg9 arg10 harg8 harg9 harg10 0 1 1 rfl rfl _ _ _).2
  · exact (cur2 (x0 := x0) (x1 := x1) (x2 := x2) (x3 := x3) (x4 := x4) (x5 := x5) h6 h7 h8 arg8 arg9 arg10 harg8 harg9 harg10 0 0 0 rfl rfl _ _ _).2
  · exact fun x => (congrFun (lse_parts (k0_pay51 (F := Ideal) k0_pay6 k0_pay9
      (ldx arg5 harg5 x3 1536 inb_S1x2048x128_S1x512x128_0_1536_0) (ldx arg6 harg6 x4 1536 inb_S1x2048x128_S1x512x128_0_1536_0))
      (ldx arg7 harg7 x5 1536 inb_S1x2048x128_S1x512x128_0_1536_0)) x).trans
      ((first1 (x0 := x0) (x1 := x1) (x2 := x2) (x6 := x6) (x7 := x7) (x8 := x8) h3 h4 h5 arg5 arg6 arg7 harg5 harg6 harg7 1536 3 rfl _ _ _).2 x)
  · exact (first1 (x0 := x0) (x1 := x1) (x2 := x2) (x6 := x6) (x7 := x7) (x8 := x8) h3 h4 h5 arg5 arg6 arg7 harg5 harg6 harg7 1024 2 rfl _ _ _).2
  · exact (first1 (x0 := x0) (x1 := x1) (x2 := x2) (x6 := x6) (x7 := x7) (x8 := x8) h3 h4 h5 arg5 arg6 arg7 harg5 harg6 harg7 512 1 rfl _ _ _).2
  · exact (first1 (x0 := x0) (x1 := x1) (x2 := x2) (x6 := x6) (x7 := x7) (x8 := x8) h3 h4 h5 arg5 arg6 arg7 harg5 harg6 harg7 0 0 rfl _ _ _).2
  · exact (mid0 (x3 := x3) (x4 := x4) (x5 := x5) (x6 := x6) (x7 := x7) (x8 := x8) h0 h1 h2 arg2 arg3 arg4 harg2 harg3 harg4 1536 1408 rfl (by decide) _ _ inb_S3x2048x128_S1x512x128_0_1536_0).2
  · exact (mid0 (x3 := x3) (x4 := x4) (x5 := x5) (x6 := x6) (x7 := x7) (x8 := x8) h0 h1 h2 arg2 arg3 arg4 harg2 harg3 harg4 1024 896 rfl (by decide) _ _ inb_S3x2048x128_S1x512x128_0_1024_0).2
  · exact (mid0 (x3 := x3) (x4 := x4) (x5 := x5) (x6 := x6) (x7 := x7) (x8 := x8) h0 h1 h2 arg2 arg3 arg4 harg2 harg3 harg4 512 384 rfl (by decide) _ _ inb_S3x2048x128_S1x512x128_0_512_0).2
  · exact (first0 (x3 := x3) (x4 := x4) (x5 := x5) (x6 := x6) (x7 := x7) (x8 := x8) h0 h1 h2 arg2 arg3 arg4 harg2 harg3 harg4 _ inb_S3x2048x128_S1x512x128_0_0_0).2

end Cert.AttnScratch

end
-- ==== Proof.AttnCover.lean ====
module

public import proofs.«01_k».proof.Proof.AttnContents

@[expose] public section

set_option maxRecDepth 65536

noncomputable section

/-! The stores reach every place of the two scratch buffers, so what is read back is the groups' outputs and log denominators. -/

namespace Cert.AttnScratch
open Cert.AttnKernelIdeal Cert.AttnKernelIdeal.Gen Idealize.ShloMosaic Idealize.ShloMosaic.TcCoe

/-- The rectangle of 512 consecutive positions of the group of dilation one. -/
def r0 (k : Fin 4) : Rect S3x2048x128 := Rect.unit ![0, 512 * k, 0] S1x512x128.size (by
  intro a; fin_cases a <;> simp <;> omega)

/-- The rectangle of every fourth position of the group of dilation four. -/
def r1 (k : Fin 4) : Rect S3x2048x128 :=
  { off := ![1, k, 0], size := S1x512x128.size, stride := ![1, 4, 1],
    inb := (by intro a; right; fin_cases a <;> simp <;> omega), stride_pos := (by intro a; fin_cases a <;> simp) }

/-- The rectangle of every sixteenth position of the group of dilation sixteen. -/
def r2 (k : Fin 16) : Rect S3x2048x128 :=
  { off := ![2, k, 0], size := S1x128x128.size, stride := ![1, 16, 1],
    inb := (by intro a; right; fin_cases a <;> simp <;> omega), stride_pos := (by intro a; fin_cases a <;> simp) }

/-- The rectangles of the stores, the last one first. -/
def rects : List (Rect S3x2048x128) :=
  [r2 15, r2 14, r2 13, r2 12, r2 11, r2 10, r2 9, r2 8, r2 7, r2 6, r2 5, r2 4, r2 3, r2 2, r2 1, r2 0,
    r1 3, r1 2, r1 1, r1 0, r0 3, r0 2, r0 1, r0 0]

theorem r2_mem (k : Fin 16) : r2 k ∈ rects := by
  fin_cases k <;> simp [rects]

theorem r1_mem (k : Fin 4) : r1 k ∈ rects := by
  fin_cases k <;> simp [rects]

theorem r0_mem (k : Fin 4) : r0 k ∈ rects := by
  fin_cases k <;> simp [rects]

/-- Every place lies in one of the rectangles. -/
theorem covered (y : S3x2048x128.Idx) : ∃ r ∈ rects, y ∈ r.set := by
  have b0 : (y 0).val < 3 := (y 0).2
  have b1 : (y 1).val < 2048 := (y 1).2
  have b2 : (y 2).val < 128 := (y 2).2
  by_cases h0 : (y 0).val = 0
  · refine ⟨r0 ⟨(y 1).val / 512, by omega⟩, r0_mem _, (LoadRect.mem_set _).2 fun a => ?_⟩
    fin_cases a
    · exact ⟨0, Nat.one_pos, h0⟩
    · exact ⟨(y 1).val % 512, Nat.mod_lt _ (by decide), by simp [r0, Rect.unit]; omega⟩
    · exact ⟨(y 2).val, b2, by simp [r0, Rect.unit]⟩
  · by_cases h1 : (y 0).val = 1
    · refine ⟨r1 ⟨(y 1).val % 4, by omega⟩, r1_mem _, (LoadRect.mem_set _).2 fun a => ?_⟩
      fin_cases a
      · exact ⟨0, Nat.one_pos, h1⟩
      · exact ⟨(y 1).val / 4, show (y 1).val / 4 < 512 by omega, by simp [r1]; omega⟩
      · exact ⟨(y 2).val, b2, by simp [r1]⟩
    · refine ⟨r2 ⟨(y 1).val % 16, by omega⟩, r2_mem _, (LoadRect.mem_set _).2 fun a => ?_⟩
      fin_cases a
      · exact ⟨0, Nat.one_pos, by simp [r2]; omega⟩
      · exact ⟨(y 1).val / 16, show (y 1).val / 16 < 128 by omega, by simp [r2]; omega⟩
      · exact ⟨(y 2).val, b2, by simp [r2]⟩

/-- Stores through those rectangles, each of them a block of the contents, leave the contents. -/
theorem read_back {κ : Kind} {sp : Space} (v : View sig κ sp S3x2048x128 .f32) (f : BufTy.Contents (Elt Ideal) v.ty)
    (Γ : ℕ → ℕ → Fin 128 → EReal) (L : List (View.Piece (Elt Ideal) S3x2048x128 .f32)) (hL : View.PiecesOf (G Γ) L)
    (hr : L.map Sigma.fst = rects) : v.read (Elt Ideal) (v.writes (Elt Ideal) f L) = G Γ := by
  funext y
  refine View.read_writes_apply_of_pieces v f (G Γ) L hL.mem y ?_
  obtain ⟨r, hm, hy⟩ := covered y
  rw [← hr] at hm
  obtain ⟨p, hp, rfl⟩ := List.mem_map.1 hm
  exact ⟨p, hp, hy⟩

variable {x0 x1 x2 x3 x4 x5 x6 x7 x8 : Vec Ideal S1x2048x128 .bf16}
variable (h0 : AllReal x0) (h1 : AllReal x1) (h2 : AllReal x2) (h3 : AllReal x3) (h4 : AllReal x4) (h5 : AllReal x5)
  (h6 : AllReal x6) (h7 : AllReal x7) (h8 : AllReal x8)
variable (c : Dev nD) (arg2 : Inp) (harg2 : arg2.IsWhole) (arg3 : Inp) (harg3 : arg3.IsWhole) (arg4 : Inp) (harg4 : arg4.IsWhole)
  (arg5 : Inp) (harg5 : arg5.IsWhole) (arg6 : Inp) (harg6 : arg6.IsWhole) (arg7 : Inp) (harg7 : arg7.IsWhole)
  (arg8 : Inp) (harg8 : arg8.IsWhole) (arg9 : Inp) (harg9 : arg9.IsWhole) (arg10 : Inp) (harg10 : arg10.IsWhole)

include h0 h1 h2 h3 h4 h5 h6 h7 h8

/-- The buffer of outputs, read back. -/
theorem read_o {κ : Kind} {sp : Space} (v : View sig κ sp S3x2048x128 .f32) (f : BufTy.Contents (Elt Ideal) v.ty) :
    v.read (Elt Ideal) (v.writes (Elt Ideal) f
      (kernelRun0_A.sl.HS0_24 (F := Ideal) c arg2 harg2 arg3 harg3 arg4 harg4 arg5 harg5 arg6 harg6 arg7 harg7 arg8 harg8 arg9 harg9
        arg10 harg10 x0 x1 x2 x3 x4 x5 x6 x7 x8)) = G (Γo x0 x1 x2 x3 x4 x5 x6 x7 x8) :=
  read_back v f _ _ (pieces_o h0 h1 h2 h3 h4 h5 h6 h7 h8 c arg2 harg2 arg3 harg3 arg4 harg4 arg5 harg5 arg6 harg6 arg7 harg7
    arg8 harg8 arg9 harg9 arg10 harg10) rfl

/-- The buffer of log denominators, read back. -/
theorem read_l {κ : Kind} {sp : Space} (v : View sig κ sp S3x2048x128 .f32) (f : BufTy.Contents (Elt Ideal) v.ty) :
    v.read (Elt Ideal) (v.writes (Elt Ideal) f
      (kernelRun0_A.sl.HS1_24 (F := Ideal) c arg2 harg2 arg3 harg3 arg4 harg4 arg5 harg5 arg6 harg6 arg7 harg7 arg8 harg8 arg9 harg9
        arg10 harg10 x0 x1 x2 x3 x4 x5 x6 x7 x8)) = G (Γl x0 x1 x3 x4 x6 x7) :=
  read_back v f _ _ (pieces_l h0 h1 h2 h3 h4 h5 h6 h7 h8 c arg2 harg2 arg3 harg3 arg4 harg4 arg5 harg5 arg6 harg6 arg7 harg7
    arg8 harg8 arg9 harg9 arg10 harg10) rfl

end Cert.AttnScratch

end
-- ==== Proof.AttnLoop.lean ====
module

public import proofs.«01_k».proof.Proof.AttnCover
public import proofs.«01_k».proof.Proof.AttnBatch

@[expose] public section

set_option maxRecDepth 65536

noncomputable section

/-! The loop that merges the three groups: what it leaves in the kernel's output block. -/

namespace Cert.AttnLoop
open Cert.AttnKernelIdeal Cert.AttnKernelIdeal.Gen Idealize.ShloMosaic Idealize.ShloMosaic.TcCoe
open AttnMath (N D lb)
open AttnScratch (Inp rows AllReal G Γo Γl)

/-- The merged attention of one block, gated. -/
def Att (x0 x1 x2 x3 x4 x5 x6 x7 x8 x9 : Vec Ideal S1x2048x128 .bf16) (y : S1x2048x128.Idx) : EReal :=
  (((N 1 2048 (rows x0) (rows x1) (rows x2) (y 1) (y 2) + N 4 512 (rows x3) (rows x4) (rows x5) (y 1) (y 2)
      + N 16 128 (rows x6) (rows x7) (rows x8) (y 1) (y 2))
    / (D 1 2048 (rows x0) (rows x1) (y 1) + D 4 512 (rows x3) (rows x4) (y 1) + D 16 128 (rows x6) (rows x7) (y 1)) : ℝ) : EReal) * x9 y

/-! The offsets of a trip's loads and store. -/

theorem off1 (k : Fin k0_t1_loop.trips) : k0_off1 k = ![0, 512 * k.val, 0] := by
  revert k; decide +kernel

theorem off2 (k : Fin k0_t1_loop.trips) : k0_off2 k = ![1, 512 * k.val, 0] := by
  revert k; decide +kernel

theorem off3 (k : Fin k0_t1_loop.trips) : k0_off3 k = ![2, 512 * k.val, 0] := by
  revert k; decide +kernel

theorem off4 (k : Fin k0_t1_loop.trips) : k0_off4 k = ![0, 512 * k.val, 0] := by
  revert k; decide +kernel

variable {x0 x1 x2 x3 x4 x5 x6 x7 x8 x9 : Vec Ideal S1x2048x128 .bf16}
variable (c : Dev nD) (i : grid0.Coords) (arg2 : Inp) (harg2 : arg2.IsWhole) (arg3 : Inp) (harg3 : arg3.IsWhole) (arg4 : Inp) (harg4 : arg4.IsWhole)
  (arg5 : Inp) (harg5 : arg5.IsWhole) (arg6 : Inp) (harg6 : arg6.IsWhole) (arg7 : Inp) (harg7 : arg7.IsWhole)
  (arg8 : Inp) (harg8 : arg8.IsWhole) (arg9 : Inp) (harg9 : arg9.IsWhole) (arg10 : Inp) (harg10 : arg10.IsWhole)
  (arg11 : Inp) (harg11 : arg11.IsWhole) (arg12 : Inp) (harg12 : arg12.IsWhole)
  (arg13 : Memref sig .tc .vmem S3x2048x128 .f32) (harg13 : arg13.IsWhole) (arg14 : Memref sig .tc .vmem S3x2048x128 .f32) (harg14 : arg14.IsWhole)
  (X11 : BufTy.Contents (Elt Ideal) arg11.view.ty) (X13 : BufTy.Contents (Elt Ideal) arg13.view.ty) (X14 : BufTy.Contents (Elt Ideal) arg14.view.ty)

/-- A load of 512 rows of one group out of a scratch buffer. -/
theorem load (a : Memref sig .tc .vmem S3x2048x128 .f32) (X : BufTy.Contents (Elt Ideal) a.view.ty) (Γ : ℕ → ℕ → Fin 128 → EReal)
    (hX : a.view.read (Elt Ideal) X = G Γ) (off : Fin 3 → ℕ) (g first : ℕ) (ho : off = ![g, first, 0])
    (inb : ∀ a, off a + S1x512x128.size a ≤ S3x2048x128.size a) (r : Fin 512) (e : Fin 128) :
    View.readAt (Elt Ideal) a.view (Rect.unit (s := S3x2048x128) off S1x512x128.size inb).toLoadRect X (ix3 0 r e) = Γ g (first + r) e := by
  subst ho
  have b0 : g + 1 ≤ 3 := inb 0
  have b1 : first + 512 ≤ 2048 := inb 1
  rw [View.readAt_eq_ld, hX]
  exact (View.ld_unit_apply_of (Val := Elt Ideal) (S := S3x2048x128) (e := .f32) (G Γ) ![g, first, 0] S1x512x128.size inb (ix3 0 r e) (ix3 ⟨g, by omega⟩ ⟨first + r, by omega⟩ e)
    (by intro k; fin_cases k <;> simp [ix3])).trans rfl

/-- A load of 512 rows of the gate's block. -/
theorem load_gate (hX : arg11.view.read (Elt Ideal) X11 = x9) (off : Fin 3 → ℕ) (first : ℕ) (ho : off = ![0, first, 0])
    (inb : ∀ a, off a + S1x512x128.size a ≤ S1x2048x128.size a) (r : Fin 512) (e : Fin 128) (h : first + r < 2048) :
    View.readAt (Elt Ideal) arg11.view (Rect.unit (s := S1x2048x128) off S1x512x128.size inb).toLoadRect X11 (ix3 0 r e)
      = x9 (ix3 0 ⟨first + r, h⟩ e) := by
  subst ho
  rw [View.readAt_eq_ld, hX]
  exact View.ld_unit_apply_of (Val := Elt Ideal) (S := S1x2048x128) (e := .bf16) x9 ![0, first, 0] S1x512x128.size inb (ix3 0 r e) (ix3 0 ⟨first + r, h⟩ e)
    (by intro k; fin_cases k <;> simp [ix3])

/-- Blocks of some contents, then blocks of the same contents. -/
theorem append {A : S1x2048x128.Idx → EReal} {L L' : List (View.Piece (Elt Ideal) S1x2048x128 .bf16)} (h : View.PiecesOf A L)
    (h' : View.PiecesOf A L') : View.PiecesOf A (L ++ L') := by
  induction L with
  | nil => exact h'
  | cons p L ih => exact ⟨h.1, ih h.2⟩

/-- One trip stores a block of the merged attention. -/
theorem trip (hO : arg13.view.read (Elt Ideal) X13 = G (Γo x0 x1 x2 x3 x4 x5 x6 x7 x8))
    (hL : arg14.view.read (Elt Ideal) X14 = G (Γl x0 x1 x3 x4 x6 x7)) (hZ : arg11.view.read (Elt Ideal) X11 = x9) (k : Fin k0_t1_loop.trips) :
    View.PiecesOf (Att x0 x1 x2 x3 x4 x5 x6 x7 x8 x9)
      (tripL_k0_t1 (F := Ideal) Variants.none c none i arg2 harg2 arg3 harg3 arg4 harg4 arg5 harg5 arg6 harg6 arg7 harg7 arg8 harg8 arg9 harg9
        arg10 harg10 arg11 harg11 arg12 harg12 arg13 harg13 arg14 harg14 X11 X13 X14 k) := by
  unfold tripL_k0_t1 trip_k0_t1
  dsimp only
  refine ⟨fun x => ?_, trivial⟩
  have hb : 512 * k.val + 512 ≤ 2048 := by have := k0_off4_inb k 1; rw [off4] at this; exact this
  have hx := AttnScratch.eta512 x (x 2) rfl
  have ht : 512 * k.val + (x 1 : Fin 512).val < 2048 := by have : (x 1 : Fin 512).val < 512 := (x 1).2; omega
  have he : (Rect.unit (s := S1x2048x128) (k0_off4 k) S1x512x128.size (k0_off4_inb k)).emb x = ix3 0 ⟨512 * k.val + (x 1 : Fin 512).val, ht⟩ (x 2) := by
    funext a
    apply Fin.ext
    rw [Rect.emb_apply]
    fin_cases a
    · simp [Rect.unit, off4, ix3]
    · simp [Rect.unit, off4, ix3]
    · simp [Rect.unit, off4, ix3]
  refine Eq.trans ?_ (congrArg (Att x0 x1 x2 x3 x4 x5 x6 x7 x8 x9) he).symm
  show k0_pay3 (F := Ideal) (trip_k0_t1.sl.v689 arg11 arg13 arg14 X11 X13 X14 k) x = _
  refine (congrArg (k0_pay3 (F := Ideal) _) hx).trans ?_
  refine (AttnBatch.merge _ _ _ _ _ _ _ (x 1) (x 2) _ _ _ _ _ _ (AttnMath.D_pos _ _ _ _ _ ht) (AttnMath.D_pos _ _ _ _ _ ht) (AttnMath.D_pos _ _ _ _ _ ht)
    (load arg14 X14 _ hL _ 0 _ (off1 k) _ _ _) (load arg14 X14 _ hL _ 1 _ (off2 k) _ _ _) (load arg14 X14 _ hL _ 2 _ (off3 k) _ _ _)
    (load arg13 X13 _ hO _ 0 _ (off1 k) _ _ _) (load arg13 X13 _ hO _ 1 _ (off2 k) _ _ _) (load arg13 X13 _ hO _ 2 _ (off3 k) _ _ _)).trans ?_
  refine (congrArg (_ * ·) (load_gate arg11 X11 hZ _ _ (off4 k) (k0_off4_inb k) (x 1) (x 2) ht)).trans ?_
  rfl

/-- Every store of the first trips is a block of the merged attention. -/
theorem trips (hO : arg13.view.read (Elt Ideal) X13 = G (Γo x0 x1 x2 x3 x4 x5 x6 x7 x8))
    (hL : arg14.view.read (Elt Ideal) X14 = G (Γl x0 x1 x3 x4 x6 x7)) (hZ : arg11.view.read (Elt Ideal) X11 = x9) (n : ℕ) :
    View.PiecesOf (Att x0 x1 x2 x3 x4 x5 x6 x7 x8 x9)
      (pb_k0_t1 (F := Ideal) Variants.none c none i arg2 harg2 arg3 harg3 arg4 harg4 arg5 harg5 arg6 harg6 arg7 harg7 arg8 harg8 arg9 harg9
        arg10 harg10 arg11 harg11 arg12 harg12 arg13 harg13 arg14 harg14 X11 X13 X14 n) := by
  induction n with
  | zero => exact trivial
  | succ n ih =>
    rw [pb_k0_t1.eq_2]
    unfold pb_k0_t1Step
    split
    · exact append (trip c i arg2 harg2 arg3 harg3 arg4 harg4 arg5 harg5 arg6 harg6 arg7 harg7 arg8 harg8 arg9 harg9
        arg10 harg10 arg11 harg11 arg12 harg12 arg13 harg13 arg14 harg14 X11 X13 X14 hO hL hZ _) ih
    · exact ih

/-- What a grid point leaves in the output block. -/
theorem block (h0 : AllReal x0) (h1 : AllReal x1) (h2 : AllReal x2) (h3 : AllReal x3) (h4 : AllReal x4) (h5 : AllReal x5)
    (h6 : AllReal x6) (h7 : AllReal x7) (h8 : AllReal x8) :
    out0_A_10 (F := Ideal) c i arg2 harg2 arg3 harg3 arg4 harg4 arg5 harg5 arg6 harg6 arg7 harg7 arg8 harg8 arg9 harg9
        arg10 harg10 arg11 harg11 arg12 harg12 arg13 harg13 arg14 harg14 x0 x1 x2 x3 x4 x5 x6 x7 x8 x9
      = Att x0 x1 x2 x3 x4 x5 x6 x7 x8 x9 := by
  funext y
  unfold out0_A_10
  refine View.read_writes_apply_of_pieces _ _ _ _ (View.PiecesOf.mem ?_) y (cover0_A_10 c i arg2 harg2 arg3 harg3 arg4 harg4 arg5 harg5
    arg6 harg6 arg7 harg7 arg8 harg8 arg9 harg9 arg10 harg10 arg11 harg11 arg12 harg12 arg13 harg13 arg14 harg14 x0 x1 x2 x3 x4 x5 x6 x7 x8 x9 y)
  unfold kernelRun0_A
  dsimp only
  exact trips c i arg2 harg2 arg3 harg3 arg4 harg4 arg5 harg5 arg6 harg6 arg7 harg7 arg8 harg8 arg9 harg9
    arg10 harg10 arg11 harg11 arg12 harg12 arg13 harg13 arg14 harg14 _ _ _
    (AttnScratch.read_o h0 h1 h2 h3 h4 h5 h6 h7 h8 c arg2 harg2 arg3 harg3 arg4 harg4 arg5 harg5 arg6 harg6 arg7 harg7 arg8 harg8 arg9 harg9 arg10 harg10 _ _)
    (AttnScratch.read_l h0 h1 h2 h3 h4 h5 h6 h7 h8 c arg2 harg2 arg3 harg3 arg4 harg4 arg5 harg5 arg6 harg6 arg7 harg7 arg8 harg8 arg9 harg9 arg10 harg10 _ _)
    (harg11.read_unread x9) _

end Cert.AttnLoop

end
-- ==== Proof.AttnKernelValue.lean ====
/- The value of the attention kernel: its result array is the merged attention of its arguments, index by index. -/
module

public import proofs.«01_k».proof.Proof.AttnLoop
public import proofs.«01_k».proof.Proof.AttnFinal
public import proofs.«01_k».proof.Proof.Gen.AttnKernelIdeal.Value
public import Idealize.ShloMosaic.Lib.Pipeline.ValueKit
public import Idealize.ShloMosaic.Lib.Pointwise

@[expose] public section

set_option maxRecDepth 16384

noncomputable section

namespace Cert.AttnKernelValue

open Cert.AttnKernelIdeal Cert.AttnKernelIdeal.Gen Idealize.ShloMosaic Idealize.ShloMosaic.TcCoe Idealize.SL.Sem
open AttnScratch (rows AllReal)
open AttnFinal (chan Finite)

variable (m : (ℓ : Loc nD τ sig) → Buf (Elt Ideal) ℓ)

/-- Where each window's block lies at a grid point. -/
theorem idx : ∀ t : Fin cfg0.N, win0_0.index t = ![(grid0.coords t 0).val, 0, (grid0.coords t 1).val]
    ∧ win0_1.index t = ![(grid0.coords t 0).val, 0, 8 + (grid0.coords t 1).val]
    ∧ win0_2.index t = ![(grid0.coords t 0).val, 0, 16 + (grid0.coords t 1).val]
    ∧ win0_3.index t = ![(grid0.coords t 0).val, 0, (grid0.coords t 1).val]
    ∧ win0_4.index t = ![(grid0.coords t 0).val, 0, 8 + (grid0.coords t 1).val]
    ∧ win0_5.index t = ![(grid0.coords t 0).val, 0, 16 + (grid0.coords t 1).val]
    ∧ win0_6.index t = ![(grid0.coords t 0).val, 0, (grid0.coords t 1).val]
    ∧ win0_7.index t = ![(grid0.coords t 0).val, 0, 8 + (grid0.coords t 1).val]
    ∧ win0_8.index t = ![(grid0.coords t 0).val, 0, 16 + (grid0.coords t 1).val]
    ∧ win0_9.index t = ![(grid0.coords t 0).val, 0, 24 + (grid0.coords t 1).val]
    ∧ win0_10.index t = ![(grid0.coords t 0).val, 0, (grid0.coords t 1).val] := by
  decide +kernel

theorem lt0 (t : Fin cfg0.N) : (grid0.coords t 0).val < 16 := (grid0.coords t 0).2

theorem lt1 (t : Fin cfg0.N) : (grid0.coords t 1).val < 8 := (grid0.coords t 1).2

/-- A block that is a head's columns of an array has the array's rows. -/
theorem rows_of {w : ℕ} (x : Vec Ideal S1x2048x128 .bf16) (a : (⟨3, ![16, 2048, w]⟩ : Shape).Idx → EReal) (b : Fin 16) (off : ℕ) (ho : off + 128 ≤ w)
    (h : ∀ (r : Fin 2048) (e : Fin 128), x (ix3 0 r e) = a (ix3 b r ⟨off + e, by omega⟩)) (f : Finite a) : AllReal x ∧ rows x = chan a b off := by
  constructor
  · intro y
    obtain ⟨r, e, rfl⟩ : ∃ (r : Fin 2048) (e : Fin 128), y = ix3 0 r e := ⟨y 1, y 2, by
      funext k
      fin_cases k
      · exact Subsingleton.elim (α := Fin 1) _ _
      · rfl
      · rfl⟩
    rw [h]
    exact f _
  · funext r e
    unfold rows chan
    by_cases hr : r < 2048
    · rw [dif_pos hr, dif_pos ⟨hr, by omega⟩, h]
    · rw [dif_neg hr, dif_neg fun hh => hr hh.1]

/-! The input windows' blocks: a head's columns of the queries, the keys and the values of each group. -/

theorem blk0 (c : Dev nD) (t : Fin cfg0.N) (f : Finite (m ((c : Thread nD τ).loc main_arg0))) : AllReal (iblk m c 0 t)
    ∧ rows (iblk m c 0 t) = chan (w := 4096) (m ((c : Thread nD τ).loc main_arg0)) ⟨_, lt0 t⟩ (128 * (grid0.coords t 1).val) :=
  rows_of _ _ _ _ (by have := lt1 t; omega) (fun r e => by blk_point [iblk, V_main_arg0, idx t]) f

theorem blk1 (c : Dev nD) (t : Fin cfg0.N) (f : Finite (m ((c : Thread nD τ).loc main_arg0))) : AllReal (iblk m c 1 t)
    ∧ rows (iblk m c 1 t) = chan (w := 4096) (m ((c : Thread nD τ).loc main_arg0)) ⟨_, lt0 t⟩ (1024 + 128 * (grid0.coords t 1).val) :=
  rows_of _ _ _ _ (by have := lt1 t; omega) (fun r e => by blk_point [iblk, V_main_arg0, idx t]) f

theorem blk2 (c : Dev nD) (t : Fin cfg0.N) (f : Finite (m ((c : Thread nD τ).loc main_arg0))) : AllReal (iblk m c 2 t)
    ∧ rows (iblk m c 2 t) = chan (w := 4096) (m ((c : Thread nD τ).loc main_arg0)) ⟨_, lt0 t⟩ (2048 + 128 * (grid0.coords t 1).val) :=
  rows_of _ _ _ _ (by have := lt1 t; omega) (fun r e => by blk_point [iblk, V_main_arg0, idx t]) f

theorem blk3 (c : Dev nD) (t : Fin cfg0.N) (f : Finite (m ((c : Thread nD τ).loc main_arg1))) : AllReal (iblk m c 3 t)
    ∧ rows (iblk m c 3 t) = chan (w := 3072) (m ((c : Thread nD τ).loc main_arg1)) ⟨_, lt0 t⟩ (128 * (grid0.coords t 1).val) :=
  rows_of _ _ _ _ (by have := lt1 t; omega) (fun r e => by blk_point [iblk, V_main_arg1, idx t]) f

theorem blk4 (c : Dev nD) (t : Fin cfg0.N) (f : Finite (m ((c : Thread nD τ).loc main_arg1))) : AllReal (iblk m c 4 t)
    ∧ rows (iblk m c 4 t) = chan (w := 3072) (m ((c : Thread nD τ).loc main_arg1)) ⟨_, lt0 t⟩ (1024 + 128 * (grid0.coords t 1).val) :=
  rows_of _ _ _ _ (by have := lt1 t; omega) (fun r e => by blk_point [iblk, V_main_arg1, idx t]) f

theorem blk5 (c : Dev nD) (t : Fin cfg0.N) (f : Finite (m ((c : Thread nD τ).loc main_arg1))) : AllReal (iblk m c 5 t)
    ∧ rows (iblk m c 5 t) = chan (w := 3072) (m ((c : Thread nD τ).loc main_arg1)) ⟨_, lt0 t⟩ (2048 + 128 * (grid0.coords t 1).val) :=
  rows_of _ _ _ _ (by have := lt1 t; omega) (fun r e => by blk_point [iblk, V_main_arg1, idx t]) f

theorem blk6 (c : Dev nD) (t : Fin cfg0.N) (f : Finite (m ((c : Thread nD τ).loc main_arg2))) : AllReal (iblk m c 6 t)
    ∧ rows (iblk m c 6 t) = chan (w := 3072) (m ((c : Thread nD τ).loc main_arg2)) ⟨_, lt0 t⟩ (128 * (grid0.coords t 1).val) :=
  rows_of _ _ _ _ (by have := lt1 t; omega) (fun r e => by blk_point [iblk, V_main_arg2, idx t]) f

theorem blk7 (c : Dev nD) (t : Fin cfg0.N) (f : Finite (m ((c : Thread nD τ).loc main_arg2))) : AllReal (iblk m c 7 t)
    ∧ rows (iblk m c 7 t) = chan (w := 3072) (m ((c : Thread nD τ).loc main_arg2)) ⟨_, lt0 t⟩ (1024 + 128 * (grid0.coords t 1).val) :=
  rows_of _ _ _ _ (by have := lt1 t; omega) (fun r e => by blk_point [iblk, V_main_arg2, idx t]) f

theorem blk8 (c : Dev nD) (t : Fin cfg0.N) (f : Finite (m ((c : Thread nD τ).loc main_arg2))) : AllReal (iblk m c 8 t)
    ∧ rows (iblk m c 8 t) = chan (w := 3072) (m ((c : Thread nD τ).loc main_arg2)) ⟨_, lt0 t⟩ (2048 + 128 * (grid0.coords t 1).val) :=
  rows_of _ _ _ _ (by have := lt1 t; omega) (fun r e => by blk_point [iblk, V_main_arg2, idx t]) f

/-- The gate's block: a head's columns of the gate. -/
theorem blk9 (c : Dev nD) (t : Fin cfg0.N) (r : Fin 2048) (e : Fin 128) : iblk m c 9 t (ix3 0 r e)
    = m ((c : Thread nD τ).loc main_arg0) (ix3 (⟨_, lt0 t⟩ : Fin 16) r (⟨3072 + (128 * (grid0.coords t 1).val + e), by have := lt1 t; omega⟩ : Fin 4096)) := by
  blk_point [iblk, V_main_arg0, idx t]

/-- The block of the merged attention at a grid point is the attention's head. -/
theorem att_out (c : Dev nD) (f0 : Finite (m ((c : Thread nD τ).loc main_arg0))) (f1 : Finite (m ((c : Thread nD τ).loc main_arg1)))
    (f2 : Finite (m ((c : Thread nD τ).loc main_arg2))) (t : Fin cfg0.N) (r : Fin 2048) (e : Fin 128) :
    AttnLoop.Att (iblk m c 0 t) (iblk m c 1 t) (iblk m c 2 t) (iblk m c 3 t) (iblk m c 4 t) (iblk m c 5 t) (iblk m c 6 t) (iblk m c 7 t) (iblk m c 8 t)
      (iblk m c 9 t) (ix3 0 r e)
    = AttnFinal.out (m ((c : Thread nD τ).loc main_arg0)) (m ((c : Thread nD τ).loc main_arg1)) (m ((c : Thread nD τ).loc main_arg2))
      ⟨_, lt0 t⟩ r ⟨128 * (grid0.coords t 1).val + e, by have := lt1 t; omega⟩ := by
  unfold AttnLoop.Att AttnFinal.out AttnFinal.merged AttnFinal.num AttnFinal.den
  rw [(blk0 m c t f0).2, (blk1 m c t f0).2, (blk2 m c t f0).2, (blk3 m c t f1).2, (blk4 m c t f1).2, (blk5 m c t f1).2, (blk6 m c t f2).2,
    (blk7 m c t f2).2, (blk8 m c t f2).2, blk9]
  have h1 : (128 * (grid0.coords t 1).val + e.val) / 128 = (grid0.coords t 1).val := by omega
  have h2 : (⟨(128 * (grid0.coords t 1).val + e.val) % 128, Nat.mod_lt _ (by decide)⟩ : Fin 128) = e := Fin.ext (by simp)
  simp only [h1, h2]
  rfl

/-- The result array after the run is the merged attention of the arguments. -/
theorem final (c : Dev nD) (f0 : Finite (m ((c : Thread nD τ).loc main_arg0))) (f1 : Finite (m ((c : Thread nD τ).loc main_arg1)))
    (f2 : Finite (m ((c : Thread nD τ).loc main_arg2))) :
    (dats m 0 c).arrAt 10 cfg0.N = fun y : S16x2048x1024.Idx => AttnFinal.out (m ((c : Thread nD τ).loc main_arg0)) (m ((c : Thread nD τ).loc main_arg1))
      (m ((c : Thread nD τ).loc main_arg2)) (y 0) (y 1) (y 2) := by
  refine (dats m 0 c).arrAt_eq_of_covers 10 _ (by decide +kernel) fun t hf y => ?_
  blk_simp
  rw [after0_10]
  have hl := lt1 t
  have h2 : ((y 2 : Fin 128) : ℕ) < 128 := (y 2 : Fin 128).2
  have he : (win0_10.blk t).view.emb y
      = ix3 (⟨_, lt0 t⟩ : Fin 16) (y 1 : Fin 2048) (⟨128 * (grid0.coords t 1).val + (y 2 : Fin 128).val, by omega⟩ : Fin 1024) := by
    blk_point [idx t]
  have hy : y = ix3 (0 : Fin 1) (y 1 : Fin 2048) (y 2 : Fin 128) := by
    funext k
    fin_cases k
    · exact Subsingleton.elim (α := Fin 1) _ _
    · rfl
    · rfl
  unfold outsAt0
  refine (congrFun (AttnLoop.block c _ _ _ _ _ _ _ _ _ _ _ _ _ _ _ _ _ _ _ _ _ _ _ _ _ _ _ (blk0 m c t f0).1 (blk1 m c t f0).1
    (blk2 m c t f0).1 (blk3 m c t f1).1 (blk4 m c t f1).1 (blk5 m c t f1).1 (blk6 m c t f2).1 (blk7 m c t f2).1 (blk8 m c t f2).1) y).trans ?_
  refine (congrArg _ hy).trans ((att_out m c f0 f1 f2 t (y 1) (y 2)).trans ?_)
  rw [he]
  rfl

end Cert.AttnKernelValue

end
-- ==== Proof.AttnRefMath.lean ====
/- The arithmetic of a masked softmax by the natural exponential, and of merging three of them by the softmax of their log
   denominators. -/
module

public import proofs.«01_k».proof.Proof.AttnMath

@[expose] public section

noncomputable section

namespace Cert.AttnRefMath

open Idealize.ShloMosaic
open AttnMath

variable {ι : Type} [Fintype ι]

/-- A masked score: `-∞` off the mask, and the score to the base two, converted to the natural base, on it. -/
def score (P : ι → Prop) [DecidablePred P] (σ : ι → ℝ) (k : ι) : EReal := if P k then ((σ k * Real.log 2 : ℝ) : EReal) else ⊥

/-- The greatest of some values, none of them `+∞` and one of them a real, is a real. -/
theorem fold_real {κ : Type} (S : Finset κ) (f : κ → EReal) (hf : ∀ i, f i = ⊥ ∨ ∃ r : ℝ, f i = (r : EReal))
    (hex : ∃ i ∈ S, ∃ r : ℝ, f i = (r : EReal)) : ∃ M : ℝ, S.fold max ⊥ f = (M : EReal) := by
  have hsup : S.fold max ⊥ f = S.sup f := rfl
  obtain ⟨i, hi, r, hr⟩ := hex
  obtain ⟨k, -, hk⟩ := Finset.exists_mem_eq_sup S ⟨i, hi⟩ f
  have hle := Finset.le_sup (f := f) hi
  rcases hf k with hb | ⟨M, hM⟩
  · rw [hk, hb, hr] at hle
    exact absurd hle (by simp)
  · exact ⟨M, by rw [hsup, hk, hM]⟩

/-- The exponential of a masked score less a real. -/
theorem exp_score (P : ι → Prop) [DecidablePred P] (σ : ι → ℝ) (M : ℝ) (k : ι) :
    Ideal.exp (score P σ k - (M : EReal)) = (((if P k then (2 : ℝ) ^ (σ k) else 0) * Real.exp (-M) : ℝ) : EReal) := by
  by_cases hp : P k
  · rw [show score P σ k = ((σ k * Real.log 2 : ℝ) : EReal) from if_pos hp, if_pos hp, ← EReal.coe_sub, Ideal.exp_coe,
      Real.rpow_def_of_pos (by norm_num), ← Real.exp_add, mul_comm (σ k)]
    rfl
  · rw [show score P σ k = ⊥ from if_neg hp, if_neg hp, zero_mul]
    simp

/-- The row sum of the exponentials. -/
theorem sum_eq (P : ι → Prop) [DecidablePred P] (σ : ι → ℝ) (M : ℝ) :
    (∑ k, Ideal.exp (score P σ k - (M : EReal))) = ((den P σ * Real.exp (-M) : ℝ) : EReal) := by
  simp only [exp_score]
  rw [sum_coe, den, Finset.sum_mul]

/-- The log denominator of one group: the greatest score drops out. -/
theorem lse_eq (P : ι → Prop) [DecidablePred P] (σ : ι → ℝ) (M : ℝ) (hP : ∃ k, P k) :
    (M : EReal) + Ideal.log (∑ k, Ideal.exp (score P σ k - (M : EReal))) = ((Real.log (den P σ) : ℝ) : EReal) := by
  have hd := den_pos P σ hP
  rw [sum_eq, Ideal.log_coe, if_neg (not_le.mpr (by positivity)), ← EReal.coe_add]
  congr 1
  rw [Real.log_mul hd.ne' (Real.exp_pos _).ne', Real.log_exp]
  ring

/-- The output row of one group. -/
theorem out_eq (P : ι → Prop) [DecidablePred P] (σ ν : ι → ℝ) (hP : ∃ k, P k) :
    (∑ k, (ν k : EReal) * Ideal.exp (score P σ k - ((Real.log (den P σ) : ℝ) : EReal))) = ((num P σ ν / den P σ : ℝ) : EReal) := by
  have hd := den_pos P σ hP
  simp only [exp_score, ← EReal.coe_mul]
  rw [sum_coe, num, Finset.sum_div]
  congr 1
  refine Finset.sum_congr rfl fun k _ => ?_
  rw [Real.exp_neg, Real.exp_log hd]
  split_ifs
  · ring
  · simp

/-- The exponential of a log denominator less a real. -/
theorem exp_log_sub (d M : ℝ) (hd : 0 < d) :
    Ideal.exp (((Real.log d : ℝ) : EReal) - (M : EReal)) = ((d * Real.exp (-M) : ℝ) : EReal) := by
  rw [← EReal.coe_sub, Ideal.exp_coe, sub_eq_add_neg, Real.exp_add, Real.exp_log hd]

/-- The merge of three groups by the softmax of their log denominators. -/
theorem merge_eq (n d : Fin 3 → ℝ) (hd : ∀ g, 0 < d g) (M : ℝ) :
    (∑ g : Fin 3, Ideal.div (Ideal.exp (((Real.log (d g) : ℝ) : EReal) - (M : EReal)))
        (∑ g' : Fin 3, Ideal.exp (((Real.log (d g') : ℝ) : EReal) - (M : EReal))) * ((n g / d g : ℝ) : EReal))
      = (((n 0 + n 1 + n 2) / (d 0 + d 1 + d 2) : ℝ) : EReal) := by
  have h0 := hd 0
  have h1 := hd 1
  have h2 := hd 2
  have he := Real.exp_pos (-M)
  have hs : (∑ g' : Fin 3, Ideal.exp (((Real.log (d g') : ℝ) : EReal) - (M : EReal)))
      = (((d 0 + d 1 + d 2) * Real.exp (-M) : ℝ) : EReal) := by
    rw [Finset.sum_congr rfl fun g _ => exp_log_sub (d g) M (hd g), sum_coe, ← Finset.sum_mul, Fin.sum_univ_three]
  rw [hs, Finset.sum_congr rfl fun g _ => congrArg (fun z => Ideal.div z _ * ((n g / d g : ℝ) : EReal)) (exp_log_sub (d g) M (hd g))]
  simp only [div_coe _ _ (show (d 0 + d 1 + d 2) * Real.exp (-M) ≠ 0 by positivity), ← EReal.coe_mul]
  rw [sum_coe, Fin.sum_univ_three]
  congr 1
  field_simp

end Cert.AttnRefMath

end
-- ==== Proof.AttnRefRows.lean ====
module

public import proofs.«01_k».proof.Proof.Gen.AttnReferenceIdeal.Run
public import proofs.«01_k».proof.Proof.AttnRefMath
public import proofs.«01_k».proof.Proof.AttnFinal
public import Idealize.ShloMosaic.Lib.Pointwise
public import Idealize.ShloMosaic.Lib.WordCmp

@[expose] public section

set_option maxRecDepth 16384

noncomputable section

/-! The reference's operations, read at an index. -/

namespace Cert.AttnRefRows

open Cert.AttnReferenceIdeal Cert.AttnReferenceIdeal.Gen Cert.AttnReferenceIdeal.Value Idealize.ShloMosaic Idealize.ShloMosaic.TcCoe Idealize.SL.Sem Idealize.ShloMosaic.WordCmp
open AttnMath (row Open sig)
open AttnFinal (chan Finite)

variable (V0 : Valuation τ sig (Elt Ideal))

/-! The rows of each group in the order of their positions. -/

theorem rows0 (b : Fin 16) (t : Fin 2048) (c : Fin 3072) :
    res_main_v16 V0 (ix4 (n0 := 3) 0 b t c) = V0 (Proc.devRef .tc main_arg0) (ix3 b t (⟨c, by omega⟩ : Fin 4096)) := by
  unfold res_main_v16
  pointwise

theorem rows1 (b : Fin 16) (t : Fin 2048) (c : Fin 3072) :
    res_main_v16 V0 (ix4 (n0 := 3) 1 b t c) = V0 (Proc.devRef .tc main_arg1) (ix3 b (⟨t % 4 * 512 + t / 4, by omega⟩ : Fin 2048) c) := by
  unfold res_main_v16
  pointwise

theorem rows2 (b : Fin 16) (t : Fin 2048) (c : Fin 3072) :
    res_main_v16 V0 (ix4 (n0 := 3) 2 b t c) = V0 (Proc.devRef .tc main_arg2) (ix3 b (⟨t % 16 * 128 + t / 16, by omega⟩ : Fin 2048) c) := by
  unfold res_main_v16
  pointwise

/-- The mask's word at a query and a key: open when the key is not after the query, not too far before it, and a whole
    number of dilations before it. -/
theorem mask_word (d w q k : ℕ) (hq : q < 2048) (hk : k < 2048) (hd : 0 < d) (hd' : d ≤ 2048) (hw : w ≤ 2048) :
    IntOp.andi (IntOp.andi (IntOp.cmpi CmpIPredicate.sge (IntOp.subi (BitVec.ofNat 32 q) (BitVec.ofNat 32 k)) 0#32)
          (IntOp.cmpi CmpIPredicate.sle (IntOp.subi (BitVec.ofNat 32 q) (BitVec.ofNat 32 k)) (BitVec.ofNat 32 w)))
        (IntOp.cmpi CmpIPredicate.eq
          (IntOp.remsi ArithUnit.host (IntOp.subi (BitVec.ofNat 32 q) (BitVec.ofNat 32 k)) (BitVec.ofNat 32 d)) 0#32)
      = BitVec.ofBool (decide (k ≤ q ∧ q - k ≤ w ∧ (q - k) % d = 0)) := by
  by_cases h : k ≤ q
  · have e : IntOp.subi (BitVec.ofNat 32 q) (BitVec.ofNat 32 k) = BitVec.ofNat 32 (q - k) := by
      apply BitVec.eq_of_toNat_eq
      simp [IntOp.subi]
      omega
    rw [e]
    have hr := IntOp.remsi_eq_zero_iff ArithUnit.host (x := BitVec.ofNat 32 (q - k)) (by simp; omega) d hd (by omega)
    rw [show (0#32 : BitVec 32) = BitVec.ofNat 32 0 from rfl, cmpi_sge_ofNat (by omega) (by omega), cmpi_sle_ofNat (by omega) (by omega),
      cmpi_eq_eq, andi_ofBool, andi_ofBool]
    congr 1
    rw [show (BitVec.ofNat 32 (q - k)).toNat = q - k by simp; omega, Nat.dvd_iff_mod_eq_zero] at hr
    simp only [hr]
    simp [h]
  · have hn : IntOp.cmpi CmpIPredicate.sge (IntOp.subi (BitVec.ofNat 32 q) (BitVec.ofNat 32 k)) 0#32 = 0#1 := by
      rw [cmpi_sge_zero]
      have : ¬ (IntOp.subi (BitVec.ofNat 32 q) (BitVec.ofNat 32 k)).toNat < 2 ^ (32 - 1) := by
        simp [IntOp.subi]
        omega
      rw [decide_eq_false this]
      rfl
    rw [hn, decide_eq_false fun hh => h hh.1]
    simp [IntOp.andi]

/-- A masked score, read off the mask's word. -/
theorem select_score (P Q : Prop) [Decidable P] [Decidable Q] (h : P ↔ Q) (w : BitVec 1) (hw : w = BitVec.ofBool (decide P)) (x y : EReal) :
    Scalar.select w x y = if Q then x else y := by
  subst hw
  by_cases hP : P
  · simp [hP, h.mp hP, Scalar.select]
  · simp [hP, mt h.mpr hP, Scalar.select]

/-- The factor of the scores, the natural logarithm of two. -/
theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee]
    rw [← EReal.coe_mul]
    norm_num
  rw [h, Ideal.log_coe, if_neg (by norm_num)]

/-! The reference's steps, each at an index of variables. -/

/-- The distance of a query and a key, as a word. -/
theorem read_dist (q k : Fin 2048) :
    (subi (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0))))
      (ix2 q k)
    = IntOp.subi (BitVec.ofNat 32 q) (BitVec.ofNat 32 k) := by
  pointwise

/-- A group's mask, at an index, from the distance there. -/
theorem read_word (δ : IVec S2048x2048 32) (w d : BitVec 32) (q k : Fin 2048) :
    (andi (andi (cmpi .sge δ (broadcastInDim S2048x2048 ![] bcast_S_S2048x2048 (constantI S_ 32 0#32)))
        (cmpi .sle δ (broadcastInDim S2048x2048 ![] bcast_S_S2048x2048 (constantI S_ 32 w))))
      (cmpi .eq (Host.remsi δ (broadcastInDim S2048x2048 ![] bcast_S_S2048x2048 (constantI S_ 32 d)))
        (broadcastInDim S2048x2048 ![] bcast_S_S2048x2048 (constantI S_ 32 0#32)))) (ix2 q k)
    = IntOp.andi (IntOp.andi (IntOp.cmpi .sge (δ (ix2 q k)) 0#32) (IntOp.cmpi .sle (δ (ix2 q k)) w))
        (IntOp.cmpi .eq (IntOp.remsi ArithUnit.host (δ (ix2 q k)) d) 0#32) := by
  pointwise

/-- The stacked masks' first group. -/
theorem read_cat0 (m0 m1 m2 : IVec S2048x2048 1) (q k : Fin 2048) :
    concatenate S3x2048x2048 0 [⟨S1x2048x2048, broadcastInDim S1x2048x2048 ![1, 2] bcast_S2048x2048_S1x2048x2048_1_2 m0⟩,
      ⟨S1x2048x2048, broadcastInDim S1x2048x2048 ![1, 2] bcast_S2048x2048_S1x2048x2048_1_2 m1⟩,
      ⟨S1x2048x2048, broadcastInDim S1x2048x2048 ![1, 2] bcast_S2048x2048_S1x2048x2048_1_2 m2⟩]
      concatenates_S1x2048x2048_S1x2048x2048_S1x2048x2048_S3x2048x2048_d0 (ix3 (n0 := 3) 0 q k) = m0 (ix2 q k) := by
  pointwise

/-- The stacked masks' second group. -/
theorem read_cat1 (m0 m1 m2 : IVec S2048x2048 1) (q k : Fin 2048) :
    concatenate S3x2048x2048 0 [⟨S1x2048x2048, broadcastInDim S1x2048x2048 ![1, 2] bcast_S2048x2048_S1x2048x2048_1_2 m0⟩,
      ⟨S1x2048x2048, broadcastInDim S1x2048x2048 ![1, 2] bcast_S2048x2048_S1x2048x2048_1_2 m1⟩,
      ⟨S1x2048x2048, broadcastInDim S1x2048x2048 ![1, 2] bcast_S2048x2048_S1x2048x2048_1_2 m2⟩]
      concatenates_S1x2048x2048_S1x2048x2048_S1x2048x2048_S3x2048x2048_d0 (ix3 (n0 := 3) 1 q k) = m1 (ix2 q k) := by
  pointwise

/-- The stacked masks' third group. -/
theorem read_cat2 (m0 m1 m2 : IVec S2048x2048 1) (q k : Fin 2048) :
    concatenate S3x2048x2048 0 [⟨S1x2048x2048, broadcastInDim S1x2048x2048 ![1, 2] bcast_S2048x2048_S1x2048x2048_1_2 m0⟩,
      ⟨S1x2048x2048, broadcastInDim S1x2048x2048 ![1, 2] bcast_S2048x2048_S1x2048x2048_1_2 m1⟩,
      ⟨S1x2048x2048, broadcastInDim S1x2048x2048 ![1, 2] bcast_S2048x2048_S1x2048x2048_1_2 m2⟩]
      concatenates_S1x2048x2048_S1x2048x2048_S1x2048x2048_S3x2048x2048_d0 (ix3 (n0 := 3) 2 q k) = m2 (ix2 q k) := by
  pointwise

/-- The mask's select, at an index. -/
theorem read_sel (m : IVec S3x2048x2048 1) (x : FVec Ideal S3x16x8x2048x2048 .f32) (g : Fin 3) (b : Fin 16) (h : Fin 8) (q k : Fin 2048) :
    select (broadcastInDim S3x16x8x2048x2048 ![0, 1, 2, 3, 4] bcast_S3x1x1x2048x2048_S3x16x8x2048x2048_0_1_2_3_4
      (broadcastInDim S3x1x1x2048x2048 ![0, 3, 4] bcast_S3x2048x2048_S3x1x1x2048x2048_0_3_4 m)) x
      (broadcastInDim S3x16x8x2048x2048 ![] bcast_S_S3x16x8x2048x2048 (id (constant (F := Ideal) S_ .f32 0xFF800000#32))) (ix5 g b h q k)
    = Scalar.select (m (ix3 g q k)) (x (ix5 g b h q k)) (Ideal.ofBits FTy.f32 4286578688#32) := by
  pointwise
  rfl

/-- The scaled scores, at an index. -/
theorem read_dot (v : FVec Ideal S3x16x2048x3072 .f32) (g : Fin 3) (b : Fin 16) (h : Fin 8) (q k : Fin 2048) :
    mulf (Host.dotGeneral (F := Ideal) dot_S3x16x2048x8x128_S3x16x2048x8x128_S3x16x8x2048x2048_4_4_2_2_013_013 none
      (shapeCast _ (extractStridedSlice S3x16x2048x1024 ![0, 0, 0, 0] v slices_S3x16x2048x3072_S3x16x2048x1024_0_0_0_0) shapeCasts_S3x16x2048x1024_S3x16x2048x8x128)
      (shapeCast _ (extractStridedSlice S3x16x2048x1024 ![0, 0, 0, 1024] v slices_S3x16x2048x3072_S3x16x2048x1024_0_0_0_1024) shapeCasts_S3x16x2048x1024_S3x16x2048x8x128))
      (broadcastInDim S3x16x8x2048x2048 ![] bcast_S_S3x16x8x2048x2048 (Host.log (constant (F := Ideal) S_ .f32 0x40000000#32))) (ix5 g b h q k)
    = (∑ x : Fin 128, v (ix4 g b q ⟨h * 128 + x, by omega⟩) * v (ix4 g b k ⟨1024 + (h * 128 + x), by omega⟩))
        * Ideal.log (Ideal.ofBits FTy.f32 1073741824#32) := by
  pointwise

/-- The greatest score of a row, at an index. -/
theorem read_max (s : FVec Ideal S3x16x8x2048x2048 .f32) (g : Fin 3) (b : Fin 16) (h : Fin 8) (q : Fin 2048) :
    Host.reduce FloatOps.maximumf s (constant (F := Ideal) S_ .f32 0xFF800000#32) reducesTo_S3x16x8x2048x2048_S3x16x8x2048_d4 h_S_ (ix4 g b h q)
    = Finset.fold max (Ideal.ofBits FTy.f32 4286578688#32) (fun x : Fin 2048 => s (ix5 g b h q x)) Finset.univ := by
  pointwise

/-- The log denominator, at an index. -/
theorem read_lse (s : FVec Ideal S3x16x8x2048x2048 .f32) (m : FVec Ideal S3x16x8x2048 .f32) (g : Fin 3) (b : Fin 16) (h : Fin 8) (q : Fin 2048) :
    addf m (Host.log (Host.reduceAdd (F := Ideal) (Host.exp (subf s (broadcastInDim S3x16x8x2048x2048 ![0, 1, 2, 3, 4]
      bcast_S3x16x8x2048x1_S3x16x8x2048x2048_0_1_2_3_4 (broadcastInDim S3x16x8x2048x1 ![0, 1, 2, 3] bcast_S3x16x8x2048_S3x16x8x2048x1_0_1_2_3 m))))
      (constant S_ .f32 0x00000000#32) reducesTo_S3x16x8x2048x2048_S3x16x8x2048_d4 h_S_)) (ix4 g b h q)
    = m (ix4 g b h q) + Ideal.log (∑ x : Fin 2048, Ideal.exp (s (ix5 g b h q x) - m (ix4 g b h q))) := by
  pointwise

/-- The exponential of a log denominator less the groups' greatest, at an index. -/
theorem read_e (l : FVec Ideal S3x16x8x2048 .f32) (g : Fin 3) (b : Fin 16) (h : Fin 8) (q : Fin 2048) :
    Host.exp (subf l (broadcastInDim S3x16x8x2048 ![0, 1, 2, 3] bcast_S1x16x8x2048_S3x16x8x2048_0_1_2_3 (broadcastInDim S1x16x8x2048 ![1, 2, 3]
      bcast_S16x8x2048_S1x16x8x2048_1_2_3 (Host.reduce FloatOps.maximumf l (constant (F := Ideal) S_ .f32 0xFF800000#32)
      reducesTo_S3x16x8x2048_S16x8x2048_d0 h_S_)))) (ix4 g b h q)
    = Ideal.exp (l (ix4 g b h q) - Finset.fold max (Ideal.ofBits FTy.f32 4286578688#32) (fun x : Fin 3 => l (ix4 x b h q)) Finset.univ) := by
  pointwise

/-- The weighted values. -/
theorem read_o (v : FVec Ideal S3x16x2048x3072 .f32) (p : FVec Ideal S3x16x8x2048x2048 .f32) (g : Fin 3) (b : Fin 16) (t : Fin 2048) (h : Fin 8) (e : Fin 128) :
    transpose S3x16x2048x8x128 [0, 1, 4, 2, 3] (Host.dotGeneral (F := Ideal) dot_S3x16x2048x8x128_S3x16x8x2048x2048_S3x16x8x128x2048_2_4_4_3_013_012 none
      (shapeCast _ (extractStridedSlice S3x16x2048x1024 ![0, 0, 0, 2048] v slices_S3x16x2048x3072_S3x16x2048x1024_0_0_0_2048) shapeCasts_S3x16x2048x1024_S3x16x2048x8x128)
      p) transposes_S3x16x8x128x2048_S3x16x2048x8x128_0_1_4_2_3 (ix5 g b t h e)
    = ∑ x : Fin 2048, v (ix4 g b x ⟨2048 + (h * 128 + e), by omega⟩) * p (ix5 g b h t x) := by
  pointwise

/-- The probabilities. -/
theorem read_p (s : FVec Ideal S3x16x8x2048x2048 .f32) (l : FVec Ideal S3x16x8x2048 .f32) (g : Fin 3) (b : Fin 16) (h : Fin 8) (q k : Fin 2048) :
    Host.exp (subf s (broadcastInDim S3x16x8x2048x2048 ![0, 1, 2, 3, 4] bcast_S3x16x8x2048x1_S3x16x8x2048x2048_0_1_2_3_4
      (broadcastInDim S3x16x8x2048x1 ![0, 1, 2, 3] bcast_S3x16x8x2048_S3x16x8x2048x1_0_1_2_3 l))) (ix5 g b h q k)
    = Ideal.exp (s (ix5 g b h q k) - l (ix4 g b h q)) := by
  pointwise

/-- The groups' weights. -/
theorem read_w (e : FVec Ideal S3x16x8x2048 .f32) (g : Fin 3) (b : Fin 16) (t : Fin 2048) (h : Fin 8) (x : Fin 128) :
    broadcastInDim S3x16x2048x8x128 ![0, 1, 2, 3, 4] bcast_S3x16x2048x8x1_S3x16x2048x8x128_0_1_2_3_4 (broadcastInDim S3x16x2048x8x1 ![0, 1, 2, 3]
      bcast_S3x16x2048x8_S3x16x2048x8x1_0_1_2_3 (transpose S3x16x2048x8 [0, 1, 3, 2] (Host.divf e (broadcastInDim S3x16x8x2048 ![0, 1, 2, 3]
      bcast_S1x16x8x2048_S3x16x8x2048_0_1_2_3 (broadcastInDim S1x16x8x2048 ![1, 2, 3] bcast_S16x8x2048_S1x16x8x2048_1_2_3 (Host.reduceAdd (F := Ideal) e
      (constant S_ .f32 0x00000000#32) reducesTo_S3x16x8x2048_S16x8x2048_d0 h_S_)))) transposes_S3x16x8x2048_S3x16x2048x8_0_1_3_2))
      (ix5 g b t h x)
    = Ideal.div (e (ix4 g b h t)) (∑ g' : Fin 3, e (ix4 g' b h t)) := by
  pointwise

/-- The heads side by side. -/
theorem cast_out (z : FVec Ideal S16x2048x8x128 .f32) (b : Fin 16) (t : Fin 2048) (c : Fin 1024) :
    shapeCast S16x2048x1024 z shapeCasts_S16x2048x8x128_S16x2048x1024 (ix3 b t c) = z (ix4 b t ⟨c / 128, by omega⟩ ⟨c % 128, by omega⟩) := by
  pointwise

/-- The sum over the groups. -/
theorem sum_out (y : FVec Ideal S3x16x2048x8x128 .f32) (b : Fin 16) (t : Fin 2048) (h : Fin 8) (e : Fin 128) :
    Host.reduceAdd (F := Ideal) y (constant S_ .f32 0x00000000#32) reducesTo_S3x16x2048x8x128_S16x2048x8x128_d0 h_S_ (ix4 b t h e)
    = ∑ g : Fin 3, y (ix5 g b t h e) := by
  pointwise

/-- The gate. -/
theorem gate_out (a : FVec Ideal S16x2048x4096 .bf16) (b : Fin 16) (t : Fin 2048) (c : Fin 1024) :
    (extf (F := Ideal) .f32 (extractStridedSlice S16x2048x1024 ![0, 0, 3072] a slices_S16x2048x4096_S16x2048x1024_0_0_3072) bitsLt_bf16_f32) (ix3 b t c)
    = a (ix3 b t ⟨3072 + c, by omega⟩) := by
  pointwise

/-- The gated result. -/
theorem mul_out (x y : FVec Ideal S16x2048x1024 .f32) (j : S16x2048x1024.Idx) : truncf .bf16 (mulf x y) bitsLt_bf16_f32 j = x j * y j := by
  pointwise

/-- The product of two entries of a group. -/
theorem mul_in (x y : FVec Ideal S3x16x2048x8x128 .f32) (j : S3x16x2048x8x128.Idx) : mulf x y j = x j * y j := by
  pointwise

/-- A group's mask, from the distances: window `w`, dilation `d`. -/
def bit (δ : IVec S2048x2048 32) (w d : BitVec 32) : IVec S2048x2048 1 :=
  andi (andi (cmpi .sge δ (broadcastInDim S2048x2048 ![] bcast_S_S2048x2048 (constantI S_ 32 0#32)))
      (cmpi .sle δ (broadcastInDim S2048x2048 ![] bcast_S_S2048x2048 (constantI S_ 32 w))))
    (cmpi .eq (Host.remsi δ (broadcastInDim S2048x2048 ![] bcast_S_S2048x2048 (constantI S_ 32 d)))
      (broadcastInDim S2048x2048 ![] bcast_S_S2048x2048 (constantI S_ 32 0#32)))

/-- A group's mask at a query and a key. -/
theorem mask_bit (δ : IVec S2048x2048 32) (w d : ℕ) (q k : Fin 2048) (hδ : δ (ix2 q k) = IntOp.subi (BitVec.ofNat 32 q) (BitVec.ofNat 32 k))
    (hd : 0 < d) (hd' : d ≤ 2048) (hw : w ≤ 2048) :
    bit δ (BitVec.ofNat 32 w) (BitVec.ofNat 32 d) (ix2 q k)
    = BitVec.ofBool (decide (k.val ≤ q.val ∧ q.val - k.val ≤ w ∧ (q.val - k.val) % d = 0)) := by
  refine (read_word δ _ _ q k).trans ?_
  rw [hδ]
  exact mask_word d w q k q.2 k.2 hd hd' hw

/-- The three groups' masks, stacked. -/
def masks (δ : IVec S2048x2048 32) : IVec S3x2048x2048 1 :=
  concatenate S3x2048x2048 0 [⟨S1x2048x2048, broadcastInDim S1x2048x2048 ![1, 2] bcast_S2048x2048_S1x2048x2048_1_2 (bit δ 128#32 1#32)⟩,
    ⟨S1x2048x2048, broadcastInDim S1x2048x2048 ![1, 2] bcast_S2048x2048_S1x2048x2048_1_2 (bit δ 512#32 4#32)⟩,
    ⟨S1x2048x2048, broadcastInDim S1x2048x2048 ![1, 2] bcast_S2048x2048_S1x2048x2048_1_2 (bit δ 2048#32 16#32)⟩]
    concatenates_S1x2048x2048_S1x2048x2048_S1x2048x2048_S3x2048x2048_d0

/-- The masked scaled scores, from the stacked masks and the stacked streams. -/
def maskedScores (m : IVec S3x2048x2048 1) (v : FVec Ideal S3x16x2048x3072 .f32) : FVec Ideal S3x16x8x2048x2048 .f32 :=
  select (broadcastInDim S3x16x8x2048x2048 ![0, 1, 2, 3, 4] bcast_S3x1x1x2048x2048_S3x16x8x2048x2048_0_1_2_3_4
      (broadcastInDim S3x1x1x2048x2048 ![0, 3, 4] bcast_S3x2048x2048_S3x1x1x2048x2048_0_3_4 m))
    (mulf (Host.dotGeneral (F := Ideal) dot_S3x16x2048x8x128_S3x16x2048x8x128_S3x16x8x2048x2048_4_4_2_2_013_013 none
      (shapeCast _ (extractStridedSlice S3x16x2048x1024 ![0, 0, 0, 0] v slices_S3x16x2048x3072_S3x16x2048x1024_0_0_0_0) shapeCasts_S3x16x2048x1024_S3x16x2048x8x128)
      (shapeCast _ (extractStridedSlice S3x16x2048x1024 ![0, 0, 0, 1024] v slices_S3x16x2048x3072_S3x16x2048x1024_0_0_0_1024) shapeCasts_S3x16x2048x1024_S3x16x2048x8x128))
      (broadcastInDim S3x16x8x2048x2048 ![] bcast_S_S3x16x8x2048x2048 (Host.log (constant (F := Ideal) S_ .f32 0x40000000#32))))
    (broadcastInDim S3x16x8x2048x2048 ![] bcast_S_S3x16x8x2048x2048 (id (constant (F := Ideal) S_ .f32 0xFF800000#32)))

/-- A masked score, at an index. -/
theorem masked_at (m : IVec S3x2048x2048 1) (v : FVec Ideal S3x16x2048x3072 .f32) (g : Fin 3) (b : Fin 16) (h : Fin 8) (q k : Fin 2048) :
    maskedScores m v (ix5 g b h q k)
    = Scalar.select (m (ix3 g q k)) ((∑ x : Fin 128, v (ix4 g b q ⟨h * 128 + x, by omega⟩) * v (ix4 g b k ⟨1024 + (h * 128 + x), by omega⟩))
        * Ideal.log (Ideal.ofBits FTy.f32 1073741824#32)) (Ideal.ofBits FTy.f32 4286578688#32) :=
  (read_sel m _ g b h q k).trans (congrArg (Scalar.select (m (ix3 g q k)) · _) (read_dot v g b h q k))

/-- The stacked streams, as extended reals. -/
def entry : FVec Ideal S3x16x2048x3072 .f32 := res_main_v16 V0

/-- The masked scores, as extended reals. -/
def scored : FVec Ideal S3x16x8x2048x2048 .f32 := res_main_v68 V0

/-- The rows' greatest scores, as extended reals. -/
def greatest : FVec Ideal S3x16x8x2048 .f32 := res_main_v69 V0

/-- The log denominators, as extended reals. -/
def logden : FVec Ideal S3x16x8x2048 .f32 := res_main_v76 V0

/-- The groups' shares before they are divided by their sum, as extended reals. -/
def part : FVec Ideal S3x16x8x2048 .f32 := res_main_v87 V0

/-- The distances' words. -/
theorem dist_eq (q k : Fin 2048) :
    (res_main_v28 V0 : IVec S2048x2048 32) (ix2 q k) = IntOp.subi (BitVec.ofNat 32 q) (BitVec.ofNat 32 k) := by
  unfold res_main_v28 res_main_v23
  exact read_dist q k

/-- The masked scores are the reference's term. -/
theorem scored_eq : scored V0 = maskedScores (masks (res_main_v28 V0)) (entry V0) := by
  unfold scored res_main_v68 maskedScores masks bit entry
  rfl

/-- The log denominators from the scores and their greatest. -/
theorem logden_at (g : Fin 3) (b : Fin 16) (h : Fin 8) (q : Fin 2048) :
    logden V0 (ix4 g b h q)
    = greatest V0 (ix4 g b h q) + Ideal.log (∑ x : Fin 2048, Ideal.exp (scored V0 (ix5 g b h q x) - greatest V0 (ix4 g b h q))) := by
  unfold logden res_main_v76
  exact read_lse (scored V0) (greatest V0) g b h q

/-- The greatest scores. -/
theorem greatest_at (g : Fin 3) (b : Fin 16) (h : Fin 8) (q : Fin 2048) :
    greatest V0 (ix4 g b h q) = Finset.fold max (Ideal.ofBits FTy.f32 4286578688#32) (fun x : Fin 2048 => scored V0 (ix5 g b h q x)) Finset.univ := by
  unfold greatest res_main_v69
  exact read_max (scored V0) g b h q

/-- The groups' shares before they are divided. -/
theorem part_at (g : Fin 3) (b : Fin 16) (h : Fin 8) (q : Fin 2048) :
    part V0 (ix4 g b h q) = Ideal.exp (logden V0 (ix4 g b h q)
      - Finset.fold max (Ideal.ofBits FTy.f32 4286578688#32) (fun x : Fin 3 => logden V0 (ix4 x b h q)) Finset.univ) := by
  unfold part res_main_v87
  exact read_e (logden V0) g b h q

/-- The groups' weights times the groups' rows. -/
theorem mul_at (v : FVec Ideal S3x16x2048x3072 .f32) (s : FVec Ideal S3x16x8x2048x2048 .f32) (l w : FVec Ideal S3x16x8x2048 .f32)
    (g : Fin 3) (b : Fin 16) (t : Fin 2048) (h : Fin 8) (e : Fin 128) :
    mulf (broadcastInDim S3x16x2048x8x128 ![0, 1, 2, 3, 4] bcast_S3x16x2048x8x1_S3x16x2048x8x128_0_1_2_3_4 (broadcastInDim S3x16x2048x8x1 ![0, 1, 2, 3]
        bcast_S3x16x2048x8_S3x16x2048x8x1_0_1_2_3 (transpose S3x16x2048x8 [0, 1, 3, 2] (Host.divf w (broadcastInDim S3x16x8x2048 ![0, 1, 2, 3]
        bcast_S1x16x8x2048_S3x16x8x2048_0_1_2_3 (broadcastInDim S1x16x8x2048 ![1, 2, 3] bcast_S16x8x2048_S1x16x8x2048_1_2_3 (Host.reduceAdd (F := Ideal) w
        (constant S_ .f32 0x00000000#32) reducesTo_S3x16x8x2048_S16x8x2048_d0 h_S_)))) transposes_S3x16x8x2048_S3x16x2048x8_0_1_3_2)))
      (transpose S3x16x2048x8x128 [0, 1, 4, 2, 3] (Host.dotGeneral (F := Ideal) dot_S3x16x2048x8x128_S3x16x8x2048x2048_S3x16x8x128x2048_2_4_4_3_013_012 none
        (shapeCast _ (extractStridedSlice S3x16x2048x1024 ![0, 0, 0, 2048] v slices_S3x16x2048x3072_S3x16x2048x1024_0_0_0_2048) shapeCasts_S3x16x2048x1024_S3x16x2048x8x128)
        (Host.exp (subf s (broadcastInDim S3x16x8x2048x2048 ![0, 1, 2, 3, 4] bcast_S3x16x8x2048x1_S3x16x8x2048x2048_0_1_2_3_4
          (broadcastInDim S3x16x8x2048x1 ![0, 1, 2, 3] bcast_S3x16x8x2048_S3x16x8x2048x1_0_1_2_3 l)))))
        transposes_S3x16x8x128x2048_S3x16x2048x8x128_0_1_4_2_3) (ix5 g b t h e)
    = Ideal.div (w (ix4 g b h t)) (∑ g' : Fin 3, w (ix4 g' b h t))
        * ∑ x : Fin 2048, v (ix4 g b x ⟨2048 + (h * 128 + e), by omega⟩) * Ideal.exp (s (ix5 g b h t x) - l (ix4 g b h t)) := by
  refine (mul_in _ _ _).trans (congrArg₂ (· * ·) (read_w w g b t h e) ?_)
  refine (read_o v _ g b t h e).trans (Finset.sum_congr rfl fun (x : Fin 2048) _ => ?_)
  exact congrArg (v (ix4 g b x _) * ·) (read_p s l g b h t x)

/-- The result's term, from the stacked streams, the scores, the log denominators, the shares and the gate. -/
def result (v : FVec Ideal S3x16x2048x3072 .f32) (s : FVec Ideal S3x16x8x2048x2048 .f32) (l w : FVec Ideal S3x16x8x2048 .f32)
    (a : FVec Ideal S16x2048x4096 .bf16) : FVec Ideal S16x2048x1024 .bf16 :=
  truncf .bf16 (mulf (shapeCast S16x2048x1024 (Host.reduceAdd (F := Ideal) (mulf
      (broadcastInDim S3x16x2048x8x128 ![0, 1, 2, 3, 4] bcast_S3x16x2048x8x1_S3x16x2048x8x128_0_1_2_3_4 (broadcastInDim S3x16x2048x8x1 ![0, 1, 2, 3]
        bcast_S3x16x2048x8_S3x16x2048x8x1_0_1_2_3 (transpose S3x16x2048x8 [0, 1, 3, 2] (Host.divf w (broadcastInDim S3x16x8x2048 ![0, 1, 2, 3]
        bcast_S1x16x8x2048_S3x16x8x2048_0_1_2_3 (broadcastInDim S1x16x8x2048 ![1, 2, 3] bcast_S16x8x2048_S1x16x8x2048_1_2_3 (Host.reduceAdd (F := Ideal) w
        (constant S_ .f32 0x00000000#32) reducesTo_S3x16x8x2048_S16x8x2048_d0 h_S_)))) transposes_S3x16x8x2048_S3x16x2048x8_0_1_3_2)))
      (transpose S3x16x2048x8x128 [0, 1, 4, 2, 3] (Host.dotGeneral (F := Ideal) dot_S3x16x2048x8x128_S3x16x8x2048x2048_S3x16x8x128x2048_2_4_4_3_013_012 none
        (shapeCast _ (extractStridedSlice S3x16x2048x1024 ![0, 0, 0, 2048] v slices_S3x16x2048x3072_S3x16x2048x1024_0_0_0_2048) shapeCasts_S3x16x2048x1024_S3x16x2048x8x128)
        (Host.exp (subf s (broadcastInDim S3x16x8x2048x2048 ![0, 1, 2, 3, 4] bcast_S3x16x8x2048x1_S3x16x8x2048x2048_0_1_2_3_4
          (broadcastInDim S3x16x8x2048x1 ![0, 1, 2, 3] bcast_S3x16x8x2048_S3x16x8x2048x1_0_1_2_3 l)))))
        transposes_S3x16x8x128x2048_S3x16x2048x8x128_0_1_4_2_3))
      (constant S_ .f32 0x00000000#32) reducesTo_S3x16x2048x8x128_S16x2048x8x128_d0 h_S_) shapeCasts_S16x2048x8x128_S16x2048x1024)
    (extf .f32 (extractStridedSlice S16x2048x1024 ![0, 0, 3072] a slices_S16x2048x4096_S16x2048x1024_0_0_3072) bitsLt_bf16_f32)) bitsLt_bf16_f32

/-- The result, at an index. -/
theorem result_at (v : FVec Ideal S3x16x2048x3072 .f32) (s : FVec Ideal S3x16x8x2048x2048 .f32) (l w : FVec Ideal S3x16x8x2048 .f32)
    (a : FVec Ideal S16x2048x4096 .bf16) (b : Fin 16) (t : Fin 2048) (c : Fin 1024) (z : EReal)
    (hz : (∑ g : Fin 3, Ideal.div (w (ix4 g b ⟨c / 128, by omega⟩ t)) (∑ g' : Fin 3, w (ix4 g' b ⟨c / 128, by omega⟩ t))
        * ∑ x : Fin 2048, v (ix4 g b x ⟨2048 + (c / 128 * 128 + c % 128), by omega⟩)
            * Ideal.exp (s (ix5 g b ⟨c / 128, by omega⟩ t x) - l (ix4 g b ⟨c / 128, by omega⟩ t))) = z) :
    result v s l w a (ix3 b t c) = z * a (ix3 b t ⟨3072 + c, by omega⟩) := by
  refine (mul_out _ _ (ix3 b t c)).trans (congrArg₂ (· * ·) ?_ (gate_out a b t c))
  refine (cast_out _ b t c).trans ((sum_out _ b t _ _).trans ?_)
  exact (Finset.sum_congr rfl fun (g : Fin 3) _ => mul_at v s l w g b t ⟨c / 128, by omega⟩ ⟨c % 128, by omega⟩).trans hz

/-- The program's result is that term. -/
theorem val_eq : (val2 V0 (Proc.devRef .tc main_v99) : FVec Ideal S16x2048x1024 .bf16)
    = result (entry V0) (scored V0) (logden V0) (part V0) (V0 (Proc.devRef .tc main_arg0)) :=
  val2_main_v99 V0

end Cert.AttnRefRows

end
-- ==== Proof.AttnRefValue.lean ====
/- The value of the attention's reference: the merged attention of its arguments, index by index. -/
module

public import proofs.«01_k».proof.Proof.AttnRefRows

@[expose] public section

set_option maxRecDepth 16384

noncomputable section

namespace Cert.AttnRefValue

open Cert.AttnReferenceIdeal Cert.AttnReferenceIdeal.Gen Cert.AttnReferenceIdeal.Value Idealize.ShloMosaic Idealize.ShloMosaic.TcCoe Idealize.SL.Sem
open AttnMath (row Open sig D N D_pos)
open AttnFinal (chan Finite)
open AttnRefMath (score)
open AttnRefRows

variable (V0 : Valuation τ sig (Elt Ideal))

/-- The streams of the first group, and the gate. -/
abbrev a0 : S16x2048x4096.Idx → EReal := V0 (Proc.devRef .tc main_arg0)
/-- The streams of the second group. -/
abbrev a1 : S16x2048x3072.Idx → EReal := V0 (Proc.devRef .tc main_arg1)
/-- The streams of the third group. -/
abbrev a2 : S16x2048x3072.Idx → EReal := V0 (Proc.devRef .tc main_arg2)

/-- The groups' dilations. -/
def dl : Fin 3 → ℕ
  | 0 => 1
  | 1 => 4
  | 2 => 16

/-- The number of positions in a residue class of each group. -/
def ln : Fin 3 → ℕ
  | 0 => 2048
  | 1 => 512
  | 2 => 128

/-- A head's channels of each group. -/
def ch (g : Fin 3) (b : Fin 16) (off : ℕ) : ℕ → Fin 128 → ℝ :=
  match g with
  | 0 => chan (a0 V0) b off
  | 1 => chan (a1 V0) b off
  | 2 => chan (a2 V0) b off

/-- An entry that is a real is a channel's. -/
theorem chan_eq {w : ℕ} (a : (⟨3, ![16, 2048, w]⟩ : Shape).Idx → EReal) (f : Finite a) (b : Fin 16) (off r : ℕ) (e : Fin 128) (c : Fin w)
    (hr : r < 2048) (hc : c.val = off + e) : a (ix3 b ⟨r, hr⟩ c) = ((chan a b off r e : ℝ) : EReal) := by
  unfold chan
  have hw : off + e.val < w := by omega
  rw [dif_pos ⟨hr, hw⟩, show c = ⟨off + e, hw⟩ from Fin.ext hc]
  exact f _

/-- The word of the mask's fill is `-∞`. -/
theorem fill : Ideal.ofBits FTy.f32 4286578688#32 = ⊥ := by simp [Ideal.ofBits, Ideal.ieee]

/-- A query sees its own position. -/
theorem sees (g : Fin 3) (q : Fin 2048) : ∃ k : Fin 2048, Open (dl g) q k := ⟨q, by simp [Open]⟩

variable {V0} (f0 : Finite (a0 V0)) (f1 : Finite (a1 V0)) (f2 : Finite (a2 V0))

include f0 f1 f2

/-- The stacked streams hold every group's rows, in the order of their positions. -/
theorem stack (g : Fin 3) (b : Fin 16) (t : Fin 2048) (c : Fin 3072) (off : ℕ) (e : Fin 128) (hc : c.val = off + e) :
    entry V0 (ix4 g b t c) = ((ch V0 g b off (row (dl g) (ln g) t) e : ℝ) : EReal) := by
  match g with
  | 0 =>
    have hr : row 1 2048 t = t.val := by unfold row; omega
    refine (rows0 V0 b t c).trans ?_
    show _ = ((chan (a0 V0) b off (row 1 2048 t) e : ℝ) : EReal)
    rw [hr]
    exact chan_eq (a0 V0) f0 b off t e _ t.2 hc
  | 1 => exact (rows1 V0 b t c).trans (chan_eq (a1 V0) f1 b off _ e c _ hc)
  | 2 => exact (rows2 V0 b t c).trans (chan_eq (a2 V0) f2 b off _ e c _ hc)

/-- The scaled score of a query and a key. -/
theorem raw (g : Fin 3) (b : Fin 16) (h : Fin 8) (q k : Fin 2048) :
    (∑ x : Fin 128, entry V0 (ix4 g b q ⟨h * 128 + x, by omega⟩) * entry V0 (ix4 g b k ⟨1024 + (h * 128 + x), by omega⟩))
        * Ideal.log (Ideal.ofBits FTy.f32 1073741824#32)
      = ((sig (dl g) (ln g) (ch V0 g b (128 * h)) (ch V0 g b (1024 + 128 * h)) q k * Real.log 2 : ℝ) : EReal) := by
  rw [log_two, EReal.coe_mul]
  congr 1
  rw [Finset.sum_congr rfl fun (x : Fin 128) _ => congrArg₂ (· * ·)
    (stack f0 f1 f2 g b q ⟨h * 128 + x, by omega⟩ (128 * h) x (by simp [Nat.mul_comm]))
    (stack f0 f1 f2 g b k ⟨1024 + (h * 128 + x), by omega⟩ (1024 + 128 * h) x (by simp; omega))]
  simp only [← EReal.coe_mul]
  exact AttnMath.sum_coe _

/-- A masked score, from the mask's word and the scaled score. -/
theorem masked (g : Fin 3) (b : Fin 16) (h : Fin 8) (q k : Fin 2048) (x y : EReal) (w : BitVec 1)
    (hw : w = BitVec.ofBool (decide (k.val ≤ q.val ∧ q.val - k.val ≤ 128 * dl g ∧ (q.val - k.val) % dl g = 0)))
    (hx : x = ((sig (dl g) (ln g) (ch V0 g b (128 * h)) (ch V0 g b (1024 + 128 * h)) q k * Real.log 2 : ℝ) : EReal)) (hy : y = ⊥) :
    Scalar.select w x y = score (fun s : Fin 2048 => Open (dl g) q s) (sig (dl g) (ln g) (ch V0 g b (128 * h)) (ch V0 g b (1024 + 128 * h)) q) k := by
  subst hx hy
  exact select_score _ (Open (dl g) q k) Iff.rfl w hw _ _

/-- The reference's masked scores. -/
theorem scores (g : Fin 3) (b : Fin 16) (h : Fin 8) (q k : Fin 2048) :
    scored V0 (ix5 g b h q k)
      = score (fun s : Fin 2048 => Open (dl g) q s) (sig (dl g) (ln g) (ch V0 g b (128 * h)) (ch V0 g b (1024 + 128 * h)) q) k := by
  rw [scored_eq]
  refine (masked_at _ _ g b h q k).trans (masked f0 f1 f2 g b h q k _ _ _ ?_ (raw f0 f1 f2 g b h q k) fill)
  match g with
  | 0 => exact (read_cat0 _ _ _ q k).trans (mask_bit _ 128 1 q k (dist_eq V0 q k) (by norm_num) (by norm_num) (by norm_num))
  | 1 => exact (read_cat1 _ _ _ q k).trans (mask_bit _ 512 4 q k (dist_eq V0 q k) (by norm_num) (by norm_num) (by norm_num))
  | 2 => exact (read_cat2 _ _ _ q k).trans (mask_bit _ 2048 16 q k (dist_eq V0 q k) (by norm_num) (by norm_num) (by norm_num))

/-- A group's denominator. -/
abbrev dn (g : Fin 3) (b : Fin 16) (h : Fin 8) (q : Fin 2048) : ℝ :=
  D (dl g) (ln g) (ch V0 g b (128 * h)) (ch V0 g b (1024 + 128 * h)) q

/-- A group's weighted values. -/
abbrev nm (g : Fin 3) (b : Fin 16) (h : Fin 8) (q : Fin 2048) (e : Fin 128) : ℝ :=
  N (dl g) (ln g) (ch V0 g b (128 * h)) (ch V0 g b (1024 + 128 * h)) (ch V0 g b (2048 + 128 * h)) q e

/-- The greatest score of a row is a real. -/
theorem greatest_real (g : Fin 3) (b : Fin 16) (h : Fin 8) (q : Fin 2048) : ∃ M : ℝ, greatest V0 (ix4 g b h q) = (M : EReal) := by
  have hm : greatest V0 (ix4 g b h q) = Finset.fold max ⊥ (fun x : Fin 2048 => scored V0 (ix5 g b h q x)) Finset.univ := by
    rw [← fill]
    exact greatest_at V0 g b h q
  rw [hm]
  obtain ⟨k, hk⟩ := sees g q
  refine AttnRefMath.fold_real _ _ (fun x => ?_) ⟨k, Finset.mem_univ _, _, (scores f0 f1 f2 g b h q k).trans (if_pos hk)⟩
  by_cases hx : Open (dl g) q x
  · exact Or.inr ⟨_, (scores f0 f1 f2 g b h q x).trans (if_pos hx)⟩
  · exact Or.inl ((scores f0 f1 f2 g b h q x).trans (if_neg hx))

/-- The reference's log denominators. -/
theorem lse (g : Fin 3) (b : Fin 16) (h : Fin 8) (q : Fin 2048) :
    logden V0 (ix4 g b h q) = ((Real.log (dn (V0 := V0) g b h q) : ℝ) : EReal) := by
  obtain ⟨M, hM⟩ := greatest_real f0 f1 f2 g b h q
  have hl : logden V0 (ix4 g b h q)
      = greatest V0 (ix4 g b h q) + Ideal.log (∑ x : Fin 2048, Ideal.exp (scored V0 (ix5 g b h q x) - greatest V0 (ix4 g b h q))) :=
    logden_at V0 g b h q
  rw [hl, hM, Finset.sum_congr rfl fun (x : Fin 2048) _ => congrArg (fun z => Ideal.exp (z - (M : EReal))) (scores f0 f1 f2 g b h q x)]
  exact AttnRefMath.lse_eq _ _ M (sees g q)

/-- A group's share before the division: one real is subtracted from the three log denominators of a query. -/
theorem parts (b : Fin 16) (h : Fin 8) (q : Fin 2048) : ∃ M : ℝ, ∀ g : Fin 3,
    part V0 (ix4 g b h q) = Ideal.exp (((Real.log (dn (V0 := V0) g b h q) : ℝ) : EReal) - (M : EReal)) := by
  obtain ⟨M, hM⟩ := AttnRefMath.fold_real Finset.univ (fun x : Fin 3 => logden V0 (ix4 x b h q)) (fun x => Or.inr ⟨_, lse f0 f1 f2 x b h q⟩)
    ⟨0, Finset.mem_univ _, _, lse f0 f1 f2 0 b h q⟩
  refine ⟨M, fun g => ?_⟩
  refine (part_at V0 g b h q).trans ?_
  rw [fill, hM, lse f0 f1 f2]

/-- A group's output row. -/
theorem rows (g : Fin 3) (b : Fin 16) (t : Fin 2048) (h : Fin 8) (e : Fin 128) :
    (∑ x : Fin 2048, entry V0 (ix4 g b x ⟨2048 + (h * 128 + e), by omega⟩) * Ideal.exp (scored V0 (ix5 g b h t x) - logden V0 (ix4 g b h t)))
      = ((nm (V0 := V0) g b h t e / dn (V0 := V0) g b h t : ℝ) : EReal) := by
  rw [Finset.sum_congr rfl fun (x : Fin 2048) _ => congrArg₂ (· * ·)
    (stack f0 f1 f2 g b x ⟨2048 + (h * 128 + e), by omega⟩ (2048 + 128 * h) e (by simp; omega))
    (congrArg₂ (fun z w => Ideal.exp (z - w)) (scores f0 f1 f2 g b h t x) (lse f0 f1 f2 g b h t))]
  exact AttnRefMath.out_eq _ _ (fun s : Fin 2048 => ch V0 g b (2048 + 128 * h) (row (dl g) (ln g) s) e) (sees g t)

/-- The merged groups. -/
theorem merge (b : Fin 16) (t : Fin 2048) (h : Fin 8) (e : Fin 128) :
    (∑ g : Fin 3, Ideal.div (part V0 (ix4 g b h t)) (∑ g' : Fin 3, part V0 (ix4 g' b h t))
        * ∑ x : Fin 2048, entry V0 (ix4 g b x ⟨2048 + (h * 128 + e), by omega⟩) * Ideal.exp (scored V0 (ix5 g b h t x) - logden V0 (ix4 g b h t)))
      = ((AttnFinal.merged (a0 V0) (a1 V0) (a2 V0) b h t e : ℝ) : EReal) := by
  obtain ⟨M, hM⟩ := parts f0 f1 f2 b h t
  simp only [hM, rows f0 f1 f2]
  exact AttnRefMath.merge_eq (fun g => nm (V0 := V0) g b h t e) (fun g => dn (V0 := V0) g b h t) (fun g => D_pos _ _ _ _ _ t.2) M

/-- The reference's result, at an index. -/
theorem val (b : Fin 16) (t : Fin 2048) (c : Fin 1024) :
    (val2 V0 (Proc.devRef .tc main_v99) : FVec Ideal S16x2048x1024 .bf16) (ix3 b t c) = AttnFinal.out (a0 V0) (a1 V0) (a2 V0) b t c :=
  (congrFun (val_eq V0) (ix3 b t c)).trans (result_at _ _ _ _ _ b t c _ (merge f0 f1 f2 b t ⟨c / 128, by omega⟩ ⟨c % 128, by omega⟩))

end Cert.AttnRefValue

end
-- ==== Proof.AttnClaims.lean ====
/- The claims about the attention core. -/
module

public import proofs.«01_k».proof.Defs
public import proofs.«01_k».proof.Proof.Gen.AttnKernel.Frame
public import proofs.«01_k».proof.Proof.Gen.AttnKernelIdeal.Value
public import proofs.«01_k».proof.Proof.Gen.AttnReferenceIdeal.Run
public import proofs.«01_k».proof.Proof.AttnPre
public import proofs.«01_k».proof.Proof.AttnKernelValue
public import proofs.«01_k».proof.Proof.AttnRefValue
public import Idealize.ShloMosaic.Lib.Claim
public import Idealize.ShloMosaic.Lib.Quiescent

@[expose] public section

noncomputable section

namespace Cert.AttnClaims

open Idealize.ShloMosaic Idealize.ShloMosaic.TcCoe Idealize.SL.Sem Idealize.ShloMosaic.StableHlo

/-- The kernel runs, leaves its arguments as they were and its counters at zero. -/
theorem frame_kernel : Cert.quiescent_AttnKernel (hAttnKernel := Cert.AttnKernel.Gen.facts) :=
  fun m ρ _ => Cert.AttnKernel.Gen.frame m ρ

/-- The same of the idealized kernel. -/
theorem frame_kernelIdeal : Cert.quiescent_AttnKernelIdeal (hAttnKernelIdeal := Cert.AttnKernelIdeal.Gen.facts) :=
  fun m ρ _ => Cert.AttnKernelIdeal.Gen.frame m ρ

/-- The reference runs and leaves its arguments as they were; it declares no counters. -/
theorem frame_referenceIdeal :
    Cert.quiescent_AttnReferenceIdeal (hAttnReferenceIdeal := Cert.AttnReferenceIdeal.Gen.facts) := fun m ρ _ =>
  (θ_run _ _ _).mono (fun r h => ⟨fun c => (h c).2, sem_eq_zero_of_no_sems (by decide) r.2⟩)
    (Cert.AttnReferenceIdeal.Value.run (F := Ideal) m ρ)

/-- The one rewrite of the ideal pass names `1 / log 2`. -/
theorem preserves : Cert.preserves_AttnKernel_AttnKernelIdeal :=
  IdealRules.named_const.statement _ _ _ _ _ rfl

/-- The idealized kernel's run from arguments that meet the precondition. -/
theorem frame_kernelIdeal_pre :
    Cert.quiescent_AttnKernelIdeal_pre_finite (hAttnKernelIdeal := Cert.AttnKernelIdeal.Gen.facts) (hPre_finite := AttnPre.facts) :=
  fun m ρ _ => Cert.AttnKernelIdeal.Gen.frame m ρ

/-- The reference's run from arguments that meet the precondition. -/
theorem frame_referenceIdeal_pre :
    Cert.quiescent_AttnReferenceIdeal_pre_finite (hAttnReferenceIdeal := Cert.AttnReferenceIdeal.Gen.facts) (hPre_finite := AttnPre.facts) :=
  fun m ρ _ => frame_referenceIdeal m ρ trivial

/-- The kernel's run ends with the merged and gated attention of its arguments. -/
theorem run_kernel (m : (ℓ : Loc Cert.AttnKernelIdeal.nD Cert.AttnKernelIdeal.τ Cert.AttnKernelIdeal.sig) → Buf (Elt Ideal) ℓ)
    (g : Dev Cert.AttnKernelIdeal.nD → PrngReg) (hpre : Cert.Pre_AttnKernelIdeal_finite (hPre_finite := AttnPre.facts) m) :
    θ_run (Cert.AttnKernelIdeal.defs (F := Ideal)) (onTc (τ := Cert.AttnKernelIdeal.τ) (Cert.AttnKernelIdeal.main (F := Ideal))) ⟨m, fun _ => 0, g⟩
      (fun r => ∀ c : Dev Cert.AttnKernelIdeal.nD,
        r.2.mem ((c.tc : Thread Cert.AttnKernelIdeal.nD Cert.AttnKernelIdeal.τ).loc Cert.AttnKernelIdeal.main_v0)
          = (fun y : Cert.AttnKernelIdeal.S16x2048x1024.Idx => AttnFinal.out
              (m ((c.tc : Thread Cert.AttnKernelIdeal.nD Cert.AttnKernelIdeal.τ).loc Cert.AttnKernelIdeal.main_arg0))
              (m ((c.tc : Thread Cert.AttnKernelIdeal.nD Cert.AttnKernelIdeal.τ).loc Cert.AttnKernelIdeal.main_arg1))
              (m ((c.tc : Thread Cert.AttnKernelIdeal.nD Cert.AttnKernelIdeal.τ).loc Cert.AttnKernelIdeal.main_arg2)) (y 0) (y 1) (y 2))
        ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
        ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
        ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)) := by
  refine (θ_run _ _ _).mono (fun r h c => ?_) (Cert.AttnKernelIdeal.Value.run_blocks (F := Ideal) m g)
  have hf := AttnPre.finite _ _ _ (hpre c)
  exact ⟨((h c).1).trans (AttnKernelValue.final m c hf.1 hf.2.1 hf.2.2), (h c).2⟩

/-- The reference's result is the merged and gated attention of its arguments. -/
theorem value_reference (m' : (ℓ : Loc Cert.AttnReferenceIdeal.nD Cert.AttnReferenceIdeal.τ Cert.AttnReferenceIdeal.sig) → Buf (Elt Ideal) ℓ)
    (c : Dev Cert.AttnReferenceIdeal.nD) (a0 : Cert.AttnReferenceIdeal.S16x2048x4096.Idx → EReal) (a1 a2 : Cert.AttnReferenceIdeal.S16x2048x3072.Idx → EReal)
    (e0 : AttnRefValue.a0 (launchContents m' c) = a0) (e1 : AttnRefValue.a1 (launchContents m' c) = a1) (e2 : AttnRefValue.a2 (launchContents m' c) = a2)
    (f0 : AttnFinal.Finite a0) (f1 : AttnFinal.Finite a1) (f2 : AttnFinal.Finite a2) :
    (Cert.AttnReferenceIdeal.Value.val2 (F := Ideal) (launchContents m' c) (Proc.devRef .tc Cert.AttnReferenceIdeal.main_v99)
        : FVec Ideal Cert.AttnReferenceIdeal.S16x2048x1024 .bf16)
      = fun y : Cert.AttnReferenceIdeal.S16x2048x1024.Idx => AttnFinal.out a0 a1 a2 (y 0) (y 1) (y 2) := by
  subst e0 e1 e2
  funext y
  conv_lhs => rw [eq_ix3 y]
  exact AttnRefValue.val (V0 := launchContents m' c) f0 f1 f2 (y 0) (y 1) (y 2)

/-- Both runs end with the merged and gated attention of the arguments. -/
theorem algebraic :
    Cert.algebraic_AttnKernelIdeal_AttnReferenceIdeal_pre_finite (hAttnKernelIdeal := Cert.AttnKernelIdeal.Gen.facts)
      (hAttnReferenceIdeal := Cert.AttnReferenceIdeal.Gen.facts) (hPre_finite := AttnPre.facts) := by
  intro m g m' g' hpre hagree
  refine ⟨_, run_kernel m g hpre, ?_⟩
  refine (θ_run _ _ _).mono (fun r h c => ⟨((h c).1).trans ?_, (h c).2⟩)
    (Cert.AttnReferenceIdeal.Value.run (F := Ideal) m' g')
  have hf := AttnPre.finite _ _ _ (hpre c)
  refine (Cert.AttnReferenceIdeal.Value.val2_main_v99 (F := Ideal) (launchContents m' c)).symm.trans ?_
  exact value_reference m' c _ _ _ (hagree c).1 (hagree c).2.1 (hagree c).2.2 hf.1 hf.2.1 hf.2.2

end Cert.AttnClaims

end
-- ==== Proof.ProjMath.lean ====
/- The projection's arithmetic, row by row: the norm of a row, its product with a weight's column, a head's norm and rotation,
   and the gate. -/
module

public import Idealize.ShloMosaic.Lib.Pointwise

@[expose] public section

noncomputable section

namespace Cert.ProjMath

open Idealize.ShloMosaic

/-- The small number a mean square is moved by, as the programs write it. -/
def eps : EReal := Ideal.ofBits FTy.f32 0x358637BD#32

/-- A row over the root of its mean square, times a gain. -/
def normed {n : ℕ} (size : EReal) (x g : Fin n → EReal) (k : Fin n) : EReal :=
  x k * Ideal.rsqrt (Ideal.div (∑ i, x i * x i) size + eps) * g k

/-- The normed row of the residual stream times one column of the weights. -/
def proj (x g w : Fin 1024 → EReal) : EReal :=
  ∑ k, normed (Ideal.ofBits FTy.f32 0x44800000#32) x g k * w k

/-- The channel that a head's rotation brings to a channel. -/
def other (e : Fin 128) : Fin 128 := ⟨(e + 64) % 128, Nat.mod_lt _ (by decide)⟩

/-- One channel of a head, normed and rotated. -/
def head (y gain c s : Fin 128 → EReal) (e : Fin 128) : EReal :=
  normed (Ideal.ofBits FTy.f32 0x43000000#32) y gain e * c e + normed (Ideal.ofBits FTy.f32 0x43000000#32) y gain (other e) * s e

/-- A value times its logistic. -/
def silu (z : EReal) : EReal := z * Ideal.logistic z

/-- One column of a group's output at one row: queries and keys normed and rotated head by head, values as they are, the gate
    after its silu. `w` gives the weights' columns by number. -/
def out (w : ℕ → Fin 1024 → EReal) (qg kg c s : Fin 128 → EReal) (x g : Fin 1024 → EReal) (n : ℕ) : EReal :=
  if n < 2048 then
    head (fun e => proj x g (w (128 * (n / 128) + e))) (if n < 1024 then qg else kg) c s ⟨n % 128, Nat.mod_lt _ (by decide)⟩
  else if n < 3072 then proj x g (w n)
  else silu (proj x g (w n))

/-- A weight's columns by number. -/
def cols {n : ℕ} (w : (⟨2, ![1024, n]⟩ : Shape).Idx → EReal) (j : ℕ) (k : Fin 1024) : EReal := if h : j < n then w (ix2 k ⟨j, h⟩) else 0

/-- A table's row. -/
def row {m n : ℕ} (a : (⟨2, ![m, n]⟩ : Shape).Idx → EReal) (r : Fin m) (k : Fin n) : EReal := a (ix2 r k)

end Cert.ProjMath

end
-- ==== Proof.ProjTile.lean ====
/- One tile of the projection kernel's columns, read at a row and a column. -/
module

public import proofs.«01_k».proof.Proof.ProjMath
public import proofs.«01_k».proof.Proof.Gen.ProjKernelIdeal.Skeleton
public import Idealize.ShloMosaic.Lib.Pointwise

@[expose] public section

set_option maxRecDepth 16384

noncomputable section

namespace Cert.ProjTile

open Cert.ProjKernelIdeal Cert.ProjKernelIdeal.Gen Idealize.ShloMosaic Idealize.ShloMosaic.TcCoe
open ProjMath

/-- A head's rows normed, as the kernel computes them. -/
def nz (z : FVec Ideal S256x128 .f32) (gain : FVec Ideal S1x128 .f32) : FVec Ideal S256x128 .f32 :=
  mulf (mulf z (broadcastTo S256x128 (rsqrt (addf (divf (shapeCast S256x1 (multiReduction .add [1] S256 (mulf z z) 0x00000000#32
    reduces_S256x128_S256 (.inl rfl) rfl) shapeCasts_S256_S256x1) (broadcast S256x1 (Scalar.ofBits .f32 0x43000000#32)))
    (broadcast S256x1 (Scalar.ofBits .f32 0x358637BD#32)))) broadcasts_S256x1_S256x128)) (broadcastTo S256x128 gain broadcasts_S1x128_S256x128)

/-- A head's rows normed and rotated. -/
def nrope (z : FVec Ideal S256x128 .f32) (gain : FVec Ideal S1x128 .f32) (cos sin : FVec Ideal S256x128 .f32) : FVec Ideal S256x128 .f32 :=
  addf (mulf (nz z gain) cos) (mulf (dynamicRotate 1 64#32 none (nz z gain) rotates_S256x128_d1) sin)

/-- The product of the normed rows with 512 columns of the weights. -/
def prod (h : FVec Ideal S256x1024 .bf16) (w : FVec Ideal S1024x512 .bf16) : FVec Ideal S256x512 .f32 :=
  matmul dot_S256x1024_S1024x512_S256x512_1_0_0_1_n_n none h w (constant S256x512 .f32 0x00000000#32)

/-- A tile of queries or keys: its four heads, each normed and rotated. -/
def ropes (h : FVec Ideal S256x1024 .bf16) (w : FVec Ideal S1024x512 .bf16) (gain : FVec Ideal S1x128 .f32) (cos sin : FVec Ideal S256x128 .f32) :
    FVec Ideal S256x512 .bf16 :=
  truncf .bf16 (concatenate S256x512 1
    [⟨S256x128, nrope (extractStridedSlice S256x128 ![0, 0] (prod h w) slices_S256x512_o0_0_S256x128) gain cos sin⟩,
      ⟨S256x128, nrope (extractStridedSlice S256x128 ![0, 128] (prod h w) slices_S256x512_o0_128_S256x128) gain cos sin⟩,
      ⟨S256x128, nrope (extractStridedSlice S256x128 ![0, 256] (prod h w) slices_S256x512_o0_256_S256x128) gain cos sin⟩,
      ⟨S256x128, nrope (extractStridedSlice S256x128 ![0, 384] (prod h w) slices_S256x512_o0_384_S256x128) gain cos sin⟩]
    concatenates_S256x128_S256x128_S256x128_S256x128_S256x512_d1) bitsLt_bf16_f32

theorem nz_apply (z : FVec Ideal S256x128 .f32) (gain : FVec Ideal S1x128 .f32) (r : Fin 256) (e : Fin 128) :
    nz z gain (ix2 r e) = normed (Ideal.ofBits FTy.f32 0x43000000#32) (fun e => z (ix2 r e)) (fun e => gain (ix2 0 e)) e := by
  unfold nz normed eps
  pointwise

theorem rotate_apply (z : FVec Ideal S256x128 .f32) (r : Fin 256) (e : Fin 128) :
    dynamicRotate 1 64#32 none z rotates_S256x128_d1 (ix2 r e) = z (ix2 r (other e)) := by
  unfold other
  pointwise
  exact congrArg (fun i => z (ix2 r i)) (Fin.ext (show (e.val + 128 - 64) % 128 = (e.val + 64) % 128 by omega))

/-- A head at a row and a channel. -/
theorem nrope_apply (z : FVec Ideal S256x128 .f32) (gain : FVec Ideal S1x128 .f32) (cos sin : FVec Ideal S256x128 .f32) (r : Fin 256) (e : Fin 128) :
    nrope z gain cos sin (ix2 r e)
      = head (fun e => z (ix2 r e)) (fun e => gain (ix2 0 e)) (fun e => cos (ix2 r e)) (fun e => sin (ix2 r e)) e := by
  show nz z gain (ix2 r e) * cos (ix2 r e) + dynamicRotate 1 64#32 none (nz z gain) rotates_S256x128_d1 (ix2 r e) * sin (ix2 r e) = _
  rw [rotate_apply, nz_apply, nz_apply]
  rfl

/-- The product at a row and a column. -/
theorem prod_apply (h : FVec Ideal S256x1024 .bf16) (w : FVec Ideal S1024x512 .bf16) (r : Fin 256) (c : Fin 512) :
    prod h w (ix2 r c) = ∑ k : Fin 1024, h (ix2 r k) * w (ix2 k c) := by
  unfold prod
  pointwise

theorem join_apply (a b c d : FVec Ideal S256x128 .f32) (r : Fin 256) (j : Fin 4) (e : Fin 128) :
    truncf (F := Ideal) .bf16 (concatenate S256x512 1 [⟨S256x128, a⟩, ⟨S256x128, b⟩, ⟨S256x128, c⟩, ⟨S256x128, d⟩]
      concatenates_S256x128_S256x128_S256x128_S256x128_S256x512_d1) bitsLt_bf16_f32 (ix2 r ⟨128 * j + e, by omega⟩)
      = (![a, b, c, d] j : FVec Ideal S256x128 .f32) (ix2 r e) := by
  fin_cases j
  · show _ = a (ix2 r e)
    pointwise
  · show _ = b (ix2 r e)
    pointwise
  · show _ = c (ix2 r e)
    pointwise
    rw [dif_neg (by omega), dif_neg (by omega), dif_pos (by omega)]
    exact congrArg (fun i => c (ix2 r i)) (Fin.ext (show 256 + e.val - 128 - 128 = e.val by omega))
  · show _ = d (ix2 r e)
    pointwise
    rw [dif_neg (by omega), dif_neg (by omega), dif_neg (by omega)]
    exact congrArg (fun i => d (ix2 r i)) (Fin.ext (show 384 + e.val - 128 - 128 - 128 = e.val by omega))

/-- A head's columns of a product. -/
theorem slice_apply (y : FVec Ideal S256x512 .f32) (r : Fin 256) (j : Fin 4) (e : Fin 128) :
    (![extractStridedSlice S256x128 ![0, 0] y slices_S256x512_o0_0_S256x128, extractStridedSlice S256x128 ![0, 128] y slices_S256x512_o0_128_S256x128,
      extractStridedSlice S256x128 ![0, 256] y slices_S256x512_o0_256_S256x128,
      extractStridedSlice S256x128 ![0, 384] y slices_S256x512_o0_384_S256x128] j : FVec Ideal S256x128 .f32) (ix2 r e)
      = y (ix2 r ⟨128 * j + e, by omega⟩) := by
  fin_cases j
  · show extractStridedSlice S256x128 ![0, 0] y slices_S256x512_o0_0_S256x128 (ix2 r e) = _
    pointwise
  · show extractStridedSlice S256x128 ![0, 128] y slices_S256x512_o0_128_S256x128 (ix2 r e) = _
    pointwise
  · show extractStridedSlice S256x128 ![0, 256] y slices_S256x512_o0_256_S256x128 (ix2 r e) = _
    pointwise
  · show extractStridedSlice S256x128 ![0, 384] y slices_S256x512_o0_384_S256x128 (ix2 r e) = _
    pointwise

/-- A tile of queries or keys at a row and a head's channel. -/
theorem ropes_apply (h : FVec Ideal S256x1024 .bf16) (w : FVec Ideal S1024x512 .bf16) (gain : FVec Ideal S1x128 .f32) (cos sin : FVec Ideal S256x128 .f32)
    (r : Fin 256) (j : Fin 4) (e : Fin 128) :
    ropes h w gain cos sin (ix2 r ⟨128 * j + e, by omega⟩)
      = head (fun e => prod h w (ix2 r ⟨128 * j + e, by omega⟩)) (fun e => gain (ix2 0 e)) (fun e => cos (ix2 r e)) (fun e => sin (ix2 r e)) e := by
  refine (join_apply _ _ _ _ r j e).trans ?_
  simp only [← slice_apply (prod h w) r j]
  fin_cases j
  · exact nrope_apply _ _ _ _ r e
  · exact nrope_apply _ _ _ _ r e
  · exact nrope_apply _ _ _ _ r e
  · exact nrope_apply _ _ _ _ r e

/-- A tile of values at a row and a column. -/
def vals (h : FVec Ideal S256x1024 .bf16) (w : FVec Ideal S1024x512 .bf16) : FVec Ideal S256x512 .bf16 :=
  truncf .bf16 (prod h w) bitsLt_bf16_f32

/-- A tile of the gate. -/
def gates (h : FVec Ideal S256x1024 .bf16) (w : FVec Ideal S1024x512 .bf16) : FVec Ideal S256x512 .bf16 :=
  truncf .bf16 (mulf (prod h w) (logistic (prod h w))) bitsLt_bf16_f32

section

variable (h : FVec Ideal S256x1024 .bf16) (w : FVec Ideal S1024x512 .bf16) (gain : FVec Ideal S1x128 .f32) (cos sin : FVec Ideal S256x128 .f32)
variable (r : Fin 256) (c : Fin 512) (n0 : ℕ) (W : ℕ → Fin 1024 → EReal) (qg kg C S : Fin 128 → EReal) (X g : Fin 1024 → EReal)
variable (hh : ∀ k, h (ix2 r k) = normed (Ideal.ofBits FTy.f32 0x44800000#32) X g k) (hw : ∀ (k : Fin 1024) (c : Fin 512), w (ix2 k c) = W (n0 + c) k)

include hh hw

/-- The product's entries are the projection's. -/
theorem prod_out : prod h w (ix2 r c) = proj X g (W (n0 + c)) := by
  rw [prod_apply]
  exact Finset.sum_congr rfl fun k _ => by rw [hh, hw]

/-- A tile of queries or keys holds the group's output. -/
theorem ropes_out (hn : n0 % 512 = 0) (hb : n0 < 2048) (hg : ∀ e, gain (ix2 0 e) = (if n0 < 1024 then qg else kg) e)
    (hc : ∀ e, cos (ix2 r e) = C e) (hs : ∀ e, sin (ix2 r e) = S e) :
    ropes h w gain cos sin (ix2 r c) = out W qg kg C S X g (n0 + c) := by
  obtain ⟨j, e, rfl⟩ : ∃ (j : Fin 4) (e : Fin 128), c = ⟨128 * j + e, by omega⟩ :=
    ⟨⟨c / 128, by omega⟩, ⟨c % 128, Nat.mod_lt _ (by decide)⟩, Fin.ext (show c.val = 128 * (c.val / 128) + c.val % 128 by omega)⟩
  rw [ropes_apply]
  unfold out
  have h1 : n0 + (128 * j.val + e.val) < 2048 := by omega
  have h2 : (n0 + (128 * j.val + e.val) < 1024) = (n0 < 1024) := propext (by omega)
  have h3 : 128 * ((n0 + (128 * j.val + e.val)) / 128) = n0 + 128 * j.val := by omega
  have h4 : (⟨(n0 + (128 * j.val + e.val)) % 128, Nat.mod_lt _ (by decide)⟩ : Fin 128) = e := Fin.ext (by simp only; omega)
  simp only [h1, h2, h3, h4, if_true]
  rw [show (fun e => gain (ix2 0 e)) = (if n0 < 1024 then qg else kg) from funext hg, show (fun e => cos (ix2 r e)) = C from funext hc,
    show (fun e => sin (ix2 r e)) = S from funext hs]
  congr 1
  funext e'
  rw [prod_out h w r _ n0 W X g hh hw, Nat.add_assoc]

/-- A tile of values holds the group's output. -/
theorem vals_out (hb : 2048 ≤ n0) (hb' : n0 + 512 ≤ 3072) : vals h w (ix2 r c) = out W qg kg C S X g (n0 + c) := by
  unfold out
  rw [if_neg (by omega), if_pos (by omega)]
  exact prod_out h w r c n0 W X g hh hw

/-- A tile of the gate holds the group's output. -/
theorem gates_out (hb : 3072 ≤ n0) : gates h w (ix2 r c) = out W qg kg C S X g (n0 + c) := by
  unfold out silu
  rw [if_neg (by omega), if_neg (by omega), ← prod_out h w r c n0 W X g hh hw]
  rfl

end

end Cert.ProjTile

end
-- ==== Proof.ProjScratch.lean ====
/- The projection kernel's scratch rows: what is stored there, and what the strided loads gather from it. -/
module

public import proofs.«01_k».proof.Proof.ProjTile
public import proofs.«01_k».proof.Proof.Gen.ProjKernelIdeal.Frame
public import Idealize.ShloMosaic.Lib.Pipeline.ReadBack

@[expose] public section

set_option maxRecDepth 16384

noncomputable section

namespace Cert.ProjScratch

open Cert.ProjKernelIdeal Cert.ProjKernelIdeal.Gen Idealize.ShloMosaic Idealize.ShloMosaic.TcCoe

/-- The normed rows, as they lie in the scratch buffer: one slab of 128 channels after another. -/
def Sl (H : FVec Ideal S256x1024 .f32) (y : S8x256x128.Idx) : EReal := H (ix2 (y 1) ⟨128 * (y 0).val + (y 2).val, by
  have b0 : (y 0).val < 8 := (y 0).2
  have b2 : (y 2).val < 128 := (y 2).2
  omega⟩)

/-- A slab of 128 channels of the normed rows. -/
theorem slab_apply (H : FVec Ideal S256x1024 .f32) (X : FVec Ideal S256x1024 .f32) (G : FVec Ideal S1x1024 .f32) (hX : H = k0_pay2 (F := Ideal) X G)
    (j : Fin 8) (i : Fin 256) (e : Fin 128) :
    (![k0_pay3 (F := Ideal) X G, k0_pay4 (F := Ideal) X G, k0_pay5 (F := Ideal) X G, k0_pay6 (F := Ideal) X G, k0_pay8 (F := Ideal) (k0_pay7 (F := Ideal) X G),
      k0_pay9 (F := Ideal) H, k0_pay10 (F := Ideal) H, k0_pay11 (F := Ideal) H] j : FVec Ideal S1x256x128 .f32) (ix3 0 i e)
      = H (ix2 i ⟨128 * j + e, by omega⟩) := by
  have key : ∀ (o : ℕ) (hs : Shape.Slices S256x1024 ![0, o] S256x128) (ho : o + 128 ≤ 1024),
      shapeCast S1x256x128 (extractStridedSlice S256x128 ![0, o] H hs) shapeCasts_S256x128_S1x256x128 (ix3 0 i e) = H (ix2 i ⟨o + e, by omega⟩) := by
    intro o hs ho
    pointwise
  subst hX
  fin_cases j
  · exact (key 0 slices_S256x1024_o0_0_S256x128 (by decide))
  · exact key 128 slices_S256x1024_o0_128_S256x128 (by decide)
  · exact key 256 slices_S256x1024_o0_256_S256x128 (by decide)
  · exact key 384 slices_S256x1024_o0_384_S256x128 (by decide)
  · exact key 512 slices_S256x1024_o0_512_S256x128 (by decide)
  · exact key 640 slices_S256x1024_o0_640_S256x128 (by decide)
  · exact key 768 slices_S256x1024_o0_768_S256x128 (by decide)
  · exact key 896 slices_S256x1024_o0_896_S256x128 (by decide)

/-- A slab stored is a block of the scratch buffer's contents. -/
theorem piece (H : FVec Ideal S256x1024 .f32) (j : Fin 8) (inb) (p : FVec Ideal S1x256x128 .f32)
    (hp : ∀ (i : Fin 256) (e : Fin 128), p (ix3 0 i e) = H (ix2 i ⟨128 * j + e, by omega⟩)) (x : S1x256x128.Idx) :
    p x = Sl H ((Rect.unit (s := S8x256x128) ![j, 0, 0] S1x256x128.size inb).emb x) := by
  have hx : x = ix3 0 (x 1) (x 2) := by
    funext k
    fin_cases k
    · exact Subsingleton.elim (α := Fin 1) _ _
    · rfl
    · rfl
  rw [hx]
  refine (hp (x 1) (x 2)).trans (congrArg H ?_)
  funext k
  fin_cases k
  · exact Fin.ext (show (x 1).val = 0 + 1 * (x 1).val by omega)
  · exact Fin.ext (show 128 * j.val + (x 2).val = 128 * (j.val + 1 * 0) + (0 + 1 * (x 2).val) by omega)

section

variable (c : Dev nD) (arg1 : Memref sig Kind.tc Space.vmem S256x1024 EltTy.f32) (harg1 : arg1.IsWhole)
  (arg2 : Memref sig Kind.tc Space.vmem S1x1024 EltTy.f32) (harg2 : arg2.IsWhole)
  (x0 : Vec Ideal S256x1024 .f32) (x1 : Vec Ideal S1x1024 .f32)

/-- The normed rows. -/
abbrev hid : FVec Ideal S256x1024 .f32 := kernelRun0_A.sl.r (F := Ideal) c arg1 harg1 arg2 harg2 x0 x1

/-- The stores into the scratch buffer. -/
abbrev stores := kernelRun0_A.sl.HS0_8 (F := Ideal) c arg1 harg1 arg2 harg2 x0 x1

/-- They are the slabs of the normed rows. -/
theorem stores_pieces : View.PiecesOf (Sl (hid c arg1 harg1 arg2 harg2 x0 x1)) (stores c arg1 harg1 arg2 harg2 x0 x1) := by
  have key := slab_apply (hid c arg1 harg1 arg2 harg2 x0 x1) _ _ rfl
  unfold stores kernelRun0_A.sl.HS0_8
  refine ⟨?_, ?_, ?_, ?_, ?_, ?_, ?_, ?_, trivial⟩
  · exact piece _ 7 inb_S8x256x128_S1x256x128_7_0_0 _ (key 7)
  · exact piece _ 6 inb_S8x256x128_S1x256x128_6_0_0 _ (key 6)
  · exact piece _ 5 inb_S8x256x128_S1x256x128_5_0_0 _ (key 5)
  · exact piece _ 4 inb_S8x256x128_S1x256x128_4_0_0 _ (key 4)
  · exact piece _ 3 inb_S8x256x128_S1x256x128_3_0_0 _ (key 3)
  · exact piece _ 2 inb_S8x256x128_S1x256x128_2_0_0 _ (key 2)
  · exact piece _ 1 inb_S8x256x128_S1x256x128_1_0_0 _ (key 1)
  · exact piece _ 0 inb_S8x256x128_S1x256x128_0_0_0 _ (key 0)

/-- The rectangle of one slab. -/
def rc (j : Fin 8) : Rect S8x256x128 := Rect.unit ![j, 0, 0] S1x256x128.size (by intro a; fin_cases a <;> simp <;> omega)

/-- They reach every place of the scratch buffer. -/
theorem stores_cover (y : S8x256x128.Idx) : ∃ p ∈ stores c arg1 harg1 arg2 harg2 x0 x1, y ∈ p.1.set := by
  have hm : ∀ j : Fin 8, rc j ∈ (stores c arg1 harg1 arg2 harg2 x0 x1).map Sigma.fst := by
    have hl : (stores c arg1 harg1 arg2 harg2 x0 x1).map Sigma.fst = [rc 7, rc 6, rc 5, rc 4, rc 3, rc 2, rc 1, rc 0] := rfl
    intro j
    rw [hl]
    fin_cases j <;> simp
  obtain ⟨p, hp, he⟩ := List.mem_map.1 (hm (y 0))
  refine ⟨p, hp, ?_⟩
  rw [he]
  refine (LoadRect.mem_set _).2 fun a => ?_
  fin_cases a
  · exact ⟨0, Nat.one_pos, rfl⟩
  · exact ⟨(y 1).val, (y 1).2, by simp [rc, Rect.unit]⟩
  · exact ⟨(y 2).val, (y 2).2, by simp [rc, Rect.unit]⟩

/-- A strided load of a slab: its rows at the stride. -/
theorem taken (arg13 : Memref sig Kind.tc Space.vmem S8x256x128 EltTy.f32) (m s o : ℕ) (j : Fin 8)
    (inb : ∀ k, (![m, 128] : Fin 2 → ℕ) k = 0 ∨ (![o, 0] : Fin 2 → ℕ) k + (![s, 1] : Fin 2 → ℕ) k * ((![m, 128] : Fin 2 → ℕ) k - 1) < S256x128.size k)
    (inb' h0 hs h1 hR) (i : Fin m) (e : Fin 128) (hi : o + s * i < 256) :
    LoadRect.valAlong (lr := ({ off := ![o, 0], size := ![m, 128], stride := ![s, 1], inb := inb } : LoadRect S256x128)) hR
      (arg13.view.readCov (stores c arg1 harg1 arg2 harg2 x0 x1)
        ((Rect.unit (s := S8x256x128) ![j, 0, 0] S1x256x128.size inb').withinL
          (({ off := ![o, 0], size := ![m, 128], stride := ![s, 1], inb := inb } : LoadRect S256x128).consLift ![1, 256, 128] h0 hs) h1)) (ix2 i e)
      = hid c arg1 harg1 arg2 harg2 x0 x1 (ix2 ⟨o + s * i, hi⟩ ⟨128 * j + e, by omega⟩) := by
  have hx : Shape.reshapeEquiv hR (ix2 i e) = Fin.cons ⟨0, Nat.one_pos⟩ (ix2 i e) := Shape.reshapeEquiv_cons_one (d := ![m, 128]) hR (ix2 i e)
  refine (congrArg (arg13.view.readCov (stores c arg1 harg1 arg2 harg2 x0 x1) _) hx).trans ?_
  unfold View.readCov
  rw [View.readAt_apply]
  rw [View.read_writes_apply_of_pieces _ _ _ _ (stores_pieces c arg1 harg1 arg2 harg2 x0 x1).mem _ (stores_cover c arg1 harg1 arg2 harg2 x0 x1 _)]
  refine congrArg (hid c arg1 harg1 arg2 harg2 x0 x1) ?_
  funext k
  fin_cases k
  · exact Fin.ext (show 0 + o + s * i.val = o + s * i.val by omega)
  · exact Fin.ext (show 128 * (j.val + 0 + 1 * 0) + (0 + 0 + 1 * e.val) = 128 * j.val + e.val by omega)

end

/-- The row gathered to a place by a stride of 4. -/
def at4 (r : Fin 256) : Fin 256 := ⟨4 * (r.val % 64) + r.val / 64, by omega⟩

/-- The row gathered to a place by a stride of 16. -/
def at16 (r : Fin 256) : Fin 256 := ⟨16 * (r.val % 16) + r.val / 16, by omega⟩

/-- Four strided loads one after another hold the rows gathered by a stride of 4. -/
theorem cat4 (a : Fin 4 → FVec Ideal S64x128 .f32) (P : Fin 256 → Fin 128 → EReal)
    (h : ∀ (n : Fin 4) (i : Fin 64) (e : Fin 128), a n (ix2 i e) = P ⟨n + 4 * i, by omega⟩ e) (hc) (r : Fin 256) (e : Fin 128) :
    concatenate S256x128 0 [⟨S64x128, a 0⟩, ⟨S64x128, a 1⟩, ⟨S64x128, a 2⟩, ⟨S64x128, a 3⟩] hc (ix2 r e) = P (at4 r) e := by
  refine (concatenate_ofFn_apply (t := S256x128) (s₁ := S64x128) 0 a hc rfl 64 rfl (ix2 r e) ⟨r.val / 64, by omega⟩ rfl
    (ix2 ⟨r.val % 64, Nat.mod_lt _ (by decide)⟩ e) rfl ?_).trans ?_
  · intro b hb
    fin_cases b
    · exact absurd rfl hb
    · rfl
  · rw [h]
    exact congrArg (fun i => P i e) (Fin.ext (show r.val / 64 + 4 * (r.val % 64) = 4 * (r.val % 64) + r.val / 64 by omega))

/-- Sixteen strided loads one after another hold the rows gathered by a stride of 16. -/
theorem cat16 (a : Fin 16 → FVec Ideal S16x128 .f32) (P : Fin 256 → Fin 128 → EReal)
    (h : ∀ (n : Fin 16) (i : Fin 16) (e : Fin 128), a n (ix2 i e) = P ⟨n + 16 * i, by omega⟩ e) (hc) (r : Fin 256) (e : Fin 128) :
    concatenate S256x128 0 [⟨S16x128, a 0⟩, ⟨S16x128, a 1⟩, ⟨S16x128, a 2⟩, ⟨S16x128, a 3⟩, ⟨S16x128, a 4⟩, ⟨S16x128, a 5⟩, ⟨S16x128, a 6⟩, ⟨S16x128, a 7⟩,
      ⟨S16x128, a 8⟩, ⟨S16x128, a 9⟩, ⟨S16x128, a 10⟩, ⟨S16x128, a 11⟩, ⟨S16x128, a 12⟩, ⟨S16x128, a 13⟩, ⟨S16x128, a 14⟩, ⟨S16x128, a 15⟩] hc (ix2 r e)
      = P (at16 r) e := by
  refine (concatenate_ofFn_apply (t := S256x128) (s₁ := S16x128) 0 a hc rfl 16 rfl (ix2 r e) ⟨r.val / 16, by omega⟩ rfl
    (ix2 ⟨r.val % 16, Nat.mod_lt _ (by decide)⟩ e) rfl ?_).trans ?_
  · intro b hb
    fin_cases b
    · exact absurd rfl hb
    · rfl
  · rw [h]
    exact congrArg (fun i => P i e) (Fin.ext (show r.val / 16 + 16 * (r.val % 16) = 16 * (r.val % 16) + r.val / 16 by omega))

/-- Eight slabs side by side. -/
theorem lanes (a : Fin 8 → FVec Ideal S256x128 .f32) (Q : Fin 1024 → EReal) (r : Fin 256)
    (h : ∀ (j : Fin 8) (e : Fin 128), a j (ix2 r e) = Q ⟨128 * j + e, by omega⟩) (hc) (k : Fin 1024) :
    truncf (F := Ideal) .bf16 (concatenate S256x1024 1 [⟨S256x128, a 0⟩, ⟨S256x128, a 1⟩, ⟨S256x128, a 2⟩, ⟨S256x128, a 3⟩, ⟨S256x128, a 4⟩, ⟨S256x128, a 5⟩,
      ⟨S256x128, a 6⟩, ⟨S256x128, a 7⟩] hc) bitsLt_bf16_f32 (ix2 r k) = Q k := by
  refine (concatenate_ofFn_apply (t := S256x1024) (s₁ := S256x128) 1 a hc rfl 128 rfl (ix2 r k) ⟨k.val / 128, by omega⟩ rfl
    (ix2 r ⟨k.val % 128, Nat.mod_lt _ (by decide)⟩) rfl ?_).trans ?_
  · intro b hb
    fin_cases b
    · rfl
    · exact absurd rfl hb
  · rw [h]
    exact congrArg Q (Fin.ext (show 128 * (k.val / 128) + k.val % 128 = k.val by omega))

end Cert.ProjScratch

end
-- ==== Proof.ProjGather.lean ====
/- What the projection kernel gathers at a stride: the normed rows and the two rotation tables. -/
module

public import proofs.«01_k».proof.Proof.ProjScratch

@[expose] public section

set_option maxRecDepth 16384

noncomputable section

namespace Cert.ProjScratch

open Cert.ProjKernelIdeal Cert.ProjKernelIdeal.Gen Idealize.ShloMosaic Idealize.ShloMosaic.TcCoe

/-- The places of a strided load: `m` rows from row `o`, every `s`-th. -/
def str (m s o : ℕ) (ho : o + s * (m - 1) < 256) : LoadRect S256x128 where
  off := ![o, 0]
  size := ![m, 128]
  stride := ![s, 1]
  inb := by
    intro k
    right
    fin_cases k
    · exact ho
    · exact (by decide : 0 + 1 * (128 - 1) < 128)

/-- Four pieces one after another. -/
def stack4 (a : Fin 4 → FVec Ideal S64x128 .f32) : FVec Ideal S256x128 .f32 :=
  concatenate S256x128 0 [⟨S64x128, a 0⟩, ⟨S64x128, a 1⟩, ⟨S64x128, a 2⟩, ⟨S64x128, a 3⟩] concatenates_S64x128_S64x128_S64x128_S64x128_S256x128_d0

/-- Sixteen pieces one after another. -/
def stack16 (a : Fin 16 → FVec Ideal S16x128 .f32) : FVec Ideal S256x128 .f32 :=
  concatenate S256x128 0 [⟨S16x128, a 0⟩, ⟨S16x128, a 1⟩, ⟨S16x128, a 2⟩, ⟨S16x128, a 3⟩, ⟨S16x128, a 4⟩, ⟨S16x128, a 5⟩, ⟨S16x128, a 6⟩, ⟨S16x128, a 7⟩, ⟨S16x128, a 8⟩, ⟨S16x128, a 9⟩, ⟨S16x128, a 10⟩, ⟨S16x128, a 11⟩, ⟨S16x128, a 12⟩, ⟨S16x128, a 13⟩, ⟨S16x128, a 14⟩, ⟨S16x128, a 15⟩]
    concatenates_S16x128_S16x128_S16x128_S16x128_S16x128_S16x128_S16x128_S16x128_S16x128_S16x128_S16x128_S16x128_S16x128_S16x128_S16x128_S16x128_S256x128_d0

theorem b4 (n : Fin 4) : n.val + 4 * (64 - 1) < 256 := by omega

theorem b16 (n : Fin 16) : n.val + 16 * (16 - 1) < 256 := by omega

/-- Four strided pieces hold the gathered rows. -/
theorem stack4_apply (a : Fin 4 → FVec Ideal S64x128 .f32) (P : Fin 256 → Fin 128 → EReal)
    (h : ∀ (n : Fin 4) (i : Fin 64) (e : Fin 128), a n (ix2 i e) = P ⟨n + 4 * i, by omega⟩ e) (r : Fin 256) (e : Fin 128) :
    stack4 a (ix2 r e) = P (at4 r) e := cat4 a P h _ r e

/-- Sixteen strided pieces hold the gathered rows. -/
theorem stack16_apply (a : Fin 16 → FVec Ideal S16x128 .f32) (P : Fin 256 → Fin 128 → EReal)
    (h : ∀ (n : Fin 16) (i : Fin 16) (e : Fin 128), a n (ix2 i e) = P ⟨n + 16 * i, by omega⟩ e) (r : Fin 256) (e : Fin 128) :
    stack16 a (ix2 r e) = P (at16 r) e := cat16 a P h _ r e

section

variable (c : Dev nD) (arg1 : Memref sig Kind.tc Space.vmem S256x1024 EltTy.f32) (harg1 : arg1.IsWhole)
  (arg2 : Memref sig Kind.tc Space.vmem S1x1024 EltTy.f32) (harg2 : arg2.IsWhole) (arg13 : Memref sig Kind.tc Space.vmem S8x256x128 EltTy.f32)
  (x0 : Vec Ideal S256x1024 .f32) (x1 : Vec Ideal S1x1024 .f32)

/-- A strided load of a slab of the scratch buffer. -/
def ld (m s o : ℕ) (ho : o + s * (m - 1) < 256) (j : Fin 8) : FVec Ideal ⟨2, ![m, 128]⟩ .f32 :=
  LoadRect.valAlong (lr := str m s o ho) (LoadRect.numel_consLift (str m s o ho) ![1, 256, 128] rfl fun i => by fin_cases i <;> rfl)
    (arg13.view.readCov (stores c arg1 harg1 arg2 harg2 x0 x1)
      ((rc j).withinL ((str m s o ho).consLift ![1, 256, 128] rfl fun i => by fin_cases i <;> rfl) fun _ => rfl))

/-- A strided load holds the rows at the stride. -/
theorem ld_apply (m s o : ℕ) (ho : o + s * (m - 1) < 256) (j : Fin 8) (i : Fin m) (e : Fin 128) (hi : o + s * i < 256) :
    ld c arg1 harg1 arg2 harg2 arg13 x0 x1 m s o ho j (ix2 i e) = hid c arg1 harg1 arg2 harg2 x0 x1 (ix2 ⟨o + s * i, hi⟩ ⟨128 * j + e, by omega⟩) :=
  taken c arg1 harg1 arg2 harg2 x0 x1 arg13 m s o j _ _ _ _ _ _ i e hi

/-- The normed rows gathered by a stride of 4. -/
theorem rows4 (r : Fin 256) (k : Fin 1024) :
    kernelRun0_A.sl.r_39 (F := Ideal) c arg1 harg1 arg2 harg2 arg13 x0 x1 (ix2 r k) = hid c arg1 harg1 arg2 harg2 x0 x1 (ix2 (at4 r) k) := by
  refine lanes (fun j => stack4 fun n => ld c arg1 harg1 arg2 harg2 arg13 x0 x1 64 4 n (b4 n) j)
    (fun k => hid c arg1 harg1 arg2 harg2 x0 x1 (ix2 (at4 r) k)) r ?_ _ k
  intro j e
  exact stack4_apply _ (fun r e => hid c arg1 harg1 arg2 harg2 x0 x1 (ix2 r ⟨128 * j + e, by omega⟩))
    (fun n i e => ld_apply c arg1 harg1 arg2 harg2 arg13 x0 x1 64 4 n (b4 n) j i e (by omega)) r e

/-- The normed rows gathered by a stride of 16. -/
theorem rows16 (r : Fin 256) (k : Fin 1024) :
    kernelRun0_A.sl.r_168 (F := Ideal) c arg1 harg1 arg2 harg2 arg13 x0 x1 (ix2 r k) = hid c arg1 harg1 arg2 harg2 x0 x1 (ix2 (at16 r) k) := by
  refine lanes (fun j => stack16 fun n => ld c arg1 harg1 arg2 harg2 arg13 x0 x1 16 16 n (b16 n) j)
    (fun k => hid c arg1 harg1 arg2 harg2 x0 x1 (ix2 (at16 r) k)) r ?_ _ k
  intro j e
  exact stack16_apply _ (fun r e => hid c arg1 harg1 arg2 harg2 x0 x1 (ix2 r ⟨128 * j + e, by omega⟩))
    (fun n i e => ld_apply c arg1 harg1 arg2 harg2 arg13 x0 x1 16 16 n (b16 n) j i e (by omega)) r e

end

/-- A strided load of a table. -/
def tld (a : Memref sig Kind.tc Space.vmem S256x128 EltTy.f32) (h : a.IsWhole) (x : Vec Ideal S256x128 .f32) (m s o : ℕ) (ho : o + s * (m - 1) < 256) :
    FVec Ideal ⟨2, ![m, 128]⟩ .f32 := View.readAt (Elt Ideal) a.view (str m s o ho) (h.unread x)

/-- It holds the table's rows at the stride. -/
theorem tld_apply (a : Memref sig Kind.tc Space.vmem S256x128 EltTy.f32) (h : a.IsWhole) (x : Vec Ideal S256x128 .f32) (m s o : ℕ)
    (ho : o + s * (m - 1) < 256) (i : Fin m) (e : Fin 128) (hi : o + s * i < 256) : tld a h x m s o ho (ix2 i e) = x (ix2 ⟨o + s * i, hi⟩ e) := by
  refine (congrFun (h.read_unread x) _).trans (congrArg x ?_)
  funext k
  fin_cases k
  · rfl
  · exact Fin.ext (show 0 + 1 * e.val = e.val by omega)

variable (c : Dev nD) (a : Memref sig Kind.tc Space.vmem S256x128 EltTy.f32) (h : a.IsWhole) (x : Vec Ideal S256x128 .f32) (r : Fin 256) (e : Fin 128)

/-- A table gathered by a stride of 4. -/
theorem tab4 : stack4 (fun n => tld a h x 64 4 n (b4 n)) (ix2 r e) = x (ix2 (at4 r) e) :=
  stack4_apply _ (fun r e => x (ix2 r e)) (fun n i e => tld_apply a h x 64 4 n (b4 n) i e (by omega)) r e

/-- A table gathered by a stride of 16. -/
theorem tab16 : stack16 (fun n => tld a h x 16 16 n (b16 n)) (ix2 r e) = x (ix2 (at16 r) e) :=
  stack16_apply _ (fun r e => x (ix2 r e)) (fun n i e => tld_apply a h x 16 16 n (b16 n) i e (by omega)) r e

/-- The first table as the kernel gathers it by a stride of 4. -/
theorem cos4 : kernelRun0_A.sl.r_40 (F := Ideal) c a h x (ix2 r e) = x (ix2 (at4 r) e) := tab4 a h x r e

/-- The second table as the kernel gathers it by a stride of 4. -/
theorem sin4 : kernelRun0_A.sl.r_41 (F := Ideal) c a h x (ix2 r e) = x (ix2 (at4 r) e) := tab4 a h x r e

/-- The first table as the kernel gathers it by a stride of 16. -/
theorem cos16 : kernelRun0_A.sl.r_183 (F := Ideal) c a h x (ix2 r e) = x (ix2 (at16 r) e) := tab16 a h x r e

/-- The second table as the kernel gathers it by a stride of 16. -/
theorem sin16 : kernelRun0_A.sl.r_184 (F := Ideal) c a h x (ix2 r e) = x (ix2 (at16 r) e) := tab16 a h x r e

end Cert.ProjScratch

end
-- ==== Proof.ProjBlock.lean ====
/- The projection kernel's three output blocks at a grid point: each is its group's output, row by row. -/
module

public import proofs.«01_k».proof.Proof.ProjGather

@[expose] public section

set_option maxRecDepth 16384

noncomputable section

namespace Cert.ProjBlock

open Cert.ProjKernelIdeal Cert.ProjKernelIdeal.Gen Idealize.ShloMosaic Idealize.ShloMosaic.TcCoe
open ProjMath (normed out cols row)
open ProjTile (ropes vals gates)
open ProjScratch (hid at4 at16)

/-- A group's output at a row and a column, from the arrays' blocks. -/
def B {n : ℕ} (x0 : FVec Ideal S256x1024 .f32) (x1 : FVec Ideal S1x1024 .f32) (x5 x6 : FVec Ideal S256x128 .f32) (x7 x8 : FVec Ideal S3x128 .f32)
    (w : (⟨2, ![1024, n]⟩ : Shape).Idx → EReal) (g : Fin 3) (r : Fin 256) (j : ℕ) : EReal :=
  out (cols w) (row x7 g) (row x8 g) (row x5 r) (row x6 r) (row x0 r) (row x1 0) j

/-- The kernel's norm of its rows. -/
theorem pay2_apply (X : FVec Ideal S256x1024 .f32) (G : FVec Ideal S1x1024 .f32) (r : Fin 256) (k : Fin 1024) :
    k0_pay2 (F := Ideal) X G (ix2 r k) = normed (Ideal.ofBits FTy.f32 0x44800000#32) (row X r) (row G 0) k := by
  unfold k0_pay2 normed row ProjMath.eps
  pointwise

/-- A load of 512 of the weights' columns. -/
theorem wload {n : ℕ} (a : Memref sig Kind.tc Space.vmem ⟨2, ![1024, n]⟩ EltTy.bf16) (h : a.IsWhole) (x : Vec Ideal ⟨2, ![1024, n]⟩ .bf16) (n0 : ℕ)
    (inb : ∀ k, (![0, n0] : Fin 2 → ℕ) k + S1024x512.size k ≤ (![1024, n] : Fin 2 → ℕ) k) (k : Fin 1024) (c : Fin 512) :
    View.readAt (Elt Ideal) a.view (Rect.unit (s := ⟨2, ![1024, n]⟩) ![0, n0] S1024x512.size inb).toLoadRect (h.unread x) (ix2 k c)
      = cols x (n0 + c) k := by
  have hb : n0 + 512 ≤ n := inb 1
  unfold cols
  rw [dif_pos (by omega)]
  refine (congrFun (h.read_unread x) _).trans (congrArg x ?_)
  funext b
  fin_cases b
  · exact Fin.ext (show 0 + 1 * k.val = k.val by omega)
  · exact Fin.ext (show n0 + 1 * c.val = n0 + c.val by omega)

/-- A load of one row of a table of gains. -/
theorem gload (a : Memref sig Kind.tc Space.vmem S3x128 EltTy.f32) (h : a.IsWhole) (x : Vec Ideal S3x128 .f32) (g : Fin 3)
    (inb : ∀ k, (![g.val, 0] : Fin 2 → ℕ) k + S1x128.size k ≤ S3x128.size k) (e : Fin 128) :
    View.readAt (Elt Ideal) a.view (Rect.unit (s := S3x128) ![g.val, 0] S1x128.size inb).toLoadRect (h.unread x) (ix2 0 e) = row x g e := by
  refine (congrFun (h.read_unread x) _).trans (congrArg x ?_)
  funext b
  fin_cases b
  · exact Fin.ext (show g.val + 1 * 0 = g.val by omega)
  · exact Fin.ext (show 0 + 1 * e.val = e.val by omega)

/-- A load of a whole array of rows. -/
theorem whole {p q : ℕ} (a : Memref sig Kind.tc Space.vmem ⟨2, ![p, q]⟩ EltTy.f32) (h : a.IsWhole) (x : Vec Ideal ⟨2, ![p, q]⟩ .f32)
    (inb : ∀ k, (![0, 0] : Fin 2 → ℕ) k + (![p, q] : Fin 2 → ℕ) k ≤ (![p, q] : Fin 2 → ℕ) k) (r : Fin p) (e : Fin q) :
    View.readAt (Elt Ideal) a.view (Rect.unit (s := ⟨2, ![p, q]⟩) ![0, 0] ![p, q] inb).toLoadRect (h.unread x) (ix2 r e) = x (ix2 r e) := by
  refine (congrFun (h.read_unread x) _).trans (congrArg x ?_)
  funext b
  fin_cases b
  · exact Fin.ext (show 0 + 1 * r.val = r.val by omega)
  · exact Fin.ext (show 0 + 1 * e.val = e.val by omega)

section

variable (c : Dev nD) (arg1 : Memref sig Kind.tc Space.vmem S256x1024 EltTy.f32) (harg1 : arg1.IsWhole)
  (arg2 : Memref sig Kind.tc Space.vmem S1x1024 EltTy.f32) (harg2 : arg2.IsWhole)
  (x0 : Vec Ideal S256x1024 .f32) (x1 : Vec Ideal S1x1024 .f32) (x5 x6 : Vec Ideal S256x128 .f32) (x7 x8 : Vec Ideal S3x128 .f32)

/-- The normed rows, from the arrays' blocks. -/
theorem hid_apply (r : Fin 256) (k : Fin 1024) :
    hid c arg1 harg1 arg2 harg2 x0 x1 (ix2 r k) = normed (Ideal.ofBits FTy.f32 0x44800000#32) (row x0 r) (row x1 0) k := by
  refine (pay2_apply _ _ r k).trans ?_
  exact congrArg₂ (fun a b => normed (Ideal.ofBits FTy.f32 0x44800000#32) a b k)
    (funext fun k => whole arg1 harg1 x0 inb_S256x1024_S256x1024_0_0 r k) (funext fun k => whole arg2 harg2 x1 inb_S1x1024_S1x1024_0_0 0 k)

variable {n : ℕ} (w : Memref sig Kind.tc Space.vmem ⟨2, ![1024, n]⟩ EltTy.bf16) (hw : w.IsWhole) (xw : Vec Ideal ⟨2, ![1024, n]⟩ .bf16) (n0 : ℕ)
  (inb : ∀ k, (![0, n0] : Fin 2 → ℕ) k + S1024x512.size k ≤ (![1024, n] : Fin 2 → ℕ) k) (g : Fin 3)
  (h : FVec Ideal S256x1024 .bf16) (ρ : Fin 256 → Fin 256) (hh : ∀ (r : Fin 256) (k : Fin 1024), h (ix2 r k) = hid c arg1 harg1 arg2 harg2 x0 x1 (ix2 (ρ r) k))
  (cosT sinT : FVec Ideal S256x128 .f32) (hc : ∀ (r : Fin 256) (e : Fin 128), cosT (ix2 r e) = x5 (ix2 (ρ r) e))
  (hs : ∀ (r : Fin 256) (e : Fin 128), sinT (ix2 r e) = x6 (ix2 (ρ r) e))
  (a : Memref sig Kind.tc Space.vmem S3x128 EltTy.f32) (ha : a.IsWhole)
  (inb' : ∀ k, (![g.val, 0] : Fin 2 → ℕ) k + S1x128.size k ≤ S3x128.size k)

include hh hc hs in
/-- A tile of queries. -/
theorem tile_q (hn : n0 % 512 = 0) (hb : n0 < 1024) (r : Fin 256) (j : Fin 512) :
    ropes h (View.readAt (Elt Ideal) w.view (Rect.unit (s := ⟨2, ![1024, n]⟩) ![0, n0] S1024x512.size inb).toLoadRect (hw.unread xw))
      (View.readAt (Elt Ideal) a.view (Rect.unit (s := S3x128) ![g.val, 0] S1x128.size inb').toLoadRect (ha.unread x7)) cosT sinT (ix2 r j)
    = B x0 x1 x5 x6 x7 x8 xw g (ρ r) (n0 + j) :=
  ProjTile.ropes_out h _ _ _ _ r j n0 (cols xw) (row x7 g) (row x8 g) (row x5 (ρ r)) (row x6 (ρ r)) (row x0 (ρ r)) (row x1 0)
    (fun k => (hh r k).trans (hid_apply c arg1 harg1 arg2 harg2 x0 x1 (ρ r) k)) (wload w hw xw n0 inb) hn (by omega)
    (fun e => (gload a ha x7 g inb' e).trans (by rw [if_pos hb])) (hc r) (hs r)

include hh hc hs in
/-- A tile of keys. -/
theorem tile_k (hn : n0 % 512 = 0) (hb : 1024 ≤ n0) (hb' : n0 < 2048) (r : Fin 256) (j : Fin 512) :
    ropes h (View.readAt (Elt Ideal) w.view (Rect.unit (s := ⟨2, ![1024, n]⟩) ![0, n0] S1024x512.size inb).toLoadRect (hw.unread xw))
      (View.readAt (Elt Ideal) a.view (Rect.unit (s := S3x128) ![g.val, 0] S1x128.size inb').toLoadRect (ha.unread x8)) cosT sinT (ix2 r j)
    = B x0 x1 x5 x6 x7 x8 xw g (ρ r) (n0 + j) :=
  ProjTile.ropes_out h _ _ _ _ r j n0 (cols xw) (row x7 g) (row x8 g) (row x5 (ρ r)) (row x6 (ρ r)) (row x0 (ρ r)) (row x1 0)
    (fun k => (hh r k).trans (hid_apply c arg1 harg1 arg2 harg2 x0 x1 (ρ r) k)) (wload w hw xw n0 inb) hn hb'
    (fun e => (gload a ha x8 g inb' e).trans (by rw [if_neg (by omega)])) (hc r) (hs r)

include hh in
/-- A tile of values. -/
theorem tile_v (hb : 2048 ≤ n0) (hb' : n0 + 512 ≤ 3072) (r : Fin 256) (j : Fin 512) :
    vals h (View.readAt (Elt Ideal) w.view (Rect.unit (s := ⟨2, ![1024, n]⟩) ![0, n0] S1024x512.size inb).toLoadRect (hw.unread xw)) (ix2 r j)
    = B x0 x1 x5 x6 x7 x8 xw g (ρ r) (n0 + j) :=
  ProjTile.vals_out h _ r j n0 (cols xw) (row x7 g) (row x8 g) (row x5 (ρ r)) (row x6 (ρ r)) (row x0 (ρ r)) (row x1 0)
    (fun k => (hh r k).trans (hid_apply c arg1 harg1 arg2 harg2 x0 x1 (ρ r) k)) (wload w hw xw n0 inb) hb hb'

include hh in
/-- A tile of the gate. -/
theorem tile_g (hb : 3072 ≤ n0) (r : Fin 256) (j : Fin 512) :
    gates h (View.readAt (Elt Ideal) w.view (Rect.unit (s := ⟨2, ![1024, n]⟩) ![0, n0] S1024x512.size inb).toLoadRect (hw.unread xw)) (ix2 r j)
    = B x0 x1 x5 x6 x7 x8 xw g (ρ r) (n0 + j) :=
  ProjTile.gates_out h _ r j n0 (cols xw) (row x7 g) (row x8 g) (row x5 (ρ r)) (row x6 (ρ r)) (row x0 (ρ r)) (row x1 0)
    (fun k => (hh r k).trans (hid_apply c arg1 harg1 arg2 harg2 x0 x1 (ρ r) k)) (wload w hw xw n0 inb) hb

end

/-- A tile stored as it is is a block of the first output. -/
theorem piece0 (P : Fin 256 → ℕ → EReal) (n0 : ℕ) (inb) (T : FVec Ideal S256x512 .bf16) (hT : ∀ (r : Fin 256) (j : Fin 512), T (ix2 r j) = P r (n0 + j))
    (x : S256x512.Idx) : T x = (fun y : S256x4096.Idx => P (y 0) (y 1).val) ((Rect.unit (s := S256x4096) ![0, n0] S256x512.size inb).emb x) := by
  have hx : x = ix2 (x 0) (x 1) := by
    funext k
    fin_cases k <;> rfl
  rw [hx]
  refine (hT (x 0) (x 1)).trans ?_
  exact congrArg₂ P (Fin.ext (show (x 0).val = 0 + 1 * (x 0).val by omega)) (show n0 + (x 1).val = n0 + 1 * (x 1).val by omega)

/-- A tile regrouped by its residues modulo 4 is a block of the second output. -/
theorem piece1 (P : Fin 256 → ℕ → EReal) (n0 : ℕ) (inb) (T : FVec Ideal S256x512 .bf16) (hT : ∀ (r : Fin 256) (j : Fin 512), T (ix2 r j) = P (at4 r) (n0 + j))
    (x : S1x4x64x512.Idx) : shapeCast S1x4x64x512 (shapeCast S4x64x512 T shapeCasts_S256x512_S4x64x512) shapeCasts_S4x64x512_S1x4x64x512 x
      = (fun y : S1x4x64x3072.Idx => P ⟨4 * (y 2).val + (y 1).val, by
          have b1 : (y 1).val < 4 := (y 1).2
          have b2 : (y 2).val < 64 := (y 2).2
          omega⟩ (y 3).val) ((Rect.unit (s := S1x4x64x3072) ![0, 0, 0, n0] S1x4x64x512.size inb).emb x) := by
  have hx : x = ix4 0 (x 1) (x 2) (x 3) := by
    funext k
    fin_cases k
    · exact Subsingleton.elim (α := Fin 1) _ _
    · rfl
    · rfl
    · rfl
  have key : ∀ (a : Fin 4) (i : Fin 64) (j : Fin 512),
      shapeCast S1x4x64x512 (shapeCast S4x64x512 T shapeCasts_S256x512_S4x64x512) shapeCasts_S4x64x512_S1x4x64x512 (ix4 0 a i j)
        = T (ix2 ⟨a * 64 + i, by omega⟩ j) := by
    intro a i j
    pointwise
  have b1 : (x 1).val < 4 := (x 1).2
  have b2 : (x 2).val < 64 := (x 2).2
  rw [hx]
  refine (key (x 1) (x 2) (x 3)).trans ((hT _ _).trans ?_)
  refine congrArg₂ P (Fin.ext ?_) (show n0 + (x 3).val = n0 + 1 * (x 3).val by omega)
  show 4 * (((x 1).val * 64 + (x 2).val) % 64) + ((x 1).val * 64 + (x 2).val) / 64 = 4 * (0 + 1 * (x 2).val) + (0 + 1 * (x 1).val)
  omega

/-- A tile regrouped by its residues modulo 16 is a block of the third output. -/
theorem piece2 (P : Fin 256 → ℕ → EReal) (n0 : ℕ) (inb) (T : FVec Ideal S256x512 .bf16) (hT : ∀ (r : Fin 256) (j : Fin 512), T (ix2 r j) = P (at16 r) (n0 + j))
    (x : S1x16x16x512.Idx) : shapeCast S1x16x16x512 (shapeCast S16x16x512 T shapeCasts_S256x512_S16x16x512) shapeCasts_S16x16x512_S1x16x16x512 x
      = (fun y : S1x16x16x3072.Idx => P ⟨16 * (y 2).val + (y 1).val, by
          have b1 : (y 1).val < 16 := (y 1).2
          have b2 : (y 2).val < 16 := (y 2).2
          omega⟩ (y 3).val) ((Rect.unit (s := S1x16x16x3072) ![0, 0, 0, n0] S1x16x16x512.size inb).emb x) := by
  have hx : x = ix4 0 (x 1) (x 2) (x 3) := by
    funext k
    fin_cases k
    · exact Subsingleton.elim (α := Fin 1) _ _
    · rfl
    · rfl
    · rfl
  have key : ∀ (a : Fin 16) (i : Fin 16) (j : Fin 512),
      shapeCast S1x16x16x512 (shapeCast S16x16x512 T shapeCasts_S256x512_S16x16x512) shapeCasts_S16x16x512_S1x16x16x512 (ix4 0 a i j)
        = T (ix2 ⟨a * 16 + i, by omega⟩ j) := by
    intro a i j
    pointwise
  have b1 : (x 1).val < 16 := (x 1).2
  have b2 : (x 2).val < 16 := (x 2).2
  rw [hx]
  refine (key (x 1) (x 2) (x 3)).trans ((hT _ _).trans ?_)
  refine congrArg₂ P (Fin.ext ?_) (show n0 + (x 3).val = n0 + 1 * (x 3).val by omega)
  show 16 * (((x 1).val * 16 + (x 2).val) % 16) + ((x 1).val * 16 + (x 2).val) / 16 = 16 * (0 + 1 * (x 2).val) + (0 + 1 * (x 1).val)
  omega

end Cert.ProjBlock

end
-- ==== Proof.ProjBlocks.lean ====
/- The stores of the projection kernel, group by group, and the blocks they leave. -/
module

public import proofs.«01_k».proof.Proof.ProjBlock

@[expose] public section

set_option maxRecDepth 16384

noncomputable section

namespace Cert.ProjBlock

open Cert.ProjKernelIdeal Cert.ProjKernelIdeal.Gen Idealize.ShloMosaic Idealize.ShloMosaic.TcCoe
open ProjScratch (at4 at16)
open ProjTile (ropes vals gates)

variable (c : Dev nD) (i : grid0.Coords)
  (arg1 : Memref sig Kind.tc Space.vmem S256x1024 EltTy.f32) (harg1 : arg1.IsWhole)
  (arg2 : Memref sig Kind.tc Space.vmem S1x1024 EltTy.f32) (harg2 : arg2.IsWhole)
  (arg3 : Memref sig Kind.tc Space.vmem S1024x4096 EltTy.bf16) (harg3 : arg3.IsWhole)
  (arg4 : Memref sig Kind.tc Space.vmem S1024x3072 EltTy.bf16) (harg4 : arg4.IsWhole)
  (arg5 : Memref sig Kind.tc Space.vmem S1024x3072 EltTy.bf16) (harg5 : arg5.IsWhole)
  (arg6 : Memref sig Kind.tc Space.vmem S256x128 EltTy.f32) (harg6 : arg6.IsWhole)
  (arg7 : Memref sig Kind.tc Space.vmem S256x128 EltTy.f32) (harg7 : arg7.IsWhole)
  (arg8 : Memref sig Kind.tc Space.vmem S3x128 EltTy.f32) (harg8 : arg8.IsWhole)
  (arg9 : Memref sig Kind.tc Space.vmem S3x128 EltTy.f32) (harg9 : arg9.IsWhole)
  (arg10 : Memref sig Kind.tc Space.vmem S256x4096 EltTy.bf16) (harg10 : arg10.IsWhole)
  (arg11 : Memref sig Kind.tc Space.vmem S1x4x64x3072 EltTy.bf16) (harg11 : arg11.IsWhole)
  (arg12 : Memref sig Kind.tc Space.vmem S1x16x16x3072 EltTy.bf16) (harg12 : arg12.IsWhole)
  (arg13 : Memref sig Kind.tc Space.vmem S8x256x128 EltTy.f32) (harg13 : arg13.IsWhole)
  (x0 : Vec Ideal S256x1024 .f32)  (x1 : Vec Ideal S1x1024 .f32)  (x2 : Vec Ideal S1024x4096 .bf16)  (x3 : Vec Ideal S1024x3072 .bf16)  (x4 : Vec Ideal S1024x3072 .bf16)  (x5 : Vec Ideal S256x128 .f32)  (x6 : Vec Ideal S256x128 .f32)  (x7 : Vec Ideal S3x128 .f32)  (x8 : Vec Ideal S3x128 .f32)

/-- The stores of group 0 are blocks of its output. -/
theorem pieces0 : View.PiecesOf (fun y : S256x4096.Idx => B x0 x1 x5 x6 x7 x8 x2 0 (y 0) (y 1).val)
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1 := by
  unfold kernelRun0_A
  dsimp only
  refine ⟨?_, ?_, ?_, ?_, ?_, ?_, ?_, ?_, trivial⟩
  · exact piece0 (B x0 x1 x5 x6 x7 x8 x2 0) 3584 inb_S256x4096_S256x512_0_3584
      (gates (kernelRun0_A.sl.r_2 c arg1 harg1 arg2 harg2 x0 x1) (View.readAt (Elt Ideal) arg3.view (Rect.unit (s := S1024x4096) ![0, 3584] S1024x512.size inb_S1024x4096_S1024x512_0_3584).toLoadRect (harg3.unread x2)))
      (tile_g c arg1 harg1 arg2 harg2 x0 x1 x5 x6 x7 x8 arg3 harg3 x2 3584 inb_S1024x4096_S1024x512_0_3584 0 (kernelRun0_A.sl.r_2 c arg1 harg1 arg2 harg2 x0 x1) (fun r => r) (fun _ _ => rfl) (by decide))
  · exact piece0 (B x0 x1 x5 x6 x7 x8 x2 0) 3072 inb_S256x4096_S256x512_0_3072
      (gates (kernelRun0_A.sl.r_2 c arg1 harg1 arg2 harg2 x0 x1) (View.readAt (Elt Ideal) arg3.view (Rect.unit (s := S1024x4096) ![0, 3072] S1024x512.size inb_S1024x4096_S1024x512_0_3072).toLoadRect (harg3.unread x2)))
      (tile_g c arg1 harg1 arg2 harg2 x0 x1 x5 x6 x7 x8 arg3 harg3 x2 3072 inb_S1024x4096_S1024x512_0_3072 0 (kernelRun0_A.sl.r_2 c arg1 harg1 arg2 harg2 x0 x1) (fun r => r) (fun _ _ => rfl) (by decide))
  · exact piece0 (B x0 x1 x5 x6 x7 x8 x2 0) 2560 inb_S256x4096_S256x512_0_2560
      (vals (kernelRun0_A.sl.r_2 c arg1 harg1 arg2 harg2 x0 x1) (View.readAt (Elt Ideal) arg3.view (Rect.unit (s := S1024x4096) ![0, 2560] S1024x512.size inb_S1024x4096_S1024x512_0_2560).toLoadRect (harg3.unread x2)))
      (tile_v c arg1 harg1 arg2 harg2 x0 x1 x5 x6 x7 x8 arg3 harg3 x2 2560 inb_S1024x4096_S1024x512_0_2560 0 (kernelRun0_A.sl.r_2 c arg1 harg1 arg2 harg2 x0 x1) (fun r => r) (fun _ _ => rfl) (by decide) (by decide))
  · exact piece0 (B x0 x1 x5 x6 x7 x8 x2 0) 2048 inb_S256x4096_S256x512_0_2048
      (vals (kernelRun0_A.sl.r_2 c arg1 harg1 arg2 harg2 x0 x1) (View.readAt (Elt Ideal) arg3.view (Rect.unit (s := S1024x4096) ![0, 2048] S1024x512.size inb_S1024x4096_S1024x512_0_2048).toLoadRect (harg3.unread x2)))
      (tile_v c arg1 harg1 arg2 harg2 x0 x1 x5 x6 x7 x8 arg3 harg3 x2 2048 inb_S1024x4096_S1024x512_0_2048 0 (kernelRun0_A.sl.r_2 c arg1 harg1 arg2 harg2 x0 x1) (fun r => r) (fun _ _ => rfl) (by decide) (by decide))
  · exact piece0 (B x0 x1 x5 x6 x7 x8 x2 0) 1536 inb_S256x4096_S256x512_0_1536
      (ropes (kernelRun0_A.sl.r_2 c arg1 harg1 arg2 harg2 x0 x1) (View.readAt (Elt Ideal) arg3.view (Rect.unit (s := S1024x4096) ![0, 1536] S1024x512.size inb_S1024x4096_S1024x512_0_1536).toLoadRect (harg3.unread x2))
      (View.readAt (Elt Ideal) arg9.view (Rect.unit (s := S3x128) ![0, 0] S1x128.size inb_S3x128_S1x128_0_0).toLoadRect (harg9.unread x8)) (kernelRun0_A.sl.r_3 c arg6 harg6 x5) (kernelRun0_A.sl.r_4 c arg7 harg7 x6))
      (tile_k c arg1 harg1 arg2 harg2 x0 x1 x5 x6 x7 x8 arg3 harg3 x2 1536 inb_S1024x4096_S1024x512_0_1536 0 (kernelRun0_A.sl.r_2 c arg1 harg1 arg2 harg2 x0 x1) (fun r => r) (fun _ _ => rfl) (kernelRun0_A.sl.r_3 c arg6 harg6 x5) (kernelRun0_A.sl.r_4 c arg7 harg7 x6) (fun r e => whole arg6 harg6 x5 inb_S256x128_S256x128_0_0 r e) (fun r e => whole arg7 harg7 x6 inb_S256x128_S256x128_0_0 r e) arg9 harg9 inb_S3x128_S1x128_0_0 (by decide) (by decide) (by decide))
  · exact piece0 (B x0 x1 x5 x6 x7 x8 x2 0) 1024 inb_S256x4096_S256x512_0_1024
      (ropes (kernelRun0_A.sl.r_2 c arg1 harg1 arg2 harg2 x0 x1) (View.readAt (Elt Ideal) arg3.view (Rect.unit (s := S1024x4096) ![0, 1024] S1024x512.size inb_S1024x4096_S1024x512_0_1024).toLoadRect (harg3.unread x2))
      (View.readAt (Elt Ideal) arg9.view (Rect.unit (s := S3x128) ![0, 0] S1x128.size inb_S3x128_S1x128_0_0).toLoadRect (harg9.unread x8)) (kernelRun0_A.sl.r_3 c arg6 harg6 x5) (kernelRun0_A.sl.r_4 c arg7 harg7 x6))
      (tile_k c arg1 harg1 arg2 harg2 x0 x1 x5 x6 x7 x8 arg3 harg3 x2 1024 inb_S1024x4096_S1024x512_0_1024 0 (kernelRun0_A.sl.r_2 c arg1 harg1 arg2 harg2 x0 x1) (fun r => r) (fun _ _ => rfl) (kernelRun0_A.sl.r_3 c arg6 harg6 x5) (kernelRun0_A.sl.r_4 c arg7 harg7 x6) (fun r e => whole arg6 harg6 x5 inb_S256x128_S256x128_0_0 r e) (fun r e => whole arg7 harg7 x6 inb_S256x128_S256x128_0_0 r e) arg9 harg9 inb_S3x128_S1x128_0_0 (by decide) (by decide) (by decide))
  · exact piece0 (B x0 x1 x5 x6 x7 x8 x2 0) 512 inb_S256x4096_S256x512_0_512
      (ropes (kernelRun0_A.sl.r_2 c arg1 harg1 arg2 harg2 x0 x1) (View.readAt (Elt Ideal) arg3.view (Rect.unit (s := S1024x4096) ![0, 512] S1024x512.size inb_S1024x4096_S1024x512_0_512).toLoadRect (harg3.unread x2))
      (View.readAt (Elt Ideal) arg8.view (Rect.unit (s := S3x128) ![0, 0] S1x128.size inb_S3x128_S1x128_0_0).toLoadRect (harg8.unread x7)) (kernelRun0_A.sl.r_3 c arg6 harg6 x5) (kernelRun0_A.sl.r_4 c arg7 harg7 x6))
      (tile_q c arg1 harg1 arg2 harg2 x0 x1 x5 x6 x7 x8 arg3 harg3 x2 512 inb_S1024x4096_S1024x512_0_512 0 (kernelRun0_A.sl.r_2 c arg1 harg1 arg2 harg2 x0 x1) (fun r => r) (fun _ _ => rfl) (kernelRun0_A.sl.r_3 c arg6 harg6 x5) (kernelRun0_A.sl.r_4 c arg7 harg7 x6) (fun r e => whole arg6 harg6 x5 inb_S256x128_S256x128_0_0 r e) (fun r e => whole arg7 harg7 x6 inb_S256x128_S256x128_0_0 r e) arg8 harg8 inb_S3x128_S1x128_0_0 (by decide) (by decide))
  · exact piece0 (B x0 x1 x5 x6 x7 x8 x2 0) 0 inb_S256x4096_S256x512_0_0
      (ropes (kernelRun0_A.sl.r_2 c arg1 harg1 arg2 harg2 x0 x1) (View.readAt (Elt Ideal) arg3.view (Rect.unit (s := S1024x4096) ![0, 0] S1024x512.size inb_S1024x4096_S1024x512_0_0).toLoadRect (harg3.unread x2))
      (View.readAt (Elt Ideal) arg8.view (Rect.unit (s := S3x128) ![0, 0] S1x128.size inb_S3x128_S1x128_0_0).toLoadRect (harg8.unread x7)) (kernelRun0_A.sl.r_3 c arg6 harg6 x5) (kernelRun0_A.sl.r_4 c arg7 harg7 x6))
      (tile_q c arg1 harg1 arg2 harg2 x0 x1 x5 x6 x7 x8 arg3 harg3 x2 0 inb_S1024x4096_S1024x512_0_0 0 (kernelRun0_A.sl.r_2 c arg1 harg1 arg2 harg2 x0 x1) (fun r => r) (fun _ _ => rfl) (kernelRun0_A.sl.r_3 c arg6 harg6 x5) (kernelRun0_A.sl.r_4 c arg7 harg7 x6) (fun r e => whole arg6 harg6 x5 inb_S256x128_S256x128_0_0 r e) (fun r e => whole arg7 harg7 x6 inb_S256x128_S256x128_0_0 r e) arg8 harg8 inb_S3x128_S1x128_0_0 (by decide) (by decide))

/-- What a grid point leaves in the block of group 0. -/
theorem block0 : out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = (fun y : S256x4096.Idx => B x0 x1 x5 x6 x7 x8 x2 0 (y 0) (y 1).val) := by
  funext y
  unfold out0_A_9
  exact View.read_writes_apply_of_pieces _ _ _ _ (View.PiecesOf.mem (pieces0 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) y
    (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)

/-- The stores of group 1 are blocks of its output. -/
theorem pieces1 : View.PiecesOf (fun y : S1x4x64x3072.Idx => B x0 x1 x5 x6 x7 x8 x3 1 ⟨4 * (y 2).val + (y 1).val, by
        have b1 : (y 1).val < 4 := (y 1).2
        have b2 : (y 2).val < 64 := (y 2).2
        omega⟩ (y 3).val)
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1 := by
  unfold kernelRun0_A
  dsimp only
  refine ⟨?_, ?_, ?_, ?_, ?_, ?_, trivial⟩
  · exact piece1 (B x0 x1 x5 x6 x7 x8 x3 1) 2560 inb_S1x4x64x3072_S1x4x64x512_0_0_0_2560
      (vals (kernelRun0_A.sl.r_39 c arg1 harg1 arg2 harg2 arg13 x0 x1) (View.readAt (Elt Ideal) arg4.view (Rect.unit (s := S1024x3072) ![0, 2560] S1024x512.size inb_S1024x3072_S1024x512_0_2560).toLoadRect (harg4.unread x3)))
      (tile_v c arg1 harg1 arg2 harg2 x0 x1 x5 x6 x7 x8 arg4 harg4 x3 2560 inb_S1024x3072_S1024x512_0_2560 1 (kernelRun0_A.sl.r_39 c arg1 harg1 arg2 harg2 arg13 x0 x1) (at4) (ProjScratch.rows4 c arg1 harg1 arg2 harg2 arg13 x0 x1) (by decide) (by decide))
  · exact piece1 (B x0 x1 x5 x6 x7 x8 x3 1) 2048 inb_S1x4x64x3072_S1x4x64x512_0_0_0_2048
      (vals (kernelRun0_A.sl.r_39 c arg1 harg1 arg2 harg2 arg13 x0 x1) (View.readAt (Elt Ideal) arg4.view (Rect.unit (s := S1024x3072) ![0, 2048] S1024x512.size inb_S1024x3072_S1024x512_0_2048).toLoadRect (harg4.unread x3)))
      (tile_v c arg1 harg1 arg2 harg2 x0 x1 x5 x6 x7 x8 arg4 harg4 x3 2048 inb_S1024x3072_S1024x512_0_2048 1 (kernelRun0_A.sl.r_39 c arg1 harg1 arg2 harg2 arg13 x0 x1) (at4) (ProjScratch.rows4 c arg1 harg1 arg2 harg2 arg13 x0 x1) (by decide) (by decide))
  · exact piece1 (B x0 x1 x5 x6 x7 x8 x3 1) 1536 inb_S1x4x64x3072_S1x4x64x512_0_0_0_1536
      (ropes (kernelRun0_A.sl.r_39 c arg1 harg1 arg2 harg2 arg13 x0 x1) (View.readAt (Elt Ideal) arg4.view (Rect.unit (s := S1024x3072) ![0, 1536] S1024x512.size inb_S1024x3072_S1024x512_0_1536).toLoadRect (harg4.unread x3))
      (View.readAt (Elt Ideal) arg9.view (Rect.unit (s := S3x128) ![1, 0] S1x128.size inb_S3x128_S1x128_1_0).toLoadRect (harg9.unread x8)) (kernelRun0_A.sl.r_40 c arg6 harg6 x5) (kernelRun0_A.sl.r_41 c arg7 harg7 x6))
      (tile_k c arg1 harg1 arg2 harg2 x0 x1 x5 x6 x7 x8 arg4 harg4 x3 1536 inb_S1024x3072_S1024x512_0_1536 1 (kernelRun0_A.sl.r_39 c arg1 harg1 arg2 harg2 arg13 x0 x1) (at4) (ProjScratch.rows4 c arg1 harg1 arg2 harg2 arg13 x0 x1) (kernelRun0_A.sl.r_40 c arg6 harg6 x5) (kernelRun0_A.sl.r_41 c arg7 harg7 x6) (ProjScratch.cos4 c arg6 harg6 x5) (ProjScratch.sin4 c arg7 harg7 x6) arg9 harg9 inb_S3x128_S1x128_1_0 (by decide) (by decide) (by decide))
  · exact piece1 (B x0 x1 x5 x6 x7 x8 x3 1) 1024 inb_S1x4x64x3072_S1x4x64x512_0_0_0_1024
      (ropes (kernelRun0_A.sl.r_39 c arg1 harg1 arg2 harg2 arg13 x0 x1) (View.readAt (Elt Ideal) arg4.view (Rect.unit (s := S1024x3072) ![0, 1024] S1024x512.size inb_S1024x3072_S1024x512_0_1024).toLoadRect (harg4.unread x3))
      (View.readAt (Elt Ideal) arg9.view (Rect.unit (s := S3x128) ![1, 0] S1x128.size inb_S3x128_S1x128_1_0).toLoadRect (harg9.unread x8)) (kernelRun0_A.sl.r_40 c arg6 harg6 x5) (kernelRun0_A.sl.r_41 c arg7 harg7 x6))
      (tile_k c arg1 harg1 arg2 harg2 x0 x1 x5 x6 x7 x8 arg4 harg4 x3 1024 inb_S1024x3072_S1024x512_0_1024 1 (kernelRun0_A.sl.r_39 c arg1 harg1 arg2 harg2 arg13 x0 x1) (at4) (ProjScratch.rows4 c arg1 harg1 arg2 harg2 arg13 x0 x1) (kernelRun0_A.sl.r_40 c arg6 harg6 x5) (kernelRun0_A.sl.r_41 c arg7 harg7 x6) (ProjScratch.cos4 c arg6 harg6 x5) (ProjScratch.sin4 c arg7 harg7 x6) arg9 harg9 inb_S3x128_S1x128_1_0 (by decide) (by decide) (by decide))
  · exact piece1 (B x0 x1 x5 x6 x7 x8 x3 1) 512 inb_S1x4x64x3072_S1x4x64x512_0_0_0_512
      (ropes (kernelRun0_A.sl.r_39 c arg1 harg1 arg2 harg2 arg13 x0 x1) (View.readAt (Elt Ideal) arg4.view (Rect.unit (s := S1024x3072) ![0, 512] S1024x512.size inb_S1024x3072_S1024x512_0_512).toLoadRect (harg4.unread x3))
      (View.readAt (Elt Ideal) arg8.view (Rect.unit (s := S3x128) ![1, 0] S1x128.size inb_S3x128_S1x128_1_0).toLoadRect (harg8.unread x7)) (kernelRun0_A.sl.r_40 c arg6 harg6 x5) (kernelRun0_A.sl.r_41 c arg7 harg7 x6))
      (tile_q c arg1 harg1 arg2 harg2 x0 x1 x5 x6 x7 x8 arg4 harg4 x3 512 inb_S1024x3072_S1024x512_0_512 1 (kernelRun0_A.sl.r_39 c arg1 harg1 arg2 harg2 arg13 x0 x1) (at4) (ProjScratch.rows4 c arg1 harg1 arg2 harg2 arg13 x0 x1) (kernelRun0_A.sl.r_40 c arg6 harg6 x5) (kernelRun0_A.sl.r_41 c arg7 harg7 x6) (ProjScratch.cos4 c arg6 harg6 x5) (ProjScratch.sin4 c arg7 harg7 x6) arg8 harg8 inb_S3x128_S1x128_1_0 (by decide) (by decide))
  · exact piece1 (B x0 x1 x5 x6 x7 x8 x3 1) 0 inb_S1x4x64x3072_S1x4x64x512_0_0_0_0
      (ropes (kernelRun0_A.sl.r_39 c arg1 harg1 arg2 harg2 arg13 x0 x1) (View.readAt (Elt Ideal) arg4.view (Rect.unit (s := S1024x3072) ![0, 0] S1024x512.size inb_S1024x3072_S1024x512_0_0).toLoadRect (harg4.unread x3))
      (View.readAt (Elt Ideal) arg8.view (Rect.unit (s := S3x128) ![1, 0] S1x128.size inb_S3x128_S1x128_1_0).toLoadRect (harg8.unread x7)) (kernelRun0_A.sl.r_40 c arg6 harg6 x5) (kernelRun0_A.sl.r_41 c arg7 harg7 x6))
      (tile_q c arg1 harg1 arg2 harg2 x0 x1 x5 x6 x7 x8 arg4 harg4 x3 0 inb_S1024x3072_S1024x512_0_0 1 (kernelRun0_A.sl.r_39 c arg1 harg1 arg2 harg2 arg13 x0 x1) (at4) (ProjScratch.rows4 c arg1 harg1 arg2 harg2 arg13 x0 x1) (kernelRun0_A.sl.r_40 c arg6 harg6 x5) (kernelRun0_A.sl.r_41 c arg7 harg7 x6) (ProjScratch.cos4 c arg6 harg6 x5) (ProjScratch.sin4 c arg7 harg7 x6) arg8 harg8 inb_S3x128_S1x128_1_0 (by decide) (by decide))

/-- What a grid point leaves in the block of group 1. -/
theorem block1 : out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = (fun y : S1x4x64x3072.Idx => B x0 x1 x5 x6 x7 x8 x3 1 ⟨4 * (y 2).val + (y 1).val, by
        have b1 : (y 1).val < 4 := (y 1).2
        have b2 : (y 2).val < 64 := (y 2).2
        omega⟩ (y 3).val) := by
  funext y
  unfold out0_A_10
  exact View.read_writes_apply_of_pieces _ _ _ _ (View.PiecesOf.mem (pieces1 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) y
    (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)

/-- The stores of group 2 are blocks of its output. -/
theorem pieces2 : View.PiecesOf (fun y : S1x16x16x3072.Idx => B x0 x1 x5 x6 x7 x8 x4 2 ⟨16 * (y 2).val + (y 1).val, by
        have b1 : (y 1).val < 16 := (y 1).2
        have b2 : (y 2).val < 16 := (y 2).2
        omega⟩ (y 3).val)
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1 := by
  unfold kernelRun0_A
  dsimp only
  refine ⟨?_, ?_, ?_, ?_, ?_, ?_, trivial⟩
  · exact piece2 (B x0 x1 x5 x6 x7 x8 x4 2) 2560 inb_S1x16x16x3072_S1x16x16x512_0_0_0_2560
      (vals (kernelRun0_A.sl.r_168 c arg1 harg1 arg2 harg2 arg13 x0 x1) (View.readAt (Elt Ideal) arg5.view (Rect.unit (s := S1024x3072) ![0, 2560] S1024x512.size inb_S1024x3072_S1024x512_0_2560).toLoadRect (harg5.unread x4)))
      (tile_v c arg1 harg1 arg2 harg2 x0 x1 x5 x6 x7 x8 arg5 harg5 x4 2560 inb_S1024x3072_S1024x512_0_2560 2 (kernelRun0_A.sl.r_168 c arg1 harg1 arg2 harg2 arg13 x0 x1) (at16) (ProjScratch.rows16 c arg1 harg1 arg2 harg2 arg13 x0 x1) (by decide) (by decide))
  · exact piece2 (B x0 x1 x5 x6 x7 x8 x4 2) 2048 inb_S1x16x16x3072_S1x16x16x512_0_0_0_2048
      (vals (kernelRun0_A.sl.r_168 c arg1 harg1 arg2 harg2 arg13 x0 x1) (View.readAt (Elt Ideal) arg5.view (Rect.unit (s := S1024x3072) ![0, 2048] S1024x512.size inb_S1024x3072_S1024x512_0_2048).toLoadRect (harg5.unread x4)))
      (tile_v c arg1 harg1 arg2 harg2 x0 x1 x5 x6 x7 x8 arg5 harg5 x4 2048 inb_S1024x3072_S1024x512_0_2048 2 (kernelRun0_A.sl.r_168 c arg1 harg1 arg2 harg2 arg13 x0 x1) (at16) (ProjScratch.rows16 c arg1 harg1 arg2 harg2 arg13 x0 x1) (by decide) (by decide))
  · exact piece2 (B x0 x1 x5 x6 x7 x8 x4 2) 1536 inb_S1x16x16x3072_S1x16x16x512_0_0_0_1536
      (ropes (kernelRun0_A.sl.r_168 c arg1 harg1 arg2 harg2 arg13 x0 x1) (View.readAt (Elt Ideal) arg5.view (Rect.unit (s := S1024x3072) ![0, 1536] S1024x512.size inb_S1024x3072_S1024x512_0_1536).toLoadRect (harg5.unread x4))
      (View.readAt (Elt Ideal) arg9.view (Rect.unit (s := S3x128) ![2, 0] S1x128.size inb_S3x128_S1x128_2_0).toLoadRect (harg9.unread x8)) (kernelRun0_A.sl.r_183 c arg6 harg6 x5) (kernelRun0_A.sl.r_184 c arg7 harg7 x6))
      (tile_k c arg1 harg1 arg2 harg2 x0 x1 x5 x6 x7 x8 arg5 harg5 x4 1536 inb_S1024x3072_S1024x512_0_1536 2 (kernelRun0_A.sl.r_168 c arg1 harg1 arg2 harg2 arg13 x0 x1) (at16) (ProjScratch.rows16 c arg1 harg1 arg2 harg2 arg13 x0 x1) (kernelRun0_A.sl.r_183 c arg6 harg6 x5) (kernelRun0_A.sl.r_184 c arg7 harg7 x6) (ProjScratch.cos16 c arg6 harg6 x5) (ProjScratch.sin16 c arg7 harg7 x6) arg9 harg9 inb_S3x128_S1x128_2_0 (by decide) (by decide) (by decide))
  · exact piece2 (B x0 x1 x5 x6 x7 x8 x4 2) 1024 inb_S1x16x16x3072_S1x16x16x512_0_0_0_1024
      (ropes (kernelRun0_A.sl.r_168 c arg1 harg1 arg2 harg2 arg13 x0 x1) (View.readAt (Elt Ideal) arg5.view (Rect.unit (s := S1024x3072) ![0, 1024] S1024x512.size inb_S1024x3072_S1024x512_0_1024).toLoadRect (harg5.unread x4))
      (View.readAt (Elt Ideal) arg9.view (Rect.unit (s := S3x128) ![2, 0] S1x128.size inb_S3x128_S1x128_2_0).toLoadRect (harg9.unread x8)) (kernelRun0_A.sl.r_183 c arg6 harg6 x5) (kernelRun0_A.sl.r_184 c arg7 harg7 x6))
      (tile_k c arg1 harg1 arg2 harg2 x0 x1 x5 x6 x7 x8 arg5 harg5 x4 1024 inb_S1024x3072_S1024x512_0_1024 2 (kernelRun0_A.sl.r_168 c arg1 harg1 arg2 harg2 arg13 x0 x1) (at16) (ProjScratch.rows16 c arg1 harg1 arg2 harg2 arg13 x0 x1) (kernelRun0_A.sl.r_183 c arg6 harg6 x5) (kernelRun0_A.sl.r_184 c arg7 harg7 x6) (ProjScratch.cos16 c arg6 harg6 x5) (ProjScratch.sin16 c arg7 harg7 x6) arg9 harg9 inb_S3x128_S1x128_2_0 (by decide) (by decide) (by decide))
  · exact piece2 (B x0 x1 x5 x6 x7 x8 x4 2) 512 inb_S1x16x16x3072_S1x16x16x512_0_0_0_512
      (ropes (kernelRun0_A.sl.r_168 c arg1 harg1 arg2 harg2 arg13 x0 x1) (View.readAt (Elt Ideal) arg5.view (Rect.unit (s := S1024x3072) ![0, 512] S1024x512.size inb_S1024x3072_S1024x512_0_512).toLoadRect (harg5.unread x4))
      (View.readAt (Elt Ideal) arg8.view (Rect.unit (s := S3x128) ![2, 0] S1x128.size inb_S3x128_S1x128_2_0).toLoadRect (harg8.unread x7)) (kernelRun0_A.sl.r_183 c arg6 harg6 x5) (kernelRun0_A.sl.r_184 c arg7 harg7 x6))
      (tile_q c arg1 harg1 arg2 harg2 x0 x1 x5 x6 x7 x8 arg5 harg5 x4 512 inb_S1024x3072_S1024x512_0_512 2 (kernelRun0_A.sl.r_168 c arg1 harg1 arg2 harg2 arg13 x0 x1) (at16) (ProjScratch.rows16 c arg1 harg1 arg2 harg2 arg13 x0 x1) (kernelRun0_A.sl.r_183 c arg6 harg6 x5) (kernelRun0_A.sl.r_184 c arg7 harg7 x6) (ProjScratch.cos16 c arg6 harg6 x5) (ProjScratch.sin16 c arg7 harg7 x6) arg8 harg8 inb_S3x128_S1x128_2_0 (by decide) (by decide))
  · exact piece2 (B x0 x1 x5 x6 x7 x8 x4 2) 0 inb_S1x16x16x3072_S1x16x16x512_0_0_0_0
      (ropes (kernelRun0_A.sl.r_168 c arg1 harg1 arg2 harg2 arg13 x0 x1) (View.readAt (Elt Ideal) arg5.view (Rect.unit (s := S1024x3072) ![0, 0] S1024x512.size inb_S1024x3072_S1024x512_0_0).toLoadRect (harg5.unread x4))
      (View.readAt (Elt Ideal) arg8.view (Rect.unit (s := S3x128) ![2, 0] S1x128.size inb_S3x128_S1x128_2_0).toLoadRect (harg8.unread x7)) (kernelRun0_A.sl.r_183 c arg6 harg6 x5) (kernelRun0_A.sl.r_184 c arg7 harg7 x6))
      (tile_q c arg1 harg1 arg2 harg2 x0 x1 x5 x6 x7 x8 arg5 harg5 x4 0 inb_S1024x3072_S1024x512_0_0 2 (kernelRun0_A.sl.r_168 c arg1 harg1 arg2 harg2 arg13 x0 x1) (at16) (ProjScratch.rows16 c arg1 harg1 arg2 harg2 arg13 x0 x1) (kernelRun0_A.sl.r_183 c arg6 harg6 x5) (kernelRun0_A.sl.r_184 c arg7 harg7 x6) (ProjScratch.cos16 c arg6 harg6 x5) (ProjScratch.sin16 c arg7 harg7 x6) arg8 harg8 inb_S3x128_S1x128_2_0 (by decide) (by decide))

/-- What a grid point leaves in the block of group 2. -/
theorem block2 : out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = (fun y : S1x16x16x3072.Idx => B x0 x1 x5 x6 x7 x8 x4 2 ⟨16 * (y 2).val + (y 1).val, by
        have b1 : (y 1).val < 16 := (y 1).2
        have b2 : (y 2).val < 16 := (y 2).2
        omega⟩ (y 3).val) := by
  funext y
  unfold out0_A_11
  exact View.read_writes_apply_of_pieces _ _ _ _ (View.PiecesOf.mem (pieces2 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) y
    (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)

end Cert.ProjBlock

end
-- ==== Proof.ProjKernelValue.lean ====
/- The value of the projection kernel: its three result arrays, index by index. -/
module

public import proofs.«01_k».proof.Proof.ProjBlocks
public import proofs.«01_k».proof.Proof.Gen.ProjKernelIdeal.Value
public import Idealize.ShloMosaic.Lib.Pipeline.ValueKit
public import Idealize.ShloMosaic.Lib.Pointwise

@[expose] public section

set_option maxRecDepth 16384

noncomputable section

namespace Cert.ProjKernelValue

open Cert.ProjKernelIdeal Cert.ProjKernelIdeal.Gen Idealize.ShloMosaic Idealize.ShloMosaic.TcCoe Idealize.SL.Sem
open ProjMath (out cols row)

variable (m : (ℓ : Loc nD τ sig) → Buf (Elt Ideal) ℓ)

/-- Where each window's block lies at a grid point. -/
theorem idx : ∀ t : Fin cfg0.N, win0_0.index t = ![(grid0.coords t 0).val, 0] ∧ win0_1.index t = ![0, 0] ∧ win0_2.index t = ![0, 0]
    ∧ win0_3.index t = ![0, 0] ∧ win0_4.index t = ![0, 0]
    ∧ win0_5.index t = ![(grid0.coords t 0).val, 0] ∧ win0_6.index t = ![(grid0.coords t 0).val, 0]
    ∧ win0_7.index t = ![0, 0] ∧ win0_8.index t = ![0, 0]
    ∧ win0_9.index t = ![(grid0.coords t 0).val, 0]
    ∧ win0_10.index t = ![(grid0.coords t 0).val / 8, 0, (grid0.coords t 0).val % 8, 0]
    ∧ win0_11.index t = ![(grid0.coords t 0).val / 8, 0, (grid0.coords t 0).val % 8, 0] := by
  decide +kernel

theorem lt0 (t : Fin cfg0.N) : (grid0.coords t 0).val < 128 := (grid0.coords t 0).2

/-- One element of a group's output: group `g`, weights `w`, row `r`, column `n`, from the arguments' arrays. -/
def val {k : ℕ} (a0 : (⟨2, ![32768, 1024]⟩ : Shape).Idx → EReal) (a1 : (⟨2, ![1, 1024]⟩ : Shape).Idx → EReal) (a5 a6 : (⟨2, ![32768, 128]⟩ : Shape).Idx → EReal)
    (a7 a8 : (⟨2, ![3, 128]⟩ : Shape).Idx → EReal) (w : (⟨2, ![1024, k]⟩ : Shape).Idx → EReal) (g : Fin 3) (r : Fin 32768) (n : ℕ) : EReal :=
  out (cols w) (row a7 g) (row a8 g) (row a5 r) (row a6 r) (row a0 r) (row a1 0) n

/-- Two weights with the same columns. -/
theorem cols_of {n : ℕ} (x y : (⟨2, ![1024, n]⟩ : Shape).Idx → EReal) (h : ∀ (k : Fin 1024) (j : Fin n), x (ix2 k j) = y (ix2 k j)) : cols x = cols y := by
  funext j k
  unfold cols
  by_cases hj : j < n
  · rw [dif_pos hj, dif_pos hj, h]
  · rw [dif_neg hj, dif_neg hj]

/-- The block's row `r` at grid point `t` is row `256 t + r` of the array. -/
def at256 (t : Fin cfg0.N) (r : Fin 256) : Fin 32768 := ⟨256 * (grid0.coords t 0).val + r.val, by have := lt0 t; omega⟩

/-! The input windows' blocks. -/

theorem blk0 (c : Dev nD) (t : Fin cfg0.N) (r : Fin 256) :
    row (m := 256) (n := 1024) (iblk m c 0 t) r = row (m := 32768) (n := 1024) (m ((c : Thread nD τ).loc main_arg0)) (at256 t r) :=
  funext fun e => by unfold row at256; blk_point [iblk, V_main_arg0, idx t]

theorem blk1 (c : Dev nD) (t : Fin cfg0.N) :
    row (m := 1) (n := 1024) (iblk m c 1 t) 0 = row (m := 1) (n := 1024) (m ((c : Thread nD τ).loc main_arg1)) 0 :=
  funext fun e => by unfold row; blk_point [iblk, V_main_arg1, idx t]

theorem blk2 (c : Dev nD) (t : Fin cfg0.N) : cols (n := 4096) (iblk m c 2 t) = cols (n := 4096) (m ((c : Thread nD τ).loc main_arg2)) :=
  cols_of _ _ fun k j => by blk_point [iblk, V_main_arg2, idx t]

theorem blk3 (c : Dev nD) (t : Fin cfg0.N) : cols (n := 3072) (iblk m c 3 t) = cols (n := 3072) (m ((c : Thread nD τ).loc main_arg3)) :=
  cols_of _ _ fun k j => by blk_point [iblk, V_main_arg3, idx t]

theorem blk4 (c : Dev nD) (t : Fin cfg0.N) : cols (n := 3072) (iblk m c 4 t) = cols (n := 3072) (m ((c : Thread nD τ).loc main_arg4)) :=
  cols_of _ _ fun k j => by blk_point [iblk, V_main_arg4, idx t]

theorem blk5 (c : Dev nD) (t : Fin cfg0.N) (r : Fin 256) :
    row (m := 256) (n := 128) (iblk m c 5 t) r = row (m := 32768) (n := 128) (m ((c : Thread nD τ).loc main_arg5)) (at256 t r) :=
  funext fun e => by unfold row at256; blk_point [iblk, V_main_arg5, idx t]

theorem blk6 (c : Dev nD) (t : Fin cfg0.N) (r : Fin 256) :
    row (m := 256) (n := 128) (iblk m c 6 t) r = row (m := 32768) (n := 128) (m ((c : Thread nD τ).loc main_arg6)) (at256 t r) :=
  funext fun e => by unfold row at256; blk_point [iblk, V_main_arg6, idx t]

theorem blk7 (c : Dev nD) (t : Fin cfg0.N) (g : Fin 3) :
    row (m := 3) (n := 128) (iblk m c 7 t) g = row (m := 3) (n := 128) (m ((c : Thread nD τ).loc main_arg7)) g :=
  funext fun e => by unfold row; blk_point [iblk, V_main_arg7, idx t]

theorem blk8 (c : Dev nD) (t : Fin cfg0.N) (g : Fin 3) :
    row (m := 3) (n := 128) (iblk m c 8 t) g = row (m := 3) (n := 128) (m ((c : Thread nD τ).loc main_arg8)) g :=
  funext fun e => by unfold row; blk_point [iblk, V_main_arg8, idx t]

/-- The value of the arguments in memory. -/
abbrev valOf {k : ℕ} (c : Dev nD) (w : (⟨2, ![1024, k]⟩ : Shape).Idx → EReal) (g : Fin 3) (r : Fin 32768) (n : ℕ) : EReal :=
  val (m ((c : Thread nD τ).loc main_arg0)) (m ((c : Thread nD τ).loc main_arg1)) (m ((c : Thread nD τ).loc main_arg5)) (m ((c : Thread nD τ).loc main_arg6))
    (m ((c : Thread nD τ).loc main_arg7)) (m ((c : Thread nD τ).loc main_arg8)) w g r n

/-- A block's elements are the arrays' elements, once the weights are known. -/
theorem val_of {k : ℕ} (c : Dev nD) (t : Fin cfg0.N) (w : (⟨2, ![1024, k]⟩ : Shape).Idx → EReal) (w' : (⟨2, ![1024, k]⟩ : Shape).Idx → EReal)
    (hw : cols w = cols w') (g : Fin 3) (r : Fin 256) (n : ℕ) :
    ProjBlock.B (iblk m c 0 t) (iblk m c 1 t) (iblk m c 5 t) (iblk m c 6 t) (iblk m c 7 t) (iblk m c 8 t) w g r n = valOf m c w' g (at256 t r) n := by
  unfold ProjBlock.B valOf val
  rw [hw, blk0, blk1, blk5, blk6, blk7, blk8]

/-- Row `r` of sequence `b` among all rows, `r` counted by residue `a` modulo 4. -/
def at4 (b : Fin 16) (a : Fin 4) (i : Fin 512) : Fin 32768 := ⟨b.val * 2048 + (4 * i.val + a.val), by omega⟩

/-- The same modulo 16. -/
def at16 (b : Fin 16) (a : Fin 16) (i : Fin 128) : Fin 32768 := ⟨b.val * 2048 + (16 * i.val + a.val), by omega⟩

/-- The first result at one index. -/
def res9 (c : Dev nD) (y : S32768x4096.Idx) : EReal := valOf m c (k := 4096) (m ((c : Thread nD τ).loc main_arg2)) 0 (y 0) (y 1).val

/-- The second result at one index. -/
def res10 (c : Dev nD) (y : S16x4x512x3072.Idx) : EReal :=
  valOf m c (k := 3072) (m ((c : Thread nD τ).loc main_arg3)) 1 (at4 (y 0) (y 1) (y 2)) (y 3).val

/-- The third result at one index. -/
def res11 (c : Dev nD) (y : S16x16x128x3072.Idx) : EReal :=
  valOf m c (k := 3072) (m ((c : Thread nD τ).loc main_arg4)) 2 (at16 (y 0) (y 1) (y 2)) (y 3).val

/-- The block of group 0's output after a grid point. -/
theorem outs9 (c : Dev nD) (t : Fin cfg0.N) : (outsAt0 m c t).1 = (fun y : S256x4096.Idx =>
    ProjBlock.B (iblk m c 0 t) (iblk m c 1 t) (iblk m c 5 t) (iblk m c 6 t) (iblk m c 7 t) (iblk m c 8 t) (iblk m c 2 t) 0 (y 0) (y 1).val) := by
  simp only [outsAt0]
  exact ProjBlock.block0 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    (iblk m c 0 t) (iblk m c 1 t) (iblk m c 2 t) (iblk m c 3 t) (iblk m c 4 t) (iblk m c 5 t) (iblk m c 6 t) (iblk m c 7 t) (iblk m c 8 t)

/-- The first result array after the run. -/
theorem final9 (c : Dev nD) : (dats m 0 c).arrAt 9 cfg0.N = res9 m c := by
  refine (dats m 0 c).arrAt_eq_of_covers 9 _ (by decide +kernel) fun t hf y => ?_
  blk_simp
  rw [after0_9]
  have hl := lt0 t
  have he : (win0_9.blk t).view.emb y = ix2 (at256 t (y 0 : Fin 256)) (y 1 : Fin 4096) := by
    unfold at256
    blk_point [idx t]
  refine (congrFun (outs9 m c t) y).trans ?_
  refine (val_of m c t _ _ (blk2 m c t) 0 (y 0) (y 1 : Fin 4096).val).trans ?_
  rw [he]
  rfl

/-- The block of group 1's output after a grid point. -/
theorem outs10 (c : Dev nD) (t : Fin cfg0.N) : (outsAt0 m c t).2.1 = (fun y : S1x4x64x3072.Idx =>
    ProjBlock.B (iblk m c 0 t) (iblk m c 1 t) (iblk m c 5 t) (iblk m c 6 t) (iblk m c 7 t) (iblk m c 8 t) (iblk m c 3 t) 1 ⟨4 * (y 2).val + (y 1).val, by
        have b1 : (y 1).val < 4 := (y 1).2
        have b2 : (y 2).val < 64 := (y 2).2
        omega⟩ (y 3).val) := by
  simp only [outsAt0]
  exact ProjBlock.block1 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    (iblk m c 0 t) (iblk m c 1 t) (iblk m c 2 t) (iblk m c 3 t) (iblk m c 4 t) (iblk m c 5 t) (iblk m c 6 t) (iblk m c 7 t) (iblk m c 8 t)

/-- The second result array after the run. -/
theorem final10 (c : Dev nD) : (dats m 0 c).arrAt 10 cfg0.N = res10 m c := by
  refine (dats m 0 c).arrAt_eq_of_covers 10 _ (by decide +kernel) fun t hf y => ?_
  blk_simp
  rw [after0_10]
  have hl := lt0 t
  have h1 : ((y 1 : Fin 4) : ℕ) < 4 := (y 1 : Fin 4).2
  have h2 : ((y 2 : Fin 64) : ℕ) < 64 := (y 2 : Fin 64).2
  have he : (win0_10.blk t).view.emb y = ix4 (⟨(grid0.coords t 0).val / 8, by omega⟩ : Fin 16) (y 1 : Fin 4)
      (⟨64 * ((grid0.coords t 0).val % 8) + (y 2 : Fin 64).val, by omega⟩ : Fin 512) (y 3 : Fin 3072) := by
    blk_point [idx t]
  refine (congrFun (outs10 m c t) y).trans ?_
  refine (val_of m c t _ _ (blk3 m c t) 1 _ (y 3 : Fin 3072).val).trans ?_
  rw [he]
  refine congrArg (fun r => valOf m c (k := 3072) (m ((c : Thread nD τ).loc main_arg3)) 1 r (y 3 : Fin 3072).val) (Fin.ext ?_)
  show 256 * (grid0.coords t 0).val + (4 * (y 2 : Fin 64).val + (y 1 : Fin 4).val)
    = (grid0.coords t 0).val / 8 * 2048 + (4 * (64 * ((grid0.coords t 0).val % 8) + (y 2 : Fin 64).val) + (y 1 : Fin 4).val)
  omega

/-- The block of group 2's output after a grid point. -/
theorem outs11 (c : Dev nD) (t : Fin cfg0.N) : (outsAt0 m c t).2.2 = (fun y : S1x16x16x3072.Idx =>
    ProjBlock.B (iblk m c 0 t) (iblk m c 1 t) (iblk m c 5 t) (iblk m c 6 t) (iblk m c 7 t) (iblk m c 8 t) (iblk m c 4 t) 2 ⟨16 * (y 2).val + (y 1).val, by
        have b1 : (y 1).val < 16 := (y 1).2
        have b2 : (y 2).val < 16 := (y 2).2
        omega⟩ (y 3).val) := by
  simp only [outsAt0]
  exact ProjBlock.block2 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    (iblk m c 0 t) (iblk m c 1 t) (iblk m c 2 t) (iblk m c 3 t) (iblk m c 4 t) (iblk m c 5 t) (iblk m c 6 t) (iblk m c 7 t) (iblk m c 8 t)

/-- The third result array after the run. -/
theorem final11 (c : Dev nD) : (dats m 0 c).arrAt 11 cfg0.N = res11 m c := by
  refine (dats m 0 c).arrAt_eq_of_covers 11 _ (by decide +kernel) fun t hf y => ?_
  blk_simp
  rw [after0_11]
  have hl := lt0 t
  have h1 : ((y 1 : Fin 16) : ℕ) < 16 := (y 1 : Fin 16).2
  have h2 : ((y 2 : Fin 16) : ℕ) < 16 := (y 2 : Fin 16).2
  have he : (win0_11.blk t).view.emb y = ix4 (⟨(grid0.coords t 0).val / 8, by omega⟩ : Fin 16) (y 1 : Fin 16)
      (⟨16 * ((grid0.coords t 0).val % 8) + (y 2 : Fin 16).val, by omega⟩ : Fin 128) (y 3 : Fin 3072) := by
    blk_point [idx t]
  refine (congrFun (outs11 m c t) y).trans ?_
  refine (val_of m c t _ _ (blk4 m c t) 2 _ (y 3 : Fin 3072).val).trans ?_
  rw [he]
  refine congrArg (fun r => valOf m c (k := 3072) (m ((c : Thread nD τ).loc main_arg4)) 2 r (y 3 : Fin 3072).val) (Fin.ext ?_)
  show 256 * (grid0.coords t 0).val + (16 * (y 2 : Fin 16).val + (y 1 : Fin 16).val)
    = (grid0.coords t 0).val / 8 * 2048 + (16 * (16 * ((grid0.coords t 0).val % 8) + (y 2 : Fin 16).val) + (y 1 : Fin 16).val)
  omega

end Cert.ProjKernelValue

end
-- ==== Proof.ProjRef.lean ====
/- The projection's reference, each of its steps read at an index. -/
module

public import proofs.«01_k».proof.Proof.ProjMath
public import proofs.«01_k».proof.Proof.Gen.ProjReferenceIdeal.Run
public import Idealize.ShloMosaic.Lib.Pointwise

@[expose] public section

set_option maxRecDepth 16384

noncomputable section

namespace Cert.ProjRef

open Cert.ProjReferenceIdeal Cert.ProjReferenceIdeal.Gen Cert.ProjReferenceIdeal.Value Idealize.ShloMosaic Idealize.ShloMosaic.TcCoe
open ProjMath

/-- The residual stream's rows, normed. -/
def rn (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim S32768x1 ![0]
    bcast_S32768_S32768x1_0 (Host.reduceAdd (mulf x x) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 g)

/-- A normed row at a channel. -/
theorem rn_apply (x : FVec Ideal S32768x1024 .f32) (g : FVec Ideal S1x1024 .f32) (r : Fin 32768) (k : Fin 1024) :
    rn x g (ix2 r k) = normed (Ideal.ofBits FTy.f32 0x44800000#32) (fun k => x (ix2 r k)) (fun k => g (ix2 0 k)) k := by
  unfold rn normed eps
  pointwise

/-- The product with the first group's weights, at a row and a column. -/
theorem prod0_apply (h : FVec Ideal S32768x1024 .f32) (w : FVec Ideal S1024x4096 .bf16) (r : Fin 32768) (c : Fin 4096) :
    Host.dotGeneral (F := Ideal) dot_S32768x1024_S1024x4096_S32768x4096_1_0_0_1_n_n none h (extf .f32 w bitsLt_bf16_f32) (ix2 r c)
      = ∑ k : Fin 1024, h (ix2 r k) * w (ix2 k c) := by
  pointwise

/-- The product with the other groups' weights, at a row and a column. -/
theorem prod1_apply (h : FVec Ideal S32768x1024 .f32) (w : FVec Ideal S1024x3072 .bf16) (r : Fin 32768) (c : Fin 3072) :
    Host.dotGeneral (F := Ideal) dot_S32768x1024_S1024x3072_S32768x3072_1_0_0_1_n_n none h (extf .f32 w bitsLt_bf16_f32) (ix2 r c)
      = ∑ k : Fin 1024, h (ix2 r k) * w (ix2 k c) := by
  pointwise

/-- Every head's rows, normed. -/
def nh (z : FVec Ideal S32768x8x128 .f32) (gain : FVec Ideal S1x128 .f32) : FVec Ideal S32768x8x128 .f32 :=
  mulf (mulf z (broadcastInDim S32768x8x128 ![0, 1, 2] bcast_S32768x8x1_S32768x8x128_0_1_2 (Host.rsqrt (addf (Host.divf
    (broadcastInDim S32768x8x1 ![0, 1] bcast_S32768x8_S32768x8x1_0_1 (Host.reduceAdd (mulf z z) (constant S_ .f32 0x00000000#32)
      reducesTo_S32768x8x128_S32768x8_d2 h_S_))
    (broadcastInDim S32768x8x1 ![] bcast_S_S32768x8x1 (constant S_ .f32 0x43000000#32)))
    (broadcastInDim S32768x8x1 ![] bcast_S_S32768x8x1 (constant S_ .f32 0x358637BD#32))))))
    (broadcastInDim S32768x8x128 ![0, 1, 2] bcast_S1x1x128_S32768x8x128_0_1_2 (broadcastInDim S1x1x128 ![2] bcast_S128_S1x1x128_2
      (shapeCast S128 gain shapeCasts_S1x128_S128)))

/-- A normed head at a row and a channel. -/
theorem nh_apply (z : FVec Ideal S32768x8x128 .f32) (gain : FVec Ideal S1x128 .f32) (r : Fin 32768) (j : Fin 8) (e : Fin 128) :
    nh z gain (ix3 r j e) = normed (Ideal.ofBits FTy.f32 0x43000000#32) (fun e => z (ix3 r j e)) (fun e => gain (ix2 0 e)) e := by
  unfold nh normed eps
  pointwise

/-- A head's two halves exchanged. -/
def turn (n : FVec Ideal S32768x8x128 .f32) : FVec Ideal S32768x8x128 .f32 :=
  concatenate S32768x8x128 2 [⟨S32768x8x64, extractStridedSlice S32768x8x64 ![0, 0, 64] n slices_S32768x8x128_S32768x8x64_0_0_64⟩,
    ⟨S32768x8x64, extractStridedSlice S32768x8x64 ![0, 0, 0] n slices_S32768x8x128_S32768x8x64_0_0_0⟩]
    concatenates_S32768x8x64_S32768x8x64_S32768x8x128_d2

/-- The halves exchanged, at a channel. -/
theorem turn_apply (n : FVec Ideal S32768x8x128 .f32) (r : Fin 32768) (j : Fin 8) (e : Fin 128) : turn n (ix3 r j e) = n (ix3 r j (other e)) := by
  unfold turn other
  pointwise
  by_cases h : e.val < 64
  · rw [dif_pos h]
    exact congrArg (fun i => n (ix3 r j i)) (Fin.ext (show 64 + e.val = (e.val + 64) % 128 by omega))
  · rw [dif_neg h]
    exact congrArg (fun i => n (ix3 r j i)) (Fin.ext (show e.val - 64 = (e.val + 64) % 128 by omega))

/-- A table's row for every head. -/
def tab (c : FVec Ideal S32768x128 .f32) : FVec Ideal S32768x8x128 .f32 :=
  broadcastInDim S32768x8x128 ![0, 1, 2] bcast_S32768x1x128_S32768x8x128_0_1_2 (broadcastInDim S32768x1x128 ![0, 2] bcast_S32768x128_S32768x1x128_0_2 c)

/-- A table at a row and a channel. -/
theorem tab_apply (c : FVec Ideal S32768x128 .f32) (r : Fin 32768) (j : Fin 8) (e : Fin 128) : tab c (ix3 r j e) = c (ix2 r e) := by
  unfold tab
  pointwise

/-- Normed heads rotated, laid side by side. -/
def rope (n : FVec Ideal S32768x8x128 .f32) (c s : FVec Ideal S32768x128 .f32) : FVec Ideal S32768x1024 .f32 :=
  shapeCast S32768x1024 (addf (mulf n (tab c)) (mulf (turn n) (tab s))) shapeCasts_S32768x8x128_S32768x1024

/-- Heads laid side by side, at a row and a column. -/
theorem flat_apply (n : FVec Ideal S32768x8x128 .f32) (r : Fin 32768) (c : Fin 1024) :
    shapeCast S32768x1024 n shapeCasts_S32768x8x128_S32768x1024 (ix2 r c)
      = n (ix3 r (⟨c / 128, by omega⟩ : Fin 8) (⟨c % 128, Nat.mod_lt _ (by decide)⟩ : Fin 128)) := by
  pointwise

/-- Rotated heads at a row and a column. -/
theorem rope_apply (n : FVec Ideal S32768x8x128 .f32) (co si : FVec Ideal S32768x128 .f32) (r : Fin 32768) (c : Fin 1024) :
    rope n co si (ix2 r c)
      = n (ix3 r (⟨c / 128, by omega⟩ : Fin 8) (⟨c % 128, Nat.mod_lt _ (by decide)⟩ : Fin 128)) * co (ix2 r (⟨c % 128, Nat.mod_lt _ (by decide)⟩ : Fin 128))
        + n (ix3 r (⟨c / 128, by omega⟩ : Fin 8) (other ⟨c % 128, Nat.mod_lt _ (by decide)⟩)) * si (ix2 r (⟨c % 128, Nat.mod_lt _ (by decide)⟩ : Fin 128)) := by
  refine (flat_apply _ r c).trans ?_
  show n _ * tab co _ + turn n _ * tab si _ = _
  rw [turn_apply, tab_apply, tab_apply]

/-- A thousand columns as eight heads. -/
theorem heads_apply (y : FVec Ideal S32768x1024 .f32) (r : Fin 32768) (j : Fin 8) (e : Fin 128) :
    shapeCast S32768x8x128 y shapeCasts_S32768x1024_S32768x8x128 (ix3 r j e) = y (ix2 r (⟨128 * j + e, by omega⟩ : Fin 1024)) := by
  pointwise
  try exact congrArg (fun i => y (ix2 r i)) (Fin.ext (show j.val * 128 + e.val = 128 * j.val + e.val by omega))

/-- A thousand columns of the first group's product. -/
theorem part0_apply (y : FVec Ideal S32768x4096 .f32) (o : ℕ) (ho : o + 1024 ≤ 4096) (hs) (r : Fin 32768) (c : Fin 1024) :
    extractStridedSlice S32768x1024 ![0, o] y hs (ix2 r c) = y (ix2 r (⟨o + c, by omega⟩ : Fin 4096)) := by
  pointwise

/-- A thousand columns of another group's product. -/
theorem part1_apply (y : FVec Ideal S32768x3072 .f32) (o : ℕ) (ho : o + 1024 ≤ 3072) (hs) (r : Fin 32768) (c : Fin 1024) :
    extractStridedSlice S32768x1024 ![0, o] y hs (ix2 r c) = y (ix2 r (⟨o + c, by omega⟩ : Fin 3072)) := by
  pointwise

/-- A row of the gains. -/
theorem gain_apply (a : FVec Ideal S3x128 .f32) (g : Fin 3) (hs) (e : Fin 128) :
    extractStridedSlice S1x128 ![g.val, 0] a hs (ix2 0 e) = a (ix2 g e) := by
  pointwise

/-- The gate: a value over one plus the exponential of its negative. -/
def gate (z : FVec Ideal S32768x1024 .f32) : FVec Ideal S32768x1024 .f32 :=
  mulf z (Host.divf (broadcastInDim S32768x1024 ![] bcast_S_S32768x1024 (constant S_ .f32 0x3F800000#32))
    (addf (broadcastInDim S32768x1024 ![] bcast_S_S32768x1024 (constant S_ .f32 0x3F800000#32)) (Host.exp (Host.negf z))))

/-- The word of one. -/
theorem one_word : Ideal.ofBits FTy.f32 0x3F800000#32 = 1 := by
  simp [Ideal.ofBits, Ideal.ieee]
  rw [← EReal.coe_mul, ← EReal.coe_one]
  norm_num

/-- The gate at an index. -/
theorem gate_apply (z : FVec Ideal S32768x1024 .f32) (r : Fin 32768) (c : Fin 1024) : gate z (ix2 r c) = silu (z (ix2 r c)) := by
  have h : gate z (ix2 r c) = z (ix2 r c) * Ideal.div (Ideal.ofBits FTy.f32 0x3F800000#32) (Ideal.ofBits FTy.f32 0x3F800000#32 + Ideal.exp (-(z (ix2 r c)))) := by
    unfold gate
    pointwise
  rw [h, one_word]
  rfl

/-- Four parts side by side, at a part's column. -/
theorem join4_apply (a b c d : FVec Ideal S32768x1024 .f32) (r : Fin 32768) (j : Fin 4) (e : Fin 1024) :
    truncf (F := Ideal) .bf16 (concatenate S32768x4096 1 [⟨S32768x1024, a⟩, ⟨S32768x1024, b⟩, ⟨S32768x1024, c⟩, ⟨S32768x1024, d⟩]
      concatenates_S32768x1024_S32768x1024_S32768x1024_S32768x1024_S32768x4096_d1) bitsLt_bf16_f32 (ix2 r ⟨1024 * j + e, by omega⟩)
      = (![a, b, c, d] j : FVec Ideal S32768x1024 .f32) (ix2 r e) := by
  fin_cases j
  · show _ = a (ix2 r e)
    pointwise
  · show _ = b (ix2 r e)
    pointwise
  · show _ = c (ix2 r e)
    pointwise
    rw [dif_neg (by omega), dif_neg (by omega), dif_pos (by omega)]
    exact congrArg (fun i => c (ix2 r i)) (Fin.ext (show 2048 + e.val - 1024 - 1024 = e.val by omega))
  · show _ = d (ix2 r e)
    pointwise
    rw [dif_neg (by omega), dif_neg (by omega), dif_neg (by omega)]
    exact congrArg (fun i => d (ix2 r i)) (Fin.ext (show 3072 + e.val - 1024 - 1024 - 1024 = e.val by omega))

/-- Three parts side by side, at a part's column. -/
theorem join3_apply (a b c : FVec Ideal S32768x1024 .f32) (r : Fin 32768) (j : Fin 3) (e : Fin 1024) :
    truncf (F := Ideal) .bf16 (concatenate S32768x3072 1 [⟨S32768x1024, a⟩, ⟨S32768x1024, b⟩, ⟨S32768x1024, c⟩]
      concatenates_S32768x1024_S32768x1024_S32768x1024_S32768x3072_d1) bitsLt_bf16_f32 (ix2 r ⟨1024 * j + e, by omega⟩)
      = (![a, b, c] j : FVec Ideal S32768x1024 .f32) (ix2 r e) := by
  fin_cases j
  · show _ = a (ix2 r e)
    pointwise
  · show _ = b (ix2 r e)
    pointwise
  · show _ = c (ix2 r e)
    pointwise
    rw [dif_neg (by omega), dif_neg (by omega)]
    exact congrArg (fun i => c (ix2 r i)) (Fin.ext (show 2048 + e.val - 1024 - 1024 = e.val by omega))

/-- The rows of a sequence sorted by their residues modulo 4. -/
theorem sort4_apply (y : FVec Ideal S32768x3072 .bf16) (b : Fin 16) (a : Fin 4) (i : Fin 512) (n : Fin 3072) :
    transpose S16x4x512x3072 [0, 2, 1, 3] (shapeCast S16x512x4x3072 y shapeCasts_S32768x3072_S16x512x4x3072)
      transposes_S16x512x4x3072_S16x4x512x3072_0_2_1_3 (ix4 b a i n) = y (ix2 (⟨b * 2048 + (4 * i + a), by omega⟩ : Fin 32768) n) := by
  pointwise
  exact congrArg (fun k => y (ix2 k n)) (Fin.ext (by simp only; omega))

/-- The rows of a sequence sorted by their residues modulo 16. -/
theorem sort16_apply (y : FVec Ideal S32768x3072 .bf16) (b : Fin 16) (a : Fin 16) (i : Fin 128) (n : Fin 3072) :
    transpose S16x16x128x3072 [0, 2, 1, 3] (shapeCast S16x128x16x3072 y shapeCasts_S32768x3072_S16x128x16x3072)
      transposes_S16x128x16x3072_S16x16x128x3072_0_2_1_3 (ix4 b a i n) = y (ix2 (⟨b * 2048 + (16 * i + a), by omega⟩ : Fin 32768) n) := by
  pointwise
  exact congrArg (fun k => y (ix2 k n)) (Fin.ext (by simp only; omega))

end Cert.ProjRef

end
-- ==== Proof.ProjRefValue.lean ====
/- The value of the projection's reference: its three results, index by index. -/
module

public import proofs.«01_k».proof.Proof.ProjRef

@[expose] public section

set_option maxRecDepth 16384

noncomputable section

namespace Cert.ProjRefValue

open Cert.ProjReferenceIdeal Cert.ProjReferenceIdeal.Gen Cert.ProjReferenceIdeal.Value Idealize.ShloMosaic Idealize.ShloMosaic.TcCoe Idealize.SL.Sem
open ProjMath ProjRef

section

variable (co si : FVec Ideal S32768x128 .f32) (r : Fin 32768) (W : ℕ → Fin 1024 → EReal) (Q K C S : Fin 128 → EReal) (X G : Fin 1024 → EReal)
variable (hc : ∀ e, co (ix2 r e) = C e) (hs : ∀ e, si (ix2 r e) = S e)

include hc hs in
/-- Eight heads, normed and rotated, at a row and a column. -/
theorem rope_out (y : FVec Ideal S32768x1024 .f32) (gain : FVec Ideal S1x128 .f32) (P : Fin 128 → EReal) (hg : ∀ e, gain (ix2 0 e) = P e)
    (o : ℕ) (hy : ∀ c : Fin 1024, y (ix2 r c) = proj X G (W (o + c))) (c : Fin 1024) :
    rope (nh (shapeCast S32768x8x128 y shapeCasts_S32768x1024_S32768x8x128) gain) co si (ix2 r c)
      = head (fun e => proj X G (W (o + (128 * (c / 128) + e)))) P C S ⟨c % 128, Nat.mod_lt _ (by decide)⟩ := by
  rw [rope_apply, nh_apply, nh_apply, hc, hs]
  simp only [heads_apply, hy, hg]
  rfl

include hc hs in
/-- Eight heads of queries or keys hold the group's output. -/
theorem head_out (y : FVec Ideal S32768x1024 .f32) (gain : FVec Ideal S1x128 .f32) (P : Fin 128 → EReal) (hg : ∀ e, gain (ix2 0 e) = P e)
    (o : ℕ) (hy : ∀ c : Fin 1024, y (ix2 r c) = proj X G (W (o + c))) (c : Fin 1024) (ho : o = 0 ∨ o = 1024) (hP : P = if o < 1024 then Q else K) :
    rope (nh (shapeCast S32768x8x128 y shapeCasts_S32768x1024_S32768x8x128) gain) co si (ix2 r c) = out W Q K C S X G (o + c) := by
  rw [rope_out co si r W C S X G hc hs y gain P hg o hy c, hP]
  unfold out
  have h1 : o + c.val < 2048 := by omega
  have h2 : (o + c.val < 1024) = (o < 1024) := propext (by omega)
  have h3 : 128 * ((o + c.val) / 128) = o + 128 * (c.val / 128) := by omega
  have h4 : (o + c.val) % 128 = c.val % 128 := by omega
  simp only [h1, h2, h3, h4, if_true, Nat.add_assoc]

/-- The first group's result. -/
def full0 (y : FVec Ideal S32768x4096 .f32) (qg kg : FVec Ideal S1x128 .f32) : FVec Ideal S32768x4096 .bf16 :=
  truncf .bf16 (concatenate S32768x4096 1
    [⟨S32768x1024, rope (nh (shapeCast S32768x8x128 (extractStridedSlice S32768x1024 ![0, 0] y slices_S32768x4096_S32768x1024_0_0)
        shapeCasts_S32768x1024_S32768x8x128) qg) co si⟩,
      ⟨S32768x1024, rope (nh (shapeCast S32768x8x128 (extractStridedSlice S32768x1024 ![0, 1024] y slices_S32768x4096_S32768x1024_0_1024)
        shapeCasts_S32768x1024_S32768x8x128) kg) co si⟩,
      ⟨S32768x1024, extractStridedSlice S32768x1024 ![0, 2048] y slices_S32768x4096_S32768x1024_0_2048⟩,
      ⟨S32768x1024, gate (extractStridedSlice S32768x1024 ![0, 3072] y slices_S32768x4096_S32768x1024_0_3072)⟩]
    concatenates_S32768x1024_S32768x1024_S32768x1024_S32768x1024_S32768x4096_d1) bitsLt_bf16_f32

/-- Another group's result, its rows in order. -/
def full1 (y : FVec Ideal S32768x3072 .f32) (qg kg : FVec Ideal S1x128 .f32) : FVec Ideal S32768x3072 .bf16 :=
  truncf .bf16 (concatenate S32768x3072 1
    [⟨S32768x1024, rope (nh (shapeCast S32768x8x128 (extractStridedSlice S32768x1024 ![0, 0] y slices_S32768x3072_S32768x1024_0_0)
        shapeCasts_S32768x1024_S32768x8x128) qg) co si⟩,
      ⟨S32768x1024, rope (nh (shapeCast S32768x8x128 (extractStridedSlice S32768x1024 ![0, 1024] y slices_S32768x3072_S32768x1024_0_1024)
        shapeCasts_S32768x1024_S32768x8x128) kg) co si⟩,
      ⟨S32768x1024, extractStridedSlice S32768x1024 ![0, 2048] y slices_S32768x3072_S32768x1024_0_2048⟩]
    concatenates_S32768x1024_S32768x1024_S32768x1024_S32768x3072_d1) bitsLt_bf16_f32

variable (qg kg : FVec Ideal S1x128 .f32) (hq : ∀ e, qg (ix2 0 e) = Q e) (hk : ∀ e, kg (ix2 0 e) = K e)

include hc hs hq hk

/-- The first group's result at a row and a column. -/
theorem full0_out (y : FVec Ideal S32768x4096 .f32) (hy : ∀ c : Fin 4096, y (ix2 r c) = proj X G (W c)) (n : Fin 4096) :
    full0 co si y qg kg (ix2 r n) = out W Q K C S X G n := by
  obtain ⟨j, e, rfl⟩ : ∃ (j : Fin 4) (e : Fin 1024), n = ⟨1024 * j + e, by omega⟩ :=
    ⟨⟨n / 1024, by omega⟩, ⟨n % 1024, Nat.mod_lt _ (by decide)⟩, Fin.ext (show n.val = 1024 * (n.val / 1024) + n.val % 1024 by omega)⟩
  have hp : ∀ (o : ℕ) (ho : o + 1024 ≤ 4096) (h) (c : Fin 1024), extractStridedSlice S32768x1024 ![0, o] y h (ix2 r c) = proj X G (W (o + c)) :=
    fun o ho h c => (part0_apply y o ho h r c).trans (hy _)
  unfold full0
  refine (join4_apply _ _ _ _ r j e).trans ?_
  fin_cases j
  · exact head_out co si r W Q K C S X G hc hs _ qg Q hq 0 (hp 0 (by decide) _) e (.inl rfl) rfl
  · exact head_out co si r W Q K C S X G hc hs _ kg K hk 1024 (hp 1024 (by decide) _) e (.inr rfl) rfl
  · refine (hp 2048 (by decide) slices_S32768x4096_S32768x1024_0_2048 e).trans ?_
    unfold out
    rw [if_neg (show ¬ 1024 * 2 + e.val < 2048 by omega), if_pos (show 1024 * 2 + e.val < 3072 by omega)]
    rfl
  · refine (gate_apply _ r e).trans ((congrArg silu (hp 3072 (by decide) slices_S32768x4096_S32768x1024_0_3072 e)).trans ?_)
    unfold out
    rw [if_neg (show ¬ 1024 * 3 + e.val < 2048 by omega), if_neg (show ¬ 1024 * 3 + e.val < 3072 by omega)]
    rfl

/-- Another group's result at a row and a column. -/
theorem full1_out (y : FVec Ideal S32768x3072 .f32) (hy : ∀ c : Fin 3072, y (ix2 r c) = proj X G (W c)) (n : Fin 3072) :
    full1 co si y qg kg (ix2 r n) = out W Q K C S X G n := by
  obtain ⟨j, e, rfl⟩ : ∃ (j : Fin 3) (e : Fin 1024), n = ⟨1024 * j + e, by omega⟩ :=
    ⟨⟨n / 1024, by omega⟩, ⟨n % 1024, Nat.mod_lt _ (by decide)⟩, Fin.ext (show n.val = 1024 * (n.val / 1024) + n.val % 1024 by omega)⟩
  have hp : ∀ (o : ℕ) (ho : o + 1024 ≤ 3072) (h) (c : Fin 1024), extractStridedSlice S32768x1024 ![0, o] y h (ix2 r c) = proj X G (W (o + c)) :=
    fun o ho h c => (part1_apply y o ho h r c).trans (hy _)
  unfold full1
  refine (join3_apply _ _ _ r j e).trans ?_
  fin_cases j
  · exact head_out co si r W Q K C S X G hc hs _ qg Q hq 0 (hp 0 (by decide) _) e (.inl rfl) rfl
  · exact head_out co si r W Q K C S X G hc hs _ kg K hk 1024 (hp 1024 (by decide) _) e (.inr rfl) rfl
  · refine (hp 2048 (by decide) slices_S32768x3072_S32768x1024_0_2048 e).trans ?_
    unfold out
    rw [if_neg (show ¬ 1024 * 2 + e.val < 2048 by omega), if_pos (show 1024 * 2 + e.val < 3072 by omega)]
    rfl

end

variable (x : FVec Ideal S32768x1024 .f32) (g : FVec Ideal S1x1024 .f32) (co si : FVec Ideal S32768x128 .f32) (qa ka : FVec Ideal S3x128 .f32)

/-- The product with the first group's weights is the projection. -/
theorem proj0 (w : FVec Ideal S1024x4096 .bf16) (r : Fin 32768) (c : Fin 4096) :
    Host.dotGeneral (F := Ideal) dot_S32768x1024_S1024x4096_S32768x4096_1_0_0_1_n_n none (rn x g) (extf .f32 w bitsLt_bf16_f32) (ix2 r c)
      = proj (row x r) (row g 0) (cols w c) := by
  rw [prod0_apply]
  exact Finset.sum_congr rfl fun k _ => by
    rw [rn_apply, cols, dif_pos c.2]
    rfl

/-- The product with another group's weights is the projection. -/
theorem proj1 (w : FVec Ideal S1024x3072 .bf16) (r : Fin 32768) (c : Fin 3072) :
    Host.dotGeneral (F := Ideal) dot_S32768x1024_S1024x3072_S32768x3072_1_0_0_1_n_n none (rn x g) (extf .f32 w bitsLt_bf16_f32) (ix2 r c)
      = proj (row x r) (row g 0) (cols w c) := by
  rw [prod1_apply]
  exact Finset.sum_congr rfl fun k _ => by
    rw [rn_apply, cols, dif_pos c.2]
    rfl

/-- The first group's result from the arguments. -/
theorem result0 (w : FVec Ideal S1024x4096 .bf16) (r : Fin 32768) (n : Fin 4096) :
    full0 co si (Host.dotGeneral (F := Ideal) dot_S32768x1024_S1024x4096_S32768x4096_1_0_0_1_n_n none (rn x g) (extf .f32 w bitsLt_bf16_f32))
      (extractStridedSlice S1x128 ![0, 0] qa slices_S3x128_S1x128_0_0) (extractStridedSlice S1x128 ![0, 0] ka slices_S3x128_S1x128_0_0) (ix2 r n)
      = out (cols w) (row qa 0) (row ka 0) (row co r) (row si r) (row x r) (row g 0) n :=
  full0_out co si r (cols w) _ _ _ _ _ _ (fun _ => rfl) (fun _ => rfl) _ _ (gain_apply qa 0 slices_S3x128_S1x128_0_0)
    (gain_apply ka 0 slices_S3x128_S1x128_0_0) _ (fun c => proj0 x g w r c) n

/-- The second group's result from the arguments, its rows in order. -/
theorem result1 (w : FVec Ideal S1024x3072 .bf16) (r : Fin 32768) (n : Fin 3072) :
    full1 co si (Host.dotGeneral (F := Ideal) dot_S32768x1024_S1024x3072_S32768x3072_1_0_0_1_n_n none (rn x g) (extf .f32 w bitsLt_bf16_f32))
      (extractStridedSlice S1x128 ![1, 0] qa slices_S3x128_S1x128_1_0) (extractStridedSlice S1x128 ![1, 0] ka slices_S3x128_S1x128_1_0) (ix2 r n)
      = out (cols w) (row qa 1) (row ka 1) (row co r) (row si r) (row x r) (row g 0) n :=
  full1_out co si r (cols w) _ _ _ _ _ _ (fun _ => rfl) (fun _ => rfl) _ _ (gain_apply qa 1 slices_S3x128_S1x128_1_0)
    (gain_apply ka 1 slices_S3x128_S1x128_1_0) _ (fun c => proj1 x g w r c) n

/-- The third group's result from the arguments, its rows in order. -/
theorem result2 (w : FVec Ideal S1024x3072 .bf16) (r : Fin 32768) (n : Fin 3072) :
    full1 co si (Host.dotGeneral (F := Ideal) dot_S32768x1024_S1024x3072_S32768x3072_1_0_0_1_n_n none (rn x g) (extf .f32 w bitsLt_bf16_f32))
      (extractStridedSlice S1x128 ![2, 0] qa slices_S3x128_S1x128_2_0) (extractStridedSlice S1x128 ![2, 0] ka slices_S3x128_S1x128_2_0) (ix2 r n)
      = out (cols w) (row qa 2) (row ka 2) (row co r) (row si r) (row x r) (row g 0) n :=
  full1_out co si r (cols w) _ _ _ _ _ _ (fun _ => rfl) (fun _ => rfl) _ _ (gain_apply qa 2 slices_S3x128_S1x128_2_0)
    (gain_apply ka 2 slices_S3x128_S1x128_2_0) _ (fun c => proj1 x g w r c) n

/-! The run's composed terms are these results. -/

variable (V0 : Valuation τ sig (Elt Ideal))

/-- The first result's term. -/
theorem term0 : (val4 (F := Ideal) V0 (Proc.devRef .tc main_v80) : FVec Ideal S32768x4096 .bf16)
    = full0 (V0 (Proc.devRef .tc main_arg5)) (V0 (Proc.devRef .tc main_arg6))
      (Host.dotGeneral (F := Ideal) dot_S32768x1024_S1024x4096_S32768x4096_1_0_0_1_n_n none (rn (V0 (Proc.devRef .tc main_arg0)) (V0 (Proc.devRef .tc main_arg1)))
        (extf .f32 (V0 (Proc.devRef .tc main_arg2) : FVec Ideal S1024x4096 .bf16) bitsLt_bf16_f32))
      (extractStridedSlice S1x128 ![0, 0] (V0 (Proc.devRef .tc main_arg7)) slices_S3x128_S1x128_0_0)
      (extractStridedSlice S1x128 ![0, 0] (V0 (Proc.devRef .tc main_arg8)) slices_S3x128_S1x128_0_0) :=
  (val4_main_v80 (F := Ideal) V0).trans rfl

/-- The second result's term. -/
theorem term1 : (val4 (F := Ideal) V0 (Proc.devRef .tc main_v143) : FVec Ideal S16x4x512x3072 .bf16)
    = transpose S16x4x512x3072 [0, 2, 1, 3] (shapeCast S16x512x4x3072 (full1 (V0 (Proc.devRef .tc main_arg5)) (V0 (Proc.devRef .tc main_arg6))
      (Host.dotGeneral (F := Ideal) dot_S32768x1024_S1024x3072_S32768x3072_1_0_0_1_n_n none (rn (V0 (Proc.devRef .tc main_arg0)) (V0 (Proc.devRef .tc main_arg1)))
        (extf .f32 (V0 (Proc.devRef .tc main_arg3) : FVec Ideal S1024x3072 .bf16) bitsLt_bf16_f32))
      (extractStridedSlice S1x128 ![1, 0] (V0 (Proc.devRef .tc main_arg7)) slices_S3x128_S1x128_1_0)
      (extractStridedSlice S1x128 ![1, 0] (V0 (Proc.devRef .tc main_arg8)) slices_S3x128_S1x128_1_0)) shapeCasts_S32768x3072_S16x512x4x3072)
      transposes_S16x512x4x3072_S16x4x512x3072_0_2_1_3 :=
  (val4_main_v143 (F := Ideal) V0).trans rfl

/-- The third result's term. -/
theorem term2 : (val4 (F := Ideal) V0 (Proc.devRef .tc main_v206) : FVec Ideal S16x16x128x3072 .bf16)
    = transpose S16x16x128x3072 [0, 2, 1, 3] (shapeCast S16x128x16x3072 (full1 (V0 (Proc.devRef .tc main_arg5)) (V0 (Proc.devRef .tc main_arg6))
      (Host.dotGeneral (F := Ideal) dot_S32768x1024_S1024x3072_S32768x3072_1_0_0_1_n_n none (rn (V0 (Proc.devRef .tc main_arg0)) (V0 (Proc.devRef .tc main_arg1)))
        (extf .f32 (V0 (Proc.devRef .tc main_arg4) : FVec Ideal S1024x3072 .bf16) bitsLt_bf16_f32))
      (extractStridedSlice S1x128 ![2, 0] (V0 (Proc.devRef .tc main_arg7)) slices_S3x128_S1x128_2_0)
      (extractStridedSlice S1x128 ![2, 0] (V0 (Proc.devRef .tc main_arg8)) slices_S3x128_S1x128_2_0)) shapeCasts_S32768x3072_S16x128x16x3072)
      transposes_S16x128x16x3072_S16x16x128x3072_0_2_1_3 :=
  (val4_main_v206 (F := Ideal) V0).trans rfl

end Cert.ProjRefValue

end
-- ==== Proof.ProjClaims.lean ====
/- The claims about the attention's input projection. -/
module

public import proofs.«01_k».proof.Defs
public import proofs.«01_k».proof.Proof.Gen.ProjKernel.Frame
public import proofs.«01_k».proof.Proof.Gen.ProjKernelIdeal.Value
public import proofs.«01_k».proof.Proof.Gen.ProjReferenceIdeal.Run
public import proofs.«01_k».proof.Proof.ProjKernelValue
public import proofs.«01_k».proof.Proof.ProjRefValue
public import Idealize.ShloMosaic.Lib.Claim
public import Idealize.ShloMosaic.Lib.Quiescent

@[expose] public section

noncomputable section

namespace Cert.ProjClaims

open Idealize.ShloMosaic Idealize.ShloMosaic.TcCoe Idealize.SL.Sem Idealize.ShloMosaic.StableHlo

/-- The kernel runs, leaves its arguments as they were and its counters at zero. -/
theorem frame_kernel : Cert.quiescent_ProjKernel (hProjKernel := Cert.ProjKernel.Gen.facts) :=
  fun m ρ _ => Cert.ProjKernel.Gen.frame m ρ

/-- The same of the idealized kernel. -/
theorem frame_kernelIdeal : Cert.quiescent_ProjKernelIdeal (hProjKernelIdeal := Cert.ProjKernelIdeal.Gen.facts) :=
  fun m ρ _ => Cert.ProjKernelIdeal.Gen.frame m ρ

/-- The reference runs and leaves its arguments as they were; it declares no counters. -/
theorem frame_referenceIdeal :
    Cert.quiescent_ProjReferenceIdeal (hProjReferenceIdeal := Cert.ProjReferenceIdeal.Gen.facts) := fun m ρ _ =>
  (θ_run _ _ _).mono (fun r h => ⟨fun c => (h c).2.2.2, sem_eq_zero_of_no_sems (by decide) r.2⟩)
    (Cert.ProjReferenceIdeal.Value.run (F := Ideal) m ρ)

section

open Cert.ProjReferenceIdeal Cert.ProjReferenceIdeal.Value

variable (V0 : Valuation τ sig (Elt Ideal)) (a0 : S32768x1024.Idx → EReal) (a1 : S1x1024.Idx → EReal) (a2 : S1024x4096.Idx → EReal)
  (a3 a4 : S1024x3072.Idx → EReal) (a5 a6 : S32768x128.Idx → EReal) (a7 a8 : S3x128.Idx → EReal)
variable (e0 : V0 (Proc.devRef .tc main_arg0) = a0) (e1 : V0 (Proc.devRef .tc main_arg1) = a1) (e2 : V0 (Proc.devRef .tc main_arg2) = a2)
  (e3 : V0 (Proc.devRef .tc main_arg3) = a3) (e4 : V0 (Proc.devRef .tc main_arg4) = a4) (e5 : V0 (Proc.devRef .tc main_arg5) = a5)
  (e6 : V0 (Proc.devRef .tc main_arg6) = a6) (e7 : V0 (Proc.devRef .tc main_arg7) = a7) (e8 : V0 (Proc.devRef .tc main_arg8) = a8)

include e0 e1 e2 e5 e6 e7 e8 in
/-- The reference's first result. -/
theorem value0 : (val4 (F := Ideal) V0 (Proc.devRef .tc main_v80) : FVec Ideal S32768x4096 .bf16)
    = fun y : S32768x4096.Idx => ProjKernelValue.val a0 a1 a5 a6 a7 a8 a2 0 (y 0) (y 1).val := by
  subst e0 e1 e2 e5 e6 e7 e8
  funext y
  conv_lhs => rw [eq_ix2 y]
  refine (congrFun (ProjRefValue.term0 V0) _).trans ?_
  exact ProjRefValue.result0 _ _ _ _ _ _ _ (y 0) (y 1)

include e0 e1 e3 e5 e6 e7 e8 in
/-- The reference's second result. -/
theorem value1 : (val4 (F := Ideal) V0 (Proc.devRef .tc main_v143) : FVec Ideal S16x4x512x3072 .bf16)
    = fun y : S16x4x512x3072.Idx => ProjKernelValue.val a0 a1 a5 a6 a7 a8 a3 1 (ProjKernelValue.at4 (y 0) (y 1) (y 2)) (y 3).val := by
  subst e0 e1 e3 e5 e6 e7 e8
  funext y
  conv_lhs => rw [eq_ix4 y]
  refine (congrFun (ProjRefValue.term1 V0) _).trans ?_
  refine (ProjRef.sort4_apply _ (y 0) (y 1) (y 2) (y 3)).trans ?_
  exact ProjRefValue.result1 _ _ _ _ _ _ _ _ (y 3)

include e0 e1 e4 e5 e6 e7 e8 in
/-- The reference's third result. -/
theorem value2 : (val4 (F := Ideal) V0 (Proc.devRef .tc main_v206) : FVec Ideal S16x16x128x3072 .bf16)
    = fun y : S16x16x128x3072.Idx => ProjKernelValue.val a0 a1 a5 a6 a7 a8 a4 2 (ProjKernelValue.at16 (y 0) (y 1) (y 2)) (y 3).val := by
  subst e0 e1 e4 e5 e6 e7 e8
  funext y
  conv_lhs => rw [eq_ix4 y]
  refine (congrFun (ProjRefValue.term2 V0) _).trans ?_
  refine (ProjRef.sort16_apply _ (y 0) (y 1) (y 2) (y 3)).trans ?_
  exact ProjRefValue.result2 _ _ _ _ _ _ _ _ (y 3)

end

/-- Both runs end with the same projections of the arguments. -/
theorem algebraic :
    Cert.algebraic_ProjKernelIdeal_ProjReferenceIdeal (hProjKernelIdeal := Cert.ProjKernelIdeal.Gen.facts)
      (hProjReferenceIdeal := Cert.ProjReferenceIdeal.Gen.facts) := by
  intro m g m' g' _ hagree
  refine ⟨fun c => ProjKernelValue.res9 m c, fun c => ProjKernelValue.res10 m c, fun c => ProjKernelValue.res11 m c, ?_, ?_⟩
  · exact (θ_run _ _ _).mono (fun r h c => ⟨((h c).1).trans (ProjKernelValue.final9 m c), ((h c).2.1).trans (ProjKernelValue.final10 m c),
      ((h c).2.2.1).trans (ProjKernelValue.final11 m c), (h c).2.2.2⟩) (Cert.ProjKernelIdeal.Value.run_blocks (F := Ideal) m g)
  · refine (θ_run _ _ _).mono (fun r h c => ?_) (Cert.ProjReferenceIdeal.Value.run (F := Ideal) m' g')
    obtain ⟨e0, e1, e2, e3, e4, e5, e6, e7, e8⟩ := hagree c
    refine ⟨((h c).1).trans ?_, ((h c).2.1).trans ?_, ((h c).2.2.1).trans ?_, (h c).2.2.2⟩
    · refine (Cert.ProjReferenceIdeal.Value.val4_main_v80 (F := Ideal) (launchContents m' c)).symm.trans ?_
      exact value0 (launchContents m' c) _ _ _ _ _ _ _ e0 e1 e2 e5 e6 e7 e8
    · refine (Cert.ProjReferenceIdeal.Value.val4_main_v143 (F := Ideal) (launchContents m' c)).symm.trans ?_
      exact value1 (launchContents m' c) _ _ _ _ _ _ _ e0 e1 e3 e5 e6 e7 e8
    · refine (Cert.ProjReferenceIdeal.Value.val4_main_v206 (F := Ideal) (launchContents m' c)).symm.trans ?_
      exact value2 (launchContents m' c) _ _ _ _ _ _ _ e0 e1 e4 e5 e6 e7 e8

end Cert.ProjClaims

end
-- ==== Proof.GdnTile.lean ====
/- The parts of the delta rule's projection kernel, read at a row and a column. -/
module

public import proofs.«01_k».proof.Proof.ProjMath
public import proofs.«01_k».proof.Proof.Gen.GdnKernelIdeal.Skeleton
public import Idealize.ShloMosaic.Lib.Pointwise

@[expose] public section

set_option maxRecDepth 16384

noncomputable section

namespace Cert.GdnTile

open Cert.GdnKernelIdeal Cert.GdnKernelIdeal.Gen Idealize.ShloMosaic Idealize.ShloMosaic.TcCoe
open ProjMath

/-- Four rows' products, the last the row itself, weighed by the convolution's taps in the kernel's order. -/
def taps (p cw : Fin 4 → EReal) : EReal := p 3 * cw 3 + p 0 * cw 0 + p 1 * cw 1 + p 2 * cw 2

/-- The softplus as both programs compute it. -/
def softplus (x : EReal) : EReal := max x 0 + Ideal.log1p (Ideal.exp (0 - max x (-x)))

/-- The kernel's norm of its rows. -/
theorem pay2_apply (X : FVec Ideal S256x1024 .f32) (G : FVec Ideal S1x1024 .f32) (r : Fin 256) (k : Fin 1024) :
    k0_pay2 (F := Ideal) X G (ix2 r k) = normed (Ideal.ofBits FTy.f32 0x44800000#32) (row X r) (row G 0) k := by
  unfold k0_pay2 normed row ProjMath.eps
  pointwise

/-- The rows a block sees: the sixteen before it, then its own. -/
theorem pay4_own (b : BitVec 1) (H : FVec Ideal S256x1024 .bf16) (X : FVec Ideal S16x1024 .f32) (G : FVec Ideal S1x1024 .f32) (r : Fin 256)
    (k : Fin 1024) : k0_pay4 (F := Ideal) b H X G (ix2 ⟨16 + r.val, by omega⟩ k) = H (ix2 r k) := by
  unfold k0_pay4
  pointwise

/-- A row before the block, where the block opens a sequence. -/
theorem pay4_first (H : FVec Ideal S256x1024 .bf16) (X : FVec Ideal S16x1024 .f32) (G : FVec Ideal S1x1024 .f32) (r : Fin 16)
    (k : Fin 1024) : k0_pay4 (F := Ideal) 1#1 H X G (ix2 ⟨r.val, by omega⟩ k) = 0 := by
  unfold k0_pay4
  pointwise

/-- A row before the block, elsewhere. -/
theorem pay4_later (H : FVec Ideal S256x1024 .bf16) (X : FVec Ideal S16x1024 .f32) (G : FVec Ideal S1x1024 .f32) (r : Fin 16)
    (k : Fin 1024) : k0_pay4 (F := Ideal) 0#1 H (k0_pay3 X) G (ix2 ⟨r.val, by omega⟩ k)
      = normed (Ideal.ofBits FTy.f32 0x44800000#32) (row X r) (row G 0) k := by
  unfold k0_pay4 k0_pay3 normed row ProjMath.eps
  pointwise

/-- The product of the rows a block sees with 512 columns of the weights. -/
def prod (h : FVec Ideal S272x1024 .bf16) (w : FVec Ideal S1024x512 .bf16) : FVec Ideal S272x512 .f32 :=
  matmul dot_S272x1024_S1024x512_S272x512_1_0_0_1_n_n none h (shapeCast S1024x512 w shapeCasts_S1024x512_S1024x512) (constant S272x512 .f32 0x00000000#32)

/-- The product at a row and a column. -/
theorem prod_apply (h : FVec Ideal S272x1024 .bf16) (w : FVec Ideal S1024x512 .bf16) (i : Fin 272) (c : Fin 512) :
    prod h w (ix2 i c) = ∑ k : Fin 1024, h (ix2 i k) * w (ix2 k c) := by
  unfold prod
  pointwise

/-- The rows moved by three. -/
theorem rotate3 (z : FVec Ideal S272x512 .f32) (r : Fin 256) (e : Fin 512) :
    dynamicRotate 0 3#32 none z rotates_S272x512_d0 (ix2 ⟨16 + r.val, by omega⟩ e) = z (ix2 ⟨13 + r.val, by omega⟩ e) := by
  pointwise
  exact congrArg (fun i => z (ix2 i e)) (Fin.ext (show (16 + r.val + 272 - 3) % 272 = 13 + r.val by omega))

/-- The rows moved by two. -/
theorem rotate2 (z : FVec Ideal S272x512 .f32) (r : Fin 256) (e : Fin 512) :
    dynamicRotate 0 2#32 none z rotates_S272x512_d0 (ix2 ⟨16 + r.val, by omega⟩ e) = z (ix2 ⟨14 + r.val, by omega⟩ e) := by
  pointwise
  exact congrArg (fun i => z (ix2 i e)) (Fin.ext (show (16 + r.val + 272 - 2) % 272 = 14 + r.val by omega))

/-- The rows moved by one. -/
theorem rotate1 (z : FVec Ideal S272x512 .f32) (r : Fin 256) (e : Fin 512) :
    dynamicRotate 0 1#32 none z rotates_S272x512_d0 (ix2 ⟨16 + r.val, by omega⟩ e) = z (ix2 ⟨15 + r.val, by omega⟩ e) := by
  pointwise
  exact congrArg (fun i => z (ix2 i e)) (Fin.ext (show (16 + r.val + 272 - 1) % 272 = 15 + r.val by omega))

/-- The first tap for every row. -/
theorem tap0 (cw : FVec Ideal S4x512 .f32) (i : Fin 272) (e : Fin 512) :
    broadcastTo S272x512 (extractStridedSlice S1x512 ![0, 0] cw slices_S4x512_o0_0_S1x512) broadcasts_S1x512_S272x512 (ix2 i e) = cw (ix2 0 e) := by
  pointwise

/-- The second tap for every row. -/
theorem tap1 (cw : FVec Ideal S4x512 .f32) (i : Fin 272) (e : Fin 512) :
    broadcastTo S272x512 (extractStridedSlice S1x512 ![1, 0] cw slices_S4x512_o1_0_S1x512) broadcasts_S1x512_S272x512 (ix2 i e) = cw (ix2 1 e) := by
  pointwise

/-- The third tap for every row. -/
theorem tap2 (cw : FVec Ideal S4x512 .f32) (i : Fin 272) (e : Fin 512) :
    broadcastTo S272x512 (extractStridedSlice S1x512 ![2, 0] cw slices_S4x512_o2_0_S1x512) broadcasts_S1x512_S272x512 (ix2 i e) = cw (ix2 2 e) := by
  pointwise

/-- The last tap for every row. -/
theorem tap3 (cw : FVec Ideal S4x512 .f32) (i : Fin 272) (e : Fin 512) :
    broadcastTo S272x512 (extractStridedSlice S1x512 ![3, 0] cw slices_S4x512_o3_0_S1x512) broadcasts_S1x512_S272x512 (ix2 i e) = cw (ix2 3 e) := by
  pointwise

/-- The last 256 rows. -/
theorem tail_apply (z : FVec Ideal S272x512 .f32) (r : Fin 256) (e : Fin 512) :
    truncf (F := Ideal) .bf16 (extractStridedSlice S256x512 ![16, 0] z slices_S272x512_o16_0_S256x512) bitsLt_bf16_f32 (ix2 r e)
      = z (ix2 ⟨16 + r.val, by omega⟩ e) := by
  pointwise

/-- A tile of the convolution at a row and a column. -/
theorem conv_apply (h : FVec Ideal S272x1024 .bf16) (w : FVec Ideal S1024x512 .bf16) (cw : FVec Ideal S4x512 .f32) (r : Fin 256) (e : Fin 512) :
    k0_pay11 (F := Ideal) h w cw (ix2 r e)
      = taps (fun k => prod h w (ix2 ⟨13 + r.val + k.val, by omega⟩ e)) (fun k => cw (ix2 k e)) := by
  refine (tail_apply _ r e).trans ?_
  show prod h w _ * _ + dynamicRotate 0 3#32 none (prod h w) rotates_S272x512_d0 _ * _ + dynamicRotate 0 2#32 none (prod h w) rotates_S272x512_d0 _ * _
    + dynamicRotate 0 1#32 none (prod h w) rotates_S272x512_d0 _ * _ = _
  rw [rotate3, rotate2, rotate1, tap0, tap1, tap2, tap3]
  unfold taps
  have e3 : (⟨16 + r.val, by omega⟩ : Fin 272) = ⟨13 + r.val + (3 : Fin 4).val, by omega⟩ := Fin.ext (show 16 + r.val = 13 + r.val + 3 by omega)
  have e1 : (⟨14 + r.val, by omega⟩ : Fin 272) = ⟨13 + r.val + (1 : Fin 4).val, by omega⟩ := Fin.ext (show 14 + r.val = 13 + r.val + 1 by omega)
  have e2 : (⟨15 + r.val, by omega⟩ : Fin 272) = ⟨13 + r.val + (2 : Fin 4).val, by omega⟩ := Fin.ext (show 15 + r.val = 13 + r.val + 2 by omega)
  rw [e3, e1, e2]
  rfl

/-- A tile of the gate at a row and a column. -/
theorem gate_apply (h : FVec Ideal S256x1024 .bf16) (w : FVec Ideal S1024x512 .bf16) (r : Fin 256) (e : Fin 512) :
    k0_pay25 (F := Ideal) h w (ix2 r e) = silu (∑ k : Fin 1024, h (ix2 r k) * w (ix2 k e)) := by
  unfold k0_pay25 silu
  pointwise

/-- The product with the heads' weights. -/
theorem pay29_apply (h : FVec Ideal S256x1024 .bf16) (w : FVec Ideal S16x1024 .bf16) (a : Fin 16) (r : Fin 256) :
    k0_pay29 (F := Ideal) h w (ix2 a r) = ∑ k : Fin 1024, w (ix2 a k) * h (ix2 r k) := by
  unfold k0_pay29
  pointwise

/-- A head's rate or log decay, from its logit. -/
theorem pay1_apply (z : FVec Ideal S16x256 .f32) (d l : FVec Ideal S16x1 .f32) (a : Fin 16) (r : Fin 256) :
    k0_pay1 (F := Ideal) z (iota .tc S16x256 32 [0] iota_S16x256_d0_w32) (k0_pay30 d) l (ix2 a r)
      = if a.val < 8 then Ideal.logistic (z (ix2 a r)) else (0 - Ideal.exp (l (ix2 a 0))) * softplus (z (ix2 a r) + d (ix2 a 0)) := by
  unfold k0_pay1 k0_pay30 softplus
  pointwise
  fin_cases a <;> rfl

end Cert.GdnTile

end
-- ==== Proof.GdnBlock.lean ====
/- The delta rule's projection kernel: its stores into the first output, and the two blocks they leave. -/
module

public import proofs.«01_k».proof.Proof.GdnTile
public import proofs.«01_k».proof.Proof.Gen.GdnKernelIdeal.Value
public import Idealize.ShloMosaic.Lib.Pipeline.ValueKit
public import Idealize.ShloMosaic.Lib.Pipeline.ReadBack

@[expose] public section

set_option maxRecDepth 16384

noncomputable section

namespace Cert.GdnBlock

open Cert.GdnKernelIdeal Cert.GdnKernelIdeal.Gen Idealize.ShloMosaic Idealize.ShloMosaic.TcCoe
open ProjMath (normed silu cols row)
open GdnTile (taps softplus)

/-- The convolution's taps at a column. -/
def tapsOf (cw : FVec Ideal S4x4096 .f32) (n : ℕ) (k : Fin 4) : EReal := if h : n < 4096 then cw (ix2 k ⟨n, h⟩) else 0

/-- The first output at a row and a column, from the rows the block sees, its own rows, the weights and the taps. -/
def B (h : FVec Ideal S272x1024 .bf16) (o : FVec Ideal S256x1024 .bf16) (w : FVec Ideal S1024x6144 .bf16) (cw : FVec Ideal S4x4096 .f32)
    (r : Fin 256) (n : ℕ) : EReal :=
  if n < 4096 then taps (fun k => ∑ j : Fin 1024, h (ix2 ⟨13 + r.val + k.val, by omega⟩ j) * cols w n j) (tapsOf cw n)
  else silu (∑ j : Fin 1024, o (ix2 r j) * cols w n j)

/-- A load of 512 of the weights' columns. -/
theorem wload (w : FVec Ideal S1024x6144 .bf16) (n0 : ℕ) (inb) (k : Fin 1024) (c : Fin 512) :
    View.ld (Val := Elt Ideal) (e' := .bf16) w (Rect.unit (s := S1024x6144) ![0, n0] S1024x512.size inb) (ix2 k c) = cols w (n0 + c) k := by
  have hb : n0 + 512 ≤ 6144 := inb 1
  unfold cols
  rw [dif_pos (by omega)]
  refine congrArg w ?_
  funext b
  fin_cases b
  · exact Fin.ext (show 0 + 1 * k.val = k.val by omega)
  · exact Fin.ext (show n0 + 1 * c.val = n0 + c.val by omega)

/-- A load of 512 columns of the taps. -/
theorem cload (cw : FVec Ideal S4x4096 .f32) (n0 : ℕ) (inb) (k : Fin 4) (c : Fin 512) :
    View.ld (Val := Elt Ideal) (e' := .f32) cw (Rect.unit (s := S4x4096) ![0, n0] S4x512.size inb) (ix2 k c) = tapsOf cw (n0 + c) k := by
  have hb : n0 + 512 ≤ 4096 := inb 1
  unfold tapsOf
  rw [dif_pos (by omega)]
  refine congrArg cw ?_
  funext b
  fin_cases b
  · exact Fin.ext (show 0 + 1 * k.val = k.val by omega)
  · exact Fin.ext (show n0 + 1 * c.val = n0 + c.val by omega)

/-- A tile stored as it is is a block of the first output. -/
theorem piece (P : Fin 256 → ℕ → EReal) (n0 : ℕ) (inb) (T : FVec Ideal S256x512 .bf16) (hT : ∀ (r : Fin 256) (j : Fin 512), T (ix2 r j) = P r (n0 + j))
    (x : S256x512.Idx) : T x = (fun y : S256x6144.Idx => P (y 0) (y 1).val) ((Rect.unit (s := S256x6144) ![0, n0] S256x512.size inb).emb x) := by
  have hx : x = ix2 (x 0) (x 1) := by
    funext k
    fin_cases k <;> rfl
  rw [hx]
  refine (hT (x 0) (x 1)).trans ?_
  exact congrArg₂ P (Fin.ext (show (x 0).val = 0 + 1 * (x 0).val by omega)) (show n0 + (x 1).val = n0 + 1 * (x 1).val by omega)

/-- A tile of the convolution is a block of the first output. -/
theorem convPiece (h : FVec Ideal S272x1024 .bf16) (o : FVec Ideal S256x1024 .bf16) (w : FVec Ideal S1024x6144 .bf16) (cw : FVec Ideal S4x4096 .f32)
    (n0 : ℕ) (inb inb' inb'') (x : S256x512.Idx) :
    k0_pay11 (F := Ideal) h (View.ld (Val := Elt Ideal) (e' := .bf16) w (Rect.unit (s := S1024x6144) ![0, n0] S1024x512.size inb))
        (View.ld (Val := Elt Ideal) (e' := .f32) cw (Rect.unit (s := S4x4096) ![0, n0] S4x512.size inb')) x
      = (fun y : S256x6144.Idx => B h o w cw (y 0) (y 1).val) ((Rect.unit (s := S256x6144) ![0, n0] S256x512.size inb'').emb x) := by
  have hb : n0 + 512 ≤ 4096 := inb' 1
  refine piece (B h o w cw) n0 inb'' _ (fun r j => ?_) x
  refine (GdnTile.conv_apply _ _ _ r j).trans ?_
  unfold B
  rw [if_pos (by omega)]
  refine congrArg₂ taps (funext fun k => ?_) (funext fun k => cload cw n0 inb' k j)
  refine (GdnTile.prod_apply _ _ _ _).trans ?_
  exact Finset.sum_congr rfl fun i _ => congrArg (_ * ·) (wload w n0 inb i j)

/-- A tile of the gate is a block of the first output. -/
theorem gatePiece (h : FVec Ideal S272x1024 .bf16) (o : FVec Ideal S256x1024 .bf16) (w : FVec Ideal S1024x6144 .bf16) (cw : FVec Ideal S4x4096 .f32)
    (n0 : ℕ) (hn : 4096 ≤ n0) (inb inb'') (x : S256x512.Idx) :
    k0_pay25 (F := Ideal) o (View.ld (Val := Elt Ideal) (e' := .bf16) w (Rect.unit (s := S1024x6144) ![0, n0] S1024x512.size inb)) x
      = (fun y : S256x6144.Idx => B h o w cw (y 0) (y 1).val) ((Rect.unit (s := S256x6144) ![0, n0] S256x512.size inb'').emb x) := by
  refine piece (B h o w cw) n0 inb'' _ (fun r j => ?_) x
  refine (GdnTile.gate_apply _ _ r j).trans ?_
  unfold B
  rw [if_neg (by omega)]
  exact congrArg silu (Finset.sum_congr rfl fun i _ => congrArg (_ * ·) (wload w n0 inb i j))

/-! The kernel spells some tiles in pieces; each is the same tile. -/

variable (v10 : BitVec 1) (o : FVec Ideal S256x1024 .bf16) (v37 : FVec Ideal S16x1024 .f32) (g : FVec Ideal S1x1024 .f32)
  (h : FVec Ideal S272x1024 .bf16) (w : FVec Ideal S1024x512 .bf16) (cw : FVec Ideal S4x512 .f32)

/-- A column tile's payload, cut differently, is the same function. -/
theorem same0 : k0_pay5 (F := Ideal) v10 o v37 g w cw = k0_pay11 (k0_pay4 v10 o v37 g) w cw := rfl

/-- A column tile's payload, cut differently, is the same function. -/
theorem same1 : k0_pay10 (F := Ideal) (k0_pay6 v10 o v37 g w) cw (k0_pay7 v10 o v37 g w cw) (k0_pay8 v10 o v37 g w) (k0_pay9 cw)
    = k0_pay11 (k0_pay4 v10 o v37 g) w cw := rfl

/-- A column tile's payload, cut differently, is the same function. -/
theorem same3 : k0_pay12 (F := Ideal) h w cw = k0_pay11 h w cw := rfl

/-- A column tile's payload, cut differently, is the same function. -/
theorem same4 : k0_pay17 (F := Ideal) (k0_pay14 h w cw) (k0_pay15 h w) (k0_pay16 cw) = k0_pay11 h w cw := rfl

/-- A column tile's payload, cut differently, is the same function. -/
theorem same5 : k0_pay18 (F := Ideal) h w cw = k0_pay11 h w cw := rfl

/-- A column tile's payload, cut differently, is the same function. -/
theorem same6 : k0_pay23 (F := Ideal) (k0_pay19 h w) cw (k0_pay20 h w cw) (k0_pay21 h w) (k0_pay22 cw) = k0_pay11 h w cw := rfl

/-- A column tile's payload, cut differently, is the same function. -/
theorem same7 : k0_pay24 (F := Ideal) h w cw = k0_pay11 h w cw := rfl

/-- A column tile's payload, cut differently, is the same function. -/
theorem same9 : k0_pay26 (F := Ideal) o w = k0_pay25 o w := rfl

/-- A column tile's payload, cut differently, is the same function. -/
theorem same10 : k0_pay27 (F := Ideal) o w = k0_pay25 o w := rfl

/-- A column tile's payload, cut differently, is the same function. -/
theorem same11 : k0_pay28 (F := Ideal) o w = k0_pay25 o w := rfl

section

variable (i : grid0.Coords) (x0 : Vec Ideal S256x1024 .f32) (x1 : Vec Ideal S16x1024 .f32) (x2 : Vec Ideal S1x1024 .f32) (x3 : Vec Ideal S1024x6144 .bf16)
  (x4 : Vec Ideal S16x1024 .bf16) (x5 x6 : Vec Ideal S16x1 .f32) (x7 : Vec Ideal S4x4096 .f32)

/-- The first output's block after a grid point. -/
theorem block8 : out0_8 (F := Ideal) i x0 x1 x2 x3 x4 x5 x6 x7
    = fun y : S256x6144.Idx => B (k0_pay33 i x0 x1 x2 x3 x4 x5 x6 x7) (k0_pay31 i x0 x1 x2 x3 x4 x5 x6 x7) x3 x7 (y 0) (y 1).val := by
  funext y
  unfold out0_8
  refine View.canon_apply_of_pieces (Val := Elt Ideal) (e := .bf16) (fun y : S256x6144.Idx => B (k0_pay33 i x0 x1 x2 x3 x4 x5 x6 x7) (k0_pay31 i x0 x1 x2 x3 x4 x5 x6 x7) x3 x7 (y 0) (y 1).val)
    _ ?_ y ?_
  swap
  · exact cover0_8 (F := Ideal) _ _ _ _ _ _ _ _ _ _ _ _ y
  refine View.PiecesOf.mem (Val := Elt Ideal) (e := .bf16) (G := fun y : S256x6144.Idx => B (k0_pay33 i x0 x1 x2 x3 x4 x5 x6 x7) (k0_pay31 i x0 x1 x2 x3 x4 x5 x6 x7) x3 x7 (y 0) (y 1).val) ?_
  refine ⟨?_, ?_, ?_, ?_, ?_, ?_, ?_, ?_, ?_, ?_, ?_, ?_, trivial⟩
  · exact fun x => (congrFun (same11 (k0_pay31 i x0 x1 x2 x3 x4 x5 x6 x7) _) x).trans (gatePiece (k0_pay33 i x0 x1 x2 x3 x4 x5 x6 x7) (k0_pay31 i x0 x1 x2 x3 x4 x5 x6 x7) x3 x7 5632 (by decide) inb_S1024x6144_S1024x512_0_5632 inb_S256x6144_S256x512_0_5632 x)
  · exact fun x => (congrFun (same10 (k0_pay31 i x0 x1 x2 x3 x4 x5 x6 x7) _) x).trans (gatePiece (k0_pay33 i x0 x1 x2 x3 x4 x5 x6 x7) (k0_pay31 i x0 x1 x2 x3 x4 x5 x6 x7) x3 x7 5120 (by decide) inb_S1024x6144_S1024x512_0_5120 inb_S256x6144_S256x512_0_5120 x)
  · exact fun x => (congrFun (same9 (k0_pay31 i x0 x1 x2 x3 x4 x5 x6 x7) _) x).trans (gatePiece (k0_pay33 i x0 x1 x2 x3 x4 x5 x6 x7) (k0_pay31 i x0 x1 x2 x3 x4 x5 x6 x7) x3 x7 4608 (by decide) inb_S1024x6144_S1024x512_0_4608 inb_S256x6144_S256x512_0_4608 x)
  · exact fun x => gatePiece (k0_pay33 i x0 x1 x2 x3 x4 x5 x6 x7) (k0_pay31 i x0 x1 x2 x3 x4 x5 x6 x7) x3 x7 4096 (by decide) inb_S1024x6144_S1024x512_0_4096 inb_S256x6144_S256x512_0_4096 x
  · exact fun x => (congrFun (same7 (k0_pay33 i x0 x1 x2 x3 x4 x5 x6 x7) _ _) x).trans (convPiece (k0_pay33 i x0 x1 x2 x3 x4 x5 x6 x7) (k0_pay31 i x0 x1 x2 x3 x4 x5 x6 x7) x3 x7 3584 inb_S1024x6144_S1024x512_0_3584 inb_S4x4096_S4x512_0_3584 inb_S256x6144_S256x512_0_3584 x)
  · exact fun x => (congrFun (same6 (k0_pay33 i x0 x1 x2 x3 x4 x5 x6 x7) _ _) x).trans (convPiece (k0_pay33 i x0 x1 x2 x3 x4 x5 x6 x7) (k0_pay31 i x0 x1 x2 x3 x4 x5 x6 x7) x3 x7 3072 inb_S1024x6144_S1024x512_0_3072 inb_S4x4096_S4x512_0_3072 inb_S256x6144_S256x512_0_3072 x)
  · exact fun x => (congrFun (same5 (k0_pay33 i x0 x1 x2 x3 x4 x5 x6 x7) _ _) x).trans (convPiece (k0_pay33 i x0 x1 x2 x3 x4 x5 x6 x7) (k0_pay31 i x0 x1 x2 x3 x4 x5 x6 x7) x3 x7 2560 inb_S1024x6144_S1024x512_0_2560 inb_S4x4096_S4x512_0_2560 inb_S256x6144_S256x512_0_2560 x)
  · exact fun x => (congrFun (same4 (k0_pay33 i x0 x1 x2 x3 x4 x5 x6 x7) _ _) x).trans (convPiece (k0_pay33 i x0 x1 x2 x3 x4 x5 x6 x7) (k0_pay31 i x0 x1 x2 x3 x4 x5 x6 x7) x3 x7 2048 inb_S1024x6144_S1024x512_0_2048 inb_S4x4096_S4x512_0_2048 inb_S256x6144_S256x512_0_2048 x)
  · exact fun x => (congrFun (same3 (k0_pay33 i x0 x1 x2 x3 x4 x5 x6 x7) _ _) x).trans (convPiece (k0_pay33 i x0 x1 x2 x3 x4 x5 x6 x7) (k0_pay31 i x0 x1 x2 x3 x4 x5 x6 x7) x3 x7 1536 inb_S1024x6144_S1024x512_0_1536 inb_S4x4096_S4x512_0_1536 inb_S256x6144_S256x512_0_1536 x)
  · exact fun x => convPiece (k0_pay33 i x0 x1 x2 x3 x4 x5 x6 x7) (k0_pay31 i x0 x1 x2 x3 x4 x5 x6 x7) x3 x7 1024 inb_S1024x6144_S1024x512_0_1024 inb_S4x4096_S4x512_0_1024 inb_S256x6144_S256x512_0_1024 x
  · exact fun x => (congrFun (same1 _ (k0_pay31 i x0 x1 x2 x3 x4 x5 x6 x7) (k0_pay32 i x0 x1 x2 x3 x4 x5 x6 x7) (View.ld x2 r0_1) _ _) x).trans (convPiece (k0_pay33 i x0 x1 x2 x3 x4 x5 x6 x7) (k0_pay31 i x0 x1 x2 x3 x4 x5 x6 x7) x3 x7 512 inb_S1024x6144_S1024x512_0_512 inb_S4x4096_S4x512_0_512 inb_S256x6144_S256x512_0_512 x)
  · exact fun x => (congrFun (same0 _ (k0_pay31 i x0 x1 x2 x3 x4 x5 x6 x7) (k0_pay32 i x0 x1 x2 x3 x4 x5 x6 x7) (View.ld x2 r0_1) _ _) x).trans (convPiece (k0_pay33 i x0 x1 x2 x3 x4 x5 x6 x7) (k0_pay31 i x0 x1 x2 x3 x4 x5 x6 x7) x3 x7 0 inb_S1024x6144_S1024x512_0_0 inb_S4x4096_S4x512_0_0 inb_S256x6144_S256x512_0_0 x)

/-- The second output's block after a grid point. -/
theorem block9 (a : Fin 16) (r : Fin 256) : out0_9 (F := Ideal) i x0 x1 x2 x3 x4 x5 x6 x7 (ix2 a r)
    = if a.val < 8 then Ideal.logistic (∑ k : Fin 1024, x4 (ix2 a k) * k0_pay31 (F := Ideal) i x0 x1 x2 x3 x4 x5 x6 x7 (ix2 r k))
      else (0 - Ideal.exp (x5 (ix2 a 0)))
        * softplus ((∑ k : Fin 1024, x4 (ix2 a k) * k0_pay31 (F := Ideal) i x0 x1 x2 x3 x4 x5 x6 x7 (ix2 r k)) + x6 (ix2 a 0)) := by
  unfold out0_9
  rw [View.canon_cons_unit_lit, View.ld_unit_lit, View.ld_unit_lit, View.ld_unit_lit]
  · refine (GdnTile.pay1_apply _ _ _ a r).trans ?_
    rw [GdnTile.pay29_apply]
  all_goals decide

/-- A block's own rows, normed. -/
theorem own_apply (r : Fin 256) (k : Fin 1024) : k0_pay31 (F := Ideal) i x0 x1 x2 x3 x4 x5 x6 x7 (ix2 r k)
    = normed (Ideal.ofBits FTy.f32 0x44800000#32) (row x0 r) (row x2 0) k := by
  unfold k0_pay31
  rw [View.ld_unit_lit, View.ld_unit_lit]
  · exact GdnTile.pay2_apply _ _ r k
  all_goals decide

/-- Whether a block opens a sequence. -/
theorem opens : ∀ i : grid0.Coords, Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32
    = if (i 0).val % 8 = 0 then 1#1 else 0#1 := by
  decide +kernel

/-- A row the block sees, its own. -/
theorem seen_own (r : Fin 256) (k : Fin 1024) : k0_pay33 (F := Ideal) i x0 x1 x2 x3 x4 x5 x6 x7 (ix2 ⟨16 + r.val, by omega⟩ k)
    = normed (Ideal.ofBits FTy.f32 0x44800000#32) (row x0 r) (row x2 0) k := by
  unfold k0_pay33
  exact (GdnTile.pay4_own _ _ _ _ r k).trans (own_apply i x0 x1 x2 x3 x4 x5 x6 x7 r k)

/-- A row before a block that opens a sequence. -/
theorem seen_first (hi : (i 0).val % 8 = 0) (r : Fin 16) (k : Fin 1024) :
    k0_pay33 (F := Ideal) i x0 x1 x2 x3 x4 x5 x6 x7 (ix2 ⟨r.val, by omega⟩ k) = 0 := by
  unfold k0_pay33
  rw [opens, if_pos hi]
  exact GdnTile.pay4_first _ _ _ r k

/-- A row before another block. -/
theorem seen_later (hi : ¬ (i 0).val % 8 = 0) (r : Fin 16) (k : Fin 1024) :
    k0_pay33 (F := Ideal) i x0 x1 x2 x3 x4 x5 x6 x7 (ix2 ⟨r.val, by omega⟩ k)
      = normed (Ideal.ofBits FTy.f32 0x44800000#32) (row x1 r) (row x2 0) k := by
  unfold k0_pay33 k0_pay32
  rw [opens, if_neg hi, View.ld_unit_lit, View.ld_unit_lit]
  · exact GdnTile.pay4_later _ _ _ r k
  all_goals decide

end

end Cert.GdnBlock

end
-- ==== Proof.GdnKernelValue.lean ====
/- The value of the delta rule's projection kernel: its two result arrays, index by index. -/
module

public import proofs.«01_k».proof.Proof.GdnBlock
public import Idealize.ShloMosaic.Lib.Pipeline.ValueKit
public import Idealize.ShloMosaic.Lib.Pointwise

@[expose] public section

set_option maxRecDepth 16384

noncomputable section

namespace Cert.GdnKernelValue

open Cert.GdnKernelIdeal Cert.GdnKernelIdeal.Gen Idealize.ShloMosaic Idealize.ShloMosaic.TcCoe Idealize.SL.Sem
open ProjMath (normed proj silu cols row)
open GdnTile (taps softplus)
open GdnBlock (tapsOf)

section

variable (a0 : (⟨2, ![32768, 1024]⟩ : Shape).Idx → EReal) (a1 : (⟨1, ![1024]⟩ : Shape).Idx → EReal) (a2 : (⟨2, ![1024, 6160]⟩ : Shape).Idx → EReal)
  (a3 a4 : (⟨1, ![8]⟩ : Shape).Idx → EReal) (a5 : (⟨2, ![4, 4096]⟩ : Shape).Idx → EReal)

/-- The normed row of the residual stream times a column of the weights. -/
def P (r : Fin 32768) (n : ℕ) : EReal := proj (row a0 r) (fun k => a1 (ix1 k)) (cols a2 n)

/-- The product at the row that tap `k` weighs: `3 - k` rows back in the same sequence of 2048, nothing before its first. -/
def past (r : Fin 32768) (n : ℕ) (k : Fin 4) : EReal := if 3 ≤ r.val % 2048 + k.val then P a0 a1 a2 ⟨r.val + k.val - 3, by omega⟩ n else 0

/-- The first result at a row and a column: the convolved product, or the gate. -/
def val8 (r : Fin 32768) (n : ℕ) : EReal := if n < 4096 then taps (past a0 a1 a2 r n) (tapsOf a5 n) else silu (P a0 a1 a2 r n)

/-- The second result at a head and a row: its rate, or its log decay. -/
def val9 (a : Fin 16) (r : Fin 32768) : EReal :=
  if h : a.val < 8 then Ideal.logistic (P a0 a1 a2 r (6144 + a.val))
  else (0 - Ideal.exp (a3 (ix1 ⟨a.val - 8, by omega⟩))) * softplus (P a0 a1 a2 r (6144 + a.val) + a4 (ix1 ⟨a.val - 8, by omega⟩))

end

variable (m : (ℓ : Loc nD τ sig) → Buf (Elt Ideal) ℓ)

/-- Where each window's block lies at a grid point. -/
theorem idx : ∀ t : Fin cfg0.N, win0_0.index t = ![(grid0.coords t 0).val, 0] ∧ win0_1.index t = ![16 * (grid0.coords t 0).val - 1, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![(grid0.coords t 0).val, 0] ∧ win0_9.index t = ![0, (grid0.coords t 0).val] := by
  decide +kernel

/-- There are 128 tiles. -/
theorem lt0 (t : Fin cfg0.N) : (grid0.coords t 0).val < 128 := (grid0.coords t 0).2

/-- The block's row `r` at grid point `t` is row `256 t + r` of the array. -/
def at256 (t : Fin cfg0.N) (r : Fin 256) : Fin 32768 := ⟨256 * (grid0.coords t 0).val + r.val, by have := lt0 t; omega⟩

/-! The input windows' blocks. -/

/-- The block of the tile's own rows. -/
theorem blk0 (c : Dev nD) (t : Fin cfg0.N) (r : Fin 256) :
    row (m := 256) (n := 1024) (iblk m c 0 t) r = row (m := 32768) (n := 1024) (m ((c : Thread nD τ).loc main_arg0)) (at256 t r) :=
  funext fun e => by unfold row at256; blk_point [iblk, V_main_arg0, idx t]

/-- The block of the 16 rows before the tile. -/
theorem blk1 (c : Dev nD) (t : Fin cfg0.N) (ht : ¬ (grid0.coords t 0).val % 8 = 0) (r : Fin 16) :
    row (m := 16) (n := 1024) (iblk m c 1 t) r = row (m := 32768) (n := 1024) (m ((c : Thread nD τ).loc main_arg0))
      ⟨16 * (16 * (grid0.coords t 0).val - 1) + r.val, by have := lt0 t; omega⟩ :=
  funext fun e => by unfold row; blk_point [iblk, V_main_arg0, idx t]

/-- The gain. -/
theorem blk2 (c : Dev nD) (t : Fin cfg0.N) :
    row (m := 1) (n := 1024) (iblk m c 2 t) 0 = fun k => (m ((c : Thread nD τ).loc main_arg1) : S1024.Idx → EReal) (ix1 k) :=
  funext fun e => by unfold row; blk_point [iblk, V_main_arg1, idx t]

/-- The main weights. -/
theorem blk3 (c : Dev nD) (t : Fin cfg0.N) (k : Fin 1024) (j : Fin 6144) :
    (iblk m c 3 t : S1024x6144.Idx → EReal) (ix2 k j) = (m ((c : Thread nD τ).loc main_arg2) : S1024x6160.Idx → EReal) (ix2 k ⟨j.val, by omega⟩) := by
  blk_point [iblk, V_main_arg2, idx t]

/-- The weights of the rates and decays, turned. -/
theorem blk4 (c : Dev nD) (t : Fin cfg0.N) (a : Fin 16) (k : Fin 1024) :
    (iblk m c 4 t : S16x1024.Idx → EReal) (ix2 a k) = (m ((c : Thread nD τ).loc main_arg2) : S1024x6160.Idx → EReal) (ix2 k ⟨6144 + a.val, by omega⟩) := by
  blk_point [iblk, V_main_arg2, idx t]

/-- The decays' exponents, behind eight zeros. -/
theorem blk5 (c : Dev nD) (t : Fin cfg0.N) (a : Fin 16) (ha : ¬ a.val < 8) :
    (iblk m c 5 t : S16x1.Idx → EReal) (ix2 a 0) = (m ((c : Thread nD τ).loc main_arg3) : S8.Idx → EReal) (ix1 ⟨a.val - 8, by omega⟩) := by
  blk_simp [iblk, V_main_arg3, idx t]
  entry_read
  pointwise
  have he : ((View.whole main_v7).slice (win0_5.rect t)).emb (ix2 a 0) = ix2 a 0 := by blk_ext [idx t]
  have h0 : (((View.whole main_v7).slice (win0_5.rect t)).emb (ix2 a 0) 0).val = a.val := by rw [he]; rfl
  split_ifs with h
  · exact absurd (h0 ▸ h) ha
  · exact congrArg (m ((c : Thread nD τ).loc main_arg3) : S8.Idx → EReal) (congrArg ix1 (Fin.ext (congrArg (· - 8) h0)))
  · rename_i hn; exact absurd rfl hn

/-- The decays' biases, behind eight zeros. -/
theorem blk6 (c : Dev nD) (t : Fin cfg0.N) (a : Fin 16) (ha : ¬ a.val < 8) :
    (iblk m c 6 t : S16x1.Idx → EReal) (ix2 a 0) = (m ((c : Thread nD τ).loc main_arg4) : S8.Idx → EReal) (ix1 ⟨a.val - 8, by omega⟩) := by
  blk_simp [iblk, V_main_arg4, idx t]
  entry_read
  pointwise
  have he : ((View.whole main_v9).slice (win0_6.rect t)).emb (ix2 a 0) = ix2 a 0 := by blk_ext [idx t]
  have h0 : (((View.whole main_v9).slice (win0_6.rect t)).emb (ix2 a 0) 0).val = a.val := by rw [he]; rfl
  split_ifs with h
  · exact absurd (h0 ▸ h) ha
  · exact congrArg (m ((c : Thread nD τ).loc main_arg4) : S8.Idx → EReal) (congrArg ix1 (Fin.ext (congrArg (· - 8) h0)))
  · rename_i hn; exact absurd rfl hn

/-- The taps. -/
theorem blk7 (c : Dev nD) (t : Fin cfg0.N) (k : Fin 4) (j : Fin 4096) :
    (iblk m c 7 t : S4x4096.Idx → EReal) (ix2 k j) = (m ((c : Thread nD τ).loc main_arg5) : S4x4096.Idx → EReal) (ix2 k j) := by
  blk_point [iblk, V_main_arg5, idx t]

/-- The weights' columns. -/
theorem cols3 (c : Dev nD) (t : Fin cfg0.N) (n : ℕ) (hn : n < 6144) :
    cols (n := 6144) (iblk m c 3 t) n = cols (n := 6160) (m ((c : Thread nD τ).loc main_arg2)) n := by
  funext k
  unfold cols
  rw [dif_pos hn, dif_pos (by omega)]
  exact blk3 m c t k ⟨n, hn⟩

/-- The convolution's taps. -/
theorem taps7 (c : Dev nD) (t : Fin cfg0.N) (n : ℕ) : tapsOf (iblk m c 7 t) n = tapsOf (m ((c : Thread nD τ).loc main_arg5)) n := by
  funext k
  unfold tapsOf
  by_cases hn : n < 4096
  · rw [dif_pos hn, dif_pos hn]
    exact blk7 m c t k ⟨n, hn⟩
  · rw [dif_neg hn, dif_neg hn]

/-- The products of the arguments in memory. -/
abbrev POf (c : Dev nD) (r : Fin 32768) (n : ℕ) : EReal :=
  P (m ((c : Thread nD τ).loc main_arg0)) (m ((c : Thread nD τ).loc main_arg1)) (m ((c : Thread nD τ).loc main_arg2)) r n

/-- The same at the rows the taps weigh. -/
abbrev pastOf (c : Dev nD) (r : Fin 32768) (n : ℕ) (k : Fin 4) : EReal :=
  past (m ((c : Thread nD τ).loc main_arg0)) (m ((c : Thread nD τ).loc main_arg1)) (m ((c : Thread nD τ).loc main_arg2)) r n k

section

variable (c : Dev nD) (t : Fin cfg0.N)

/-- The block's own rows, normed. -/
def own : FVec Ideal S256x1024 .bf16 :=
  k0_pay31 (F := Ideal) (grid0.coords t) (iblk m c 0 t) (iblk m c 1 t) (iblk m c 2 t) (iblk m c 3 t) (iblk m c 4 t) (iblk m c 5 t) (iblk m c 6 t) (iblk m c 7 t)

/-- The rows the block sees. -/
def seen : FVec Ideal S272x1024 .bf16 :=
  k0_pay33 (F := Ideal) (grid0.coords t) (iblk m c 0 t) (iblk m c 1 t) (iblk m c 2 t) (iblk m c 3 t) (iblk m c 4 t) (iblk m c 5 t) (iblk m c 6 t) (iblk m c 7 t)

/-- A normed row of the arguments in memory. -/
def nrow (r : Fin 32768) (k : Fin 1024) : EReal :=
  normed (Ideal.ofBits FTy.f32 0x44800000#32) (row (m := 32768) (n := 1024) (m ((c : Thread nD τ).loc main_arg0)) r)
    (fun k => (m ((c : Thread nD τ).loc main_arg1) : S1024.Idx → EReal) (ix1 k)) k

/-- The tile's own rows, normed. -/
theorem own_at (r : Fin 256) (k : Fin 1024) : own m c t (ix2 r k) = nrow m c (at256 t r) k := by
  refine (GdnBlock.own_apply _ _ _ _ _ _ _ _ _ r k).trans ?_
  rw [blk0, blk2]
  rfl

/-- The rows the tile sees, from its own on. -/
theorem seen_own (r : Fin 256) (k : Fin 1024) : seen m c t (ix2 ⟨16 + r.val, by omega⟩ k) = nrow m c (at256 t r) k := by
  refine (GdnBlock.seen_own _ _ _ _ _ _ _ _ _ r k).trans ?_
  rw [blk0, blk2]
  rfl

/-- The first tile of a sequence sees zeros before its rows. -/
theorem seen_first (ht : (grid0.coords t 0).val % 8 = 0) (r : Fin 16) (k : Fin 1024) : seen m c t (ix2 ⟨r.val, by omega⟩ k) = 0 :=
  GdnBlock.seen_first _ _ _ _ _ _ _ _ _ ht r k

/-- A later tile sees the rows before its own. -/
theorem seen_later (ht : ¬ (grid0.coords t 0).val % 8 = 0) (r : Fin 16) (k : Fin 1024) : seen m c t (ix2 ⟨r.val, by omega⟩ k)
    = nrow m c ⟨16 * (16 * (grid0.coords t 0).val - 1) + r.val, by have := lt0 t; omega⟩ k := by
  refine (GdnBlock.seen_later _ _ _ _ _ _ _ _ _ ht r k).trans ?_
  rw [blk1 m c t ht, blk2]
  rfl

/-- The product at the row that a tap weighs. -/
theorem past_at (r : Fin 256) (n : ℕ) (k : Fin 4) :
    (∑ j : Fin 1024, seen m c t (ix2 ⟨13 + r.val + k.val, by omega⟩ j) * cols (n := 6160) (m ((c : Thread nD τ).loc main_arg2)) n j)
      = pastOf m c (at256 t r) n k := by
  have hl := lt0 t
  have hr := r.2
  have hk := k.2
  show _ = if 3 ≤ (256 * (grid0.coords t 0).val + r.val) % 2048 + k.val then
    POf m c ⟨256 * (grid0.coords t 0).val + r.val + k.val - 3, by omega⟩ n else 0
  by_cases h : 3 ≤ r.val + k.val
  · rw [if_pos (by omega)]
    have e : (⟨13 + r.val + k.val, by omega⟩ : Fin 272) = ⟨16 + (⟨r.val + k.val - 3, by omega⟩ : Fin 256).val, by simp only; omega⟩ :=
      Fin.ext (show 13 + r.val + k.val = 16 + (r.val + k.val - 3) by omega)
    have e' : (⟨256 * (grid0.coords t 0).val + r.val + k.val - 3, by omega⟩ : Fin 32768) = at256 t ⟨r.val + k.val - 3, by omega⟩ :=
      Fin.ext (show 256 * (grid0.coords t 0).val + r.val + k.val - 3 = 256 * (grid0.coords t 0).val + (r.val + k.val - 3) by omega)
    rw [e, e']
    exact Finset.sum_congr rfl fun j _ => congrArg (· * _) (seen_own m c t _ j)
  · have e : (⟨13 + r.val + k.val, by omega⟩ : Fin 272) = ⟨(⟨13 + r.val + k.val, by omega⟩ : Fin 16).val, by simp only; omega⟩ := rfl
    by_cases ht : (grid0.coords t 0).val % 8 = 0
    · rw [if_neg (by omega), e]
      refine Finset.sum_eq_zero fun j _ => ?_
      rw [seen_first m c t ht, zero_mul]
    · rw [if_pos (by omega), e]
      have e' : (⟨256 * (grid0.coords t 0).val + r.val + k.val - 3, by omega⟩ : Fin 32768)
          = ⟨16 * (16 * (grid0.coords t 0).val - 1) + (⟨13 + r.val + k.val, by omega⟩ : Fin 16).val, by simp only; omega⟩ :=
        Fin.ext (show 256 * (grid0.coords t 0).val + r.val + k.val - 3 = 16 * (16 * (grid0.coords t 0).val - 1) + (13 + r.val + k.val) by omega)
      rw [e']
      exact Finset.sum_congr rfl fun j _ => congrArg (· * _) (seen_later m c t ht _ j)

/-- The product at a row of the block. -/
theorem own_prod (r : Fin 256) (n : ℕ) :
    (∑ j : Fin 1024, own m c t (ix2 r j) * cols (n := 6160) (m ((c : Thread nD τ).loc main_arg2)) n j) = POf m c (at256 t r) n :=
  Finset.sum_congr rfl fun j _ => congrArg (· * _) (own_at m c t r j)

/-- The first result at one index. -/
def res8 (y : S32768x6144.Idx) : EReal :=
  val8 (m ((c : Thread nD τ).loc main_arg0)) (m ((c : Thread nD τ).loc main_arg1)) (m ((c : Thread nD τ).loc main_arg2)) (m ((c : Thread nD τ).loc main_arg5))
    (y 0) (y 1).val

/-- The second result at one index. -/
def res9 (y : S16x32768.Idx) : EReal :=
  val9 (m ((c : Thread nD τ).loc main_arg0)) (m ((c : Thread nD τ).loc main_arg1)) (m ((c : Thread nD τ).loc main_arg2)) (m ((c : Thread nD τ).loc main_arg3))
    (m ((c : Thread nD τ).loc main_arg4)) (y 0) (y 1)

/-- The first output's block at a row and a column. -/
theorem B_at (r : Fin 256) (n : ℕ) (hn : n < 6144) : GdnBlock.B (seen m c t) (own m c t) (iblk m c 3 t) (iblk m c 7 t) r n
    = val8 (m ((c : Thread nD τ).loc main_arg0)) (m ((c : Thread nD τ).loc main_arg1)) (m ((c : Thread nD τ).loc main_arg2)) (m ((c : Thread nD τ).loc main_arg5))
      (at256 t r) n := by
  unfold GdnBlock.B val8
  rw [cols3 m c t n hn, taps7, own_prod]
  by_cases h : n < 4096
  · rw [if_pos h, if_pos h]
    exact congrArg (taps · _) (funext fun k => past_at m c t r n k)
  · rw [if_neg h, if_neg h]

/-- A head's logit at a row of the block. -/
theorem logit_at (w : FVec Ideal S16x1024 .bf16) (hw : ∀ (a : Fin 16) (k : Fin 1024), w (ix2 a k) = (m ((c : Thread nD τ).loc main_arg2) : S1024x6160.Idx → EReal) (ix2 k ⟨6144 + a.val, by omega⟩))
    (a : Fin 16) (r : Fin 256) : (∑ k : Fin 1024, w (ix2 a k) * own m c t (ix2 r k)) = POf m c (at256 t r) (6144 + a.val) := by
  rw [← own_prod]
  refine Finset.sum_congr rfl fun k _ => ?_
  rw [mul_comm, hw]
  unfold cols
  rw [dif_pos (by omega)]

end

/-- The first result array after the run. -/
theorem final8 (c : Dev nD) : (dats m 0 c).arrAt 8 cfg0.N = res8 m c := by
  refine (dats m 0 c).arrAt_eq_of_covers 8 _ (by decide +kernel) fun t hf y => ?_
  blk_simp
  rw [after0_8]
  have hl := lt0 t
  have he : (win0_8.blk t).view.emb y = ix2 (at256 t (y 0 : Fin 256)) (y 1 : Fin 6144) := by
    unfold at256
    blk_point [idx t]
  refine (congrFun (GdnBlock.block8 _ _ _ _ _ _ _ _ _) y).trans ?_
  refine (B_at m c t (y 0) (y 1 : Fin 6144).val (y 1 : Fin 6144).2).trans ?_
  rw [he]
  rfl

/-- The second result array after the run. -/
theorem final9 (c : Dev nD) : (dats m 0 c).arrAt 9 cfg0.N = res9 m c := by
  refine (dats m 0 c).arrAt_eq_of_covers 9 _ (by decide +kernel) fun t hf y => ?_
  blk_simp
  rw [after0_9]
  have hl := lt0 t
  have he : (win0_9.blk t).view.emb y = ix2 (y 0 : Fin 16) (at256 t (y 1 : Fin 256)) := by
    unfold at256
    blk_point [idx t]
  have hy : y = ix2 (y 0 : Fin 16) (y 1 : Fin 256) := eq_ix2 y
  rw [he]
  refine (congrArg _ hy).trans ?_
  refine (GdnBlock.block9 _ _ _ _ _ _ _ _ _ (y 0 : Fin 16) (y 1 : Fin 256)).trans ?_
  refine Eq.trans ?_ (show val9 _ _ _ _ _ (y 0 : Fin 16) (at256 t (y 1 : Fin 256)) = res9 m c (ix2 (y 0 : Fin 16) (at256 t (y 1 : Fin 256))) from rfl)
  have hz := logit_at m c t (iblk m c 4 t) (blk4 m c t) (y 0 : Fin 16) (y 1 : Fin 256)
  unfold own at hz
  rw [hz]
  unfold val9
  by_cases h : (y 0 : Fin 16).val < 8
  · rw [if_pos h, dif_pos h]
  · rw [if_neg h, dif_neg h, blk5 m c t _ h, blk6 m c t _ h]

end Cert.GdnKernelValue

end
-- ==== Proof.GdnRef.lean ====
/- The delta rule's projection's reference, each of its steps read at an index. -/
module

public import proofs.«01_k».proof.Proof.GdnKernelValue
public import proofs.«01_k».proof.Proof.Gen.GdnReferenceIdeal.Run
public import Idealize.ShloMosaic.Lib.Pointwise

@[expose] public section

set_option maxRecDepth 16384

noncomputable section

namespace Cert.GdnRef

open Cert.GdnReferenceIdeal Cert.GdnReferenceIdeal.Gen Cert.GdnReferenceIdeal.Value Idealize.ShloMosaic Idealize.ShloMosaic.TcCoe
open ProjMath (normed proj silu cols row eps)
open GdnTile (taps softplus)
open GdnBlock (tapsOf)
open GdnKernelValue (P past val8 val9)

/-- The residual stream's rows, normed. -/
def rn (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0]
    bcast_S32768_S32768x1_0 (Host.reduceAdd (mulf x x) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- A normed row at a channel. -/
theorem rn_apply (x : FVec Ideal S32768x1024 .f32) (g : FVec Ideal S1024 .f32) (r : Fin 32768) (k : Fin 1024) :
    rn x g (ix2 r k) = normed (Ideal.ofBits FTy.f32 0x44800000#32) (fun k => x (ix2 r k)) (fun k => g (ix1 k)) k := by
  unfold rn normed eps
  pointwise

/-- The normed rows times all the weights' columns. -/
def full (x : FVec Ideal S32768x1024 .f32) (g : FVec Ideal S1024 .f32) (w : FVec Ideal S1024x6160 .f32) : FVec Ideal S32768x6160 .f32 :=
  Host.dotGeneral (F := Ideal) dot_S32768x1024_S1024x6160_S32768x6160_1_0_0_1_n_n none (rn x g) w

/-- The product at a row and a column. -/
theorem full_apply (x : FVec Ideal S32768x1024 .f32) (g : FVec Ideal S1024 .f32) (w : FVec Ideal S1024x6160 .f32) (r : Fin 32768) (n : Fin 6160) :
    full x g w (ix2 r n) = P x g w r n.val := by
  have h : full x g w (ix2 r n) = ∑ k : Fin 1024, rn x g (ix2 r k) * w (ix2 k n) := by
    unfold full
    generalize rn x g = z
    pointwise
  rw [h]
  unfold P proj
  refine Finset.sum_congr rfl fun k _ => ?_
  rw [rn_apply]
  unfold cols
  rw [dif_pos n.2]
  rfl

/-- Every sequence of a product's first columns behind three rows of zeros. -/
def padded (y : FVec Ideal S32768x6160 .f32) : FVec Ideal S16x2051x4096 .f32 :=
  pad S16x2051x4096 ![0, 3, 0] ![0, 0, 0] ![0, 0, 0] (shapeCast _ (extractStridedSlice S32768x4096 ![0, 0] y slices_S32768x6160_S32768x4096_0_0)
    shapeCasts_S32768x4096_S16x2048x4096) (sitofp .f32 (constantI S_ 32 0#32)) pads_S16x2048x4096_S16x2051x4096_000_300_000 h_S_

/-- The integer zero, as a float. -/
theorem zero_cast : (FloatOps.sitofp (F := Ideal) FTy.f32 0#32 : EReal) = 0 := by
  simp [FloatOps.sitofp]

/-- A padded sequence at a row and a column. -/
theorem padded_apply (y : FVec Ideal S32768x6160 .f32) (b : Fin 16) (p : Fin 2051) (n : Fin 4096) :
    padded y (ix3 b p n) = if 3 ≤ p.val then y (ix2 (⟨2048 * b.val + p.val - 3, by omega⟩ : Fin 32768) (⟨n.val, by omega⟩ : Fin 6160)) else 0 := by
  unfold padded
  pointwise
  by_cases h : 3 ≤ p.val
  · rw [if_pos h, dif_pos ⟨h, by omega⟩]
    exact congrArg (fun i => y (ix2 i (⟨n.val, by omega⟩ : Fin 6160))) (Fin.ext (by simp only; omega))
  · rw [if_neg h, dif_neg (fun q => h q.1)]
    exact zero_cast

/-- The first shifted product of the convolution. -/
def tap0 (z : FVec Ideal S16x2051x4096 .f32) (cw : FVec Ideal S4x4096 .f32) : FVec Ideal S16x2048x4096 .f32 :=
  mulf (extractStridedSlice S16x2048x4096 ![0, 0, 0] z slices_S16x2051x4096_S16x2048x4096_0_0_0)
    (broadcastInDim S16x2048x4096 ![0, 1, 2] bcast_S1x1x4096_S16x2048x4096_0_1_2 (broadcastInDim S1x1x4096 ![2] bcast_S4096_S1x1x4096_2
      (shapeCast _ (extractStridedSlice S1x4096 ![0, 0] cw slices_S4x4096_S1x4096_0_0) shapeCasts_S1x4096_S4096)))

/-- It at an index. -/
theorem tap0_apply (z : FVec Ideal S16x2051x4096 .f32) (cw : FVec Ideal S4x4096 .f32) (b : Fin 16) (s : Fin 2048) (n : Fin 4096) :
    tap0 z cw (ix3 b s n) = z (ix3 b (⟨s.val + 0, by omega⟩ : Fin 2051) n) * cw (ix2 0 n) := by
  unfold tap0
  pointwise

/-- The second shifted product of the convolution. -/
def tap1 (z : FVec Ideal S16x2051x4096 .f32) (cw : FVec Ideal S4x4096 .f32) : FVec Ideal S16x2048x4096 .f32 :=
  mulf (extractStridedSlice S16x2048x4096 ![0, 1, 0] z slices_S16x2051x4096_S16x2048x4096_0_1_0)
    (broadcastInDim S16x2048x4096 ![0, 1, 2] bcast_S1x1x4096_S16x2048x4096_0_1_2 (broadcastInDim S1x1x4096 ![2] bcast_S4096_S1x1x4096_2
      (shapeCast _ (extractStridedSlice S1x4096 ![1, 0] cw slices_S4x4096_S1x4096_1_0) shapeCasts_S1x4096_S4096)))

/-- It at an index. -/
theorem tap1_apply (z : FVec Ideal S16x2051x4096 .f32) (cw : FVec Ideal S4x4096 .f32) (b : Fin 16) (s : Fin 2048) (n : Fin 4096) :
    tap1 z cw (ix3 b s n) = z (ix3 b (⟨s.val + 1, by omega⟩ : Fin 2051) n) * cw (ix2 1 n) := by
  unfold tap1
  pointwise
  exact congrArg (fun i => z (ix3 b i n) * cw (ix2 1 n)) (Fin.ext (Nat.add_comm 1 s.val))

/-- The third shifted product of the convolution. -/
def tap2 (z : FVec Ideal S16x2051x4096 .f32) (cw : FVec Ideal S4x4096 .f32) : FVec Ideal S16x2048x4096 .f32 :=
  mulf (extractStridedSlice S16x2048x4096 ![0, 2, 0] z slices_S16x2051x4096_S16x2048x4096_0_2_0)
    (broadcastInDim S16x2048x4096 ![0, 1, 2] bcast_S1x1x4096_S16x2048x4096_0_1_2 (broadcastInDim S1x1x4096 ![2] bcast_S4096_S1x1x4096_2
      (shapeCast _ (extractStridedSlice S1x4096 ![2, 0] cw slices_S4x4096_S1x4096_2_0) shapeCasts_S1x4096_S4096)))

/-- It at an index. -/
theorem tap2_apply (z : FVec Ideal S16x2051x4096 .f32) (cw : FVec Ideal S4x4096 .f32) (b : Fin 16) (s : Fin 2048) (n : Fin 4096) :
    tap2 z cw (ix3 b s n) = z (ix3 b (⟨s.val + 2, by omega⟩ : Fin 2051) n) * cw (ix2 2 n) := by
  unfold tap2
  pointwise
  exact congrArg (fun i => z (ix3 b i n) * cw (ix2 2 n)) (Fin.ext (Nat.add_comm 2 s.val))

/-- The fourth shifted product of the convolution. -/
def tap3 (z : FVec Ideal S16x2051x4096 .f32) (cw : FVec Ideal S4x4096 .f32) : FVec Ideal S16x2048x4096 .f32 :=
  mulf (extractStridedSlice S16x2048x4096 ![0, 3, 0] z slices_S16x2051x4096_S16x2048x4096_0_3_0)
    (broadcastInDim S16x2048x4096 ![0, 1, 2] bcast_S1x1x4096_S16x2048x4096_0_1_2 (broadcastInDim S1x1x4096 ![2] bcast_S4096_S1x1x4096_2
      (shapeCast _ (extractStridedSlice S1x4096 ![3, 0] cw slices_S4x4096_S1x4096_3_0) shapeCasts_S1x4096_S4096)))

/-- It at an index. -/
theorem tap3_apply (z : FVec Ideal S16x2051x4096 .f32) (cw : FVec Ideal S4x4096 .f32) (b : Fin 16) (s : Fin 2048) (n : Fin 4096) :
    tap3 z cw (ix3 b s n) = z (ix3 b (⟨s.val + 3, by omega⟩ : Fin 2051) n) * cw (ix2 3 n) := by
  unfold tap3
  pointwise
  exact congrArg (fun i => z (ix3 b i n) * cw (ix2 3 n)) (Fin.ext (Nat.add_comm 3 s.val))

/-- The logistic, a quotient. -/
def sig (z : FVec Ideal S32768x8 .f32) : FVec Ideal S32768x8 .f32 :=
  Host.divf (broadcastInDim S32768x8 ![] bcast_S_S32768x8 (constant S_ .f32 0x3F800000#32))
    (addf (broadcastInDim S32768x8 ![] bcast_S_S32768x8 (constant S_ .f32 0x3F800000#32)) (Host.exp (Host.negf z)))

/-- The softplus. -/
def sp (s : FVec Ideal S32768x8 .f32) : FVec Ideal S32768x8 .f32 :=
  select (cmpf .une (subf s (broadcastInDim S32768x8 ![] bcast_S_S32768x8 (constant S_ .f32 0x00000000#32)))
      (subf s (broadcastInDim S32768x8 ![] bcast_S_S32768x8 (constant S_ .f32 0x00000000#32))))
    (addf s (broadcastInDim S32768x8 ![] bcast_S_S32768x8 (constant S_ .f32 0x00000000#32)))
    (addf (maximumf s (broadcastInDim S32768x8 ![] bcast_S_S32768x8 (constant S_ .f32 0x00000000#32)))
      (Host.log1p (Host.exp (Host.negf (Host.absf (subf s (broadcastInDim S32768x8 ![] bcast_S_S32768x8 (constant S_ .f32 0x00000000#32))))))))

/-- It at an index. -/
theorem sp_apply (s : FVec Ideal S32768x8 .f32) (r : Fin 32768) (a : Fin 8) : sp s (ix2 r a) = softplus (s (ix2 r a)) := by
  unfold sp softplus
  pointwise
  rw [if_neg (fun h => h rfl), zero_sub]
  rfl

/-- The four shifted products, added from zero. -/
def conv (z : FVec Ideal S16x2051x4096 .f32) (cw : FVec Ideal S4x4096 .f32) : FVec Ideal S16x2048x4096 .f32 :=
  addf (addf (addf (addf (broadcastInDim S16x2048x4096 ![] bcast_S_S16x2048x4096 (constant S_ .f32 0x00000000#32)) (tap0 z cw)) (tap1 z cw))
    (tap2 z cw)) (tap3 z cw)

/-- The convolution at a sequence, a row and a column. -/
theorem conv_apply (z : FVec Ideal S16x2051x4096 .f32) (cw : FVec Ideal S4x4096 .f32) (b : Fin 16) (s : Fin 2048) (n : Fin 4096) :
    conv z cw (ix3 b s n) = taps (fun k => z (ix3 b (⟨s.val + k.val, by omega⟩ : Fin 2051) n)) (fun k => cw (ix2 k n)) := by
  have h : conv z cw (ix3 b s n) = 0 + tap0 z cw (ix3 b s n) + tap1 z cw (ix3 b s n) + tap2 z cw (ix3 b s n) + tap3 z cw (ix3 b s n) := by
    unfold conv
    generalize tap0 z cw = t0
    generalize tap1 z cw = t1
    generalize tap2 z cw = t2
    generalize tap3 z cw = t3
    pointwise
  rw [h, tap0_apply, tap1_apply, tap2_apply, tap3_apply, zero_add, add_comm, ← add_assoc, ← add_assoc]
  rfl

/-- The convolution's rows, laid one sequence after another. -/
theorem flat_apply (y : FVec Ideal S16x2048x4096 .f32) (r : Fin 32768) (n : Fin 4096) :
    shapeCast S32768x4096 y shapeCasts_S16x2048x4096_S32768x4096 (ix2 r n)
      = y (ix3 (⟨r.val / 2048, by omega⟩ : Fin 16) (⟨r.val % 2048, Nat.mod_lt _ (by decide)⟩ : Fin 2048) n) := by
  pointwise

/-- The gate's columns, each times its logistic. -/
def gate (z : FVec Ideal S32768x2048 .f32) : FVec Ideal S32768x2048 .f32 :=
  mulf z (Host.divf (broadcastInDim S32768x2048 ![] bcast_S_S32768x2048 (constant S_ .f32 0x3F800000#32))
    (addf (broadcastInDim S32768x2048 ![] bcast_S_S32768x2048 (constant S_ .f32 0x3F800000#32)) (Host.exp (Host.negf z))))

/-- The word of one. -/
theorem one_word : Ideal.ofBits FTy.f32 0x3F800000#32 = 1 := by
  simp [Ideal.ofBits, Ideal.ieee]
  rw [← EReal.coe_mul, ← EReal.coe_one]
  norm_num

/-- The gate at an index. -/
theorem gate_apply (z : FVec Ideal S32768x2048 .f32) (r : Fin 32768) (c : Fin 2048) : gate z (ix2 r c) = silu (z (ix2 r c)) := by
  have h : gate z (ix2 r c) = z (ix2 r c) * Ideal.div (Ideal.ofBits FTy.f32 0x3F800000#32) (Ideal.ofBits FTy.f32 0x3F800000#32 + Ideal.exp (-(z (ix2 r c)))) := by
    unfold gate
    pointwise
  rw [h, one_word]
  rfl

/-- The rate's logistic at an index. -/
theorem sig_apply (z : FVec Ideal S32768x8 .f32) (r : Fin 32768) (a : Fin 8) : sig z (ix2 r a) = Ideal.logistic (z (ix2 r a)) := by
  have h : sig z (ix2 r a) = Ideal.div (Ideal.ofBits FTy.f32 0x3F800000#32) (Ideal.ofBits FTy.f32 0x3F800000#32 + Ideal.exp (-(z (ix2 r a)))) := by
    unfold sig
    pointwise
  rw [h, one_word]
  rfl

/-- The convolved columns and the gate's side by side. -/
def join (u : FVec Ideal S32768x4096 .f32) (v : FVec Ideal S32768x2048 .f32) : FVec Ideal S32768x6144 .bf16 :=
  truncf .bf16 (concatenate S32768x6144 1 [⟨S32768x4096, u⟩, ⟨S32768x2048, v⟩] concatenates_S32768x4096_S32768x2048_S32768x6144_d1) bitsLt_bf16_f32

/-- Side by side, at a row and a column. -/
theorem join_apply (u : FVec Ideal S32768x4096 .f32) (v : FVec Ideal S32768x2048 .f32) (r : Fin 32768) (n : Fin 6144) :
    join u v (ix2 r n) = if h : n.val < 4096 then u (ix2 r ⟨n.val, h⟩) else v (ix2 r ⟨n.val - 4096, by omega⟩) := by
  unfold join
  pointwise

/-- The rates and the log decays, one row a head. -/
def heads (u v : FVec Ideal S32768x8 .f32) : FVec Ideal S16x32768 .f32 :=
  transpose S16x32768 [1, 0] (concatenate S32768x16 1 [⟨S32768x8, u⟩, ⟨S32768x8, v⟩] concatenates_S32768x8_S32768x8_S32768x16_d1)
    transposes_S32768x16_S16x32768_1_0

/-- They at a head and a row. -/
theorem heads_apply (u v : FVec Ideal S32768x8 .f32) (a : Fin 16) (r : Fin 32768) :
    heads u v (ix2 a r) = if h : a.val < 8 then u (ix2 r ⟨a.val, h⟩) else v (ix2 r ⟨a.val - 8, by omega⟩) := by
  unfold heads
  pointwise

/-- The first result, of the product and the taps. -/
def first (y : FVec Ideal S32768x6160 .f32) (cw : FVec Ideal S4x4096 .f32) : FVec Ideal S32768x6144 .bf16 :=
  join (shapeCast _ (conv (padded y) cw) shapeCasts_S16x2048x4096_S32768x4096)
    (gate (extractStridedSlice S32768x2048 ![0, 4096] y slices_S32768x6160_S32768x2048_0_4096))

/-- The gate's columns of the product. -/
theorem cut_gate (y : FVec Ideal S32768x6160 .f32) (r : Fin 32768) (c : Fin 2048) :
    extractStridedSlice S32768x2048 ![0, 4096] y slices_S32768x6160_S32768x2048_0_4096 (ix2 r c) = y (ix2 r (⟨4096 + c.val, by omega⟩ : Fin 6160)) := by
  pointwise

/-- The rates' columns of the product. -/
theorem cut_rate (y : FVec Ideal S32768x6160 .f32) (r : Fin 32768) (c : Fin 8) :
    extractStridedSlice S32768x8 ![0, 6144] y slices_S32768x6160_S32768x8_0_6144 (ix2 r c) = y (ix2 r (⟨6144 + c.val, by omega⟩ : Fin 6160)) := by
  pointwise

/-- The decays' columns of the product. -/
theorem cut_decay (y : FVec Ideal S32768x6160 .f32) (r : Fin 32768) (c : Fin 8) :
    extractStridedSlice S32768x8 ![0, 6152] y slices_S32768x6160_S32768x8_0_6152 (ix2 r c) = y (ix2 r (⟨6152 + c.val, by omega⟩ : Fin 6160)) := by
  pointwise

/-- The first result at a row and a column. -/
theorem first_apply (x : FVec Ideal S32768x1024 .f32) (g : FVec Ideal S1024 .f32) (w : FVec Ideal S1024x6160 .f32) (cw : FVec Ideal S4x4096 .f32)
    (r : Fin 32768) (n : Fin 6144) : first (full x g w) cw (ix2 r n) = val8 x g w cw r n.val := by
  unfold first val8
  rw [join_apply]
  by_cases h : n.val < 4096
  · rw [dif_pos h, if_pos h]
    refine (flat_apply _ r ⟨n.val, h⟩).trans ((conv_apply _ _ _ _ _).trans ?_)
    refine congrArg₂ taps (funext fun k => ?_) (funext fun k => ?_)
    · rw [padded_apply]
      unfold past
      refine if_congr Iff.rfl ?_ rfl
      rw [full_apply]
      exact congrArg (fun i => P x g w i n.val) (Fin.ext (by simp only; omega))
    · unfold tapsOf
      rw [dif_pos h]
  · rw [dif_neg h, if_neg h, gate_apply, cut_gate, full_apply]
    exact congrArg (fun i => silu (P x g w r i)) (show 4096 + (n.val - 4096) = n.val by omega)

/-- A head's number for every row, times the softplus. -/
def decay (al : FVec Ideal S8 .f32) (s : FVec Ideal S32768x8 .f32) : FVec Ideal S32768x8 .f32 :=
  mulf (broadcastInDim S32768x8 ![0, 1] bcast_S1x8_S32768x8_0_1 (broadcastInDim S1x8 ![1] bcast_S8_S1x8_1 (Host.negf (Host.exp al)))) (sp s)

/-- It at a row and a head. -/
theorem decay_apply (al : FVec Ideal S8 .f32) (s : FVec Ideal S32768x8 .f32) (r : Fin 32768) (a : Fin 8) :
    decay al s (ix2 r a) = (0 - Ideal.exp (al (ix1 a))) * softplus (s (ix2 r a)) := by
  rw [← sp_apply, zero_sub]
  unfold decay
  generalize sp s = z
  pointwise

/-- A product moved by a head's bias. -/
def moved (z : FVec Ideal S32768x8 .f32) (b : FVec Ideal S8 .f32) : FVec Ideal S32768x8 .f32 :=
  addf z (broadcastInDim S32768x8 ![0, 1] bcast_S1x8_S32768x8_0_1 (broadcastInDim S1x8 ![1] bcast_S8_S1x8_1 b))

/-- It at a row and a head. -/
theorem moved_apply (z : FVec Ideal S32768x8 .f32) (b : FVec Ideal S8 .f32) (r : Fin 32768) (a : Fin 8) :
    moved z b (ix2 r a) = z (ix2 r a) + b (ix1 a) := by
  unfold moved
  pointwise

/-- The second result, of the product, the decays' rates and their biases. -/
def second (y : FVec Ideal S32768x6160 .f32) (al b : FVec Ideal S8 .f32) : FVec Ideal S16x32768 .f32 :=
  heads (sig (extractStridedSlice S32768x8 ![0, 6144] y slices_S32768x6160_S32768x8_0_6144))
    (decay al (moved (extractStridedSlice S32768x8 ![0, 6152] y slices_S32768x6160_S32768x8_0_6152) b))

/-- The second result at a head and a row. -/
theorem second_apply (x : FVec Ideal S32768x1024 .f32) (g : FVec Ideal S1024 .f32) (w : FVec Ideal S1024x6160 .f32) (al b : FVec Ideal S8 .f32)
    (a : Fin 16) (r : Fin 32768) : second (full x g w) al b (ix2 a r) = val9 x g w al b a r := by
  unfold second val9
  rw [heads_apply]
  by_cases h : a.val < 8
  · rw [dif_pos h, dif_pos h, sig_apply, cut_rate, full_apply]
  · rw [dif_neg h, dif_neg h, decay_apply, moved_apply, cut_decay, full_apply]
    refine congrArg (fun i => (0 - Ideal.exp (al (ix1 ⟨a.val - 8, by omega⟩))) * softplus (P x g w r i + b (ix1 ⟨a.val - 8, by omega⟩))) ?_
    show 6152 + (a.val - 8) = 6144 + a.val
    omega

/-- The reference's first result is these steps. -/
theorem term8 (m : (ℓ : Loc nD τ Cert.GdnReferenceIdeal.sig) → Buf (Elt Ideal) ℓ) (c : Dev nD) : res_main_v67 (F := Ideal) m c
    = first (full (m ((c.tc : Thread nD τ).loc main_arg0)) (m ((c.tc : Thread nD τ).loc main_arg1)) (m ((c.tc : Thread nD τ).loc main_arg2)))
        (m ((c.tc : Thread nD τ).loc main_arg5)) := by
  unfold res_main_v67
  rfl

/-- The reference's second result is these steps. -/
theorem term9 (m : (ℓ : Loc nD τ Cert.GdnReferenceIdeal.sig) → Buf (Elt Ideal) ℓ) (c : Dev nD) : res_main_v69 (F := Ideal) m c
    = second (full (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) := by
  unfold res_main_v69
  rfl

end Cert.GdnRef

end
-- ==== Proof.GdnClaims.lean ====
/- The claims about the delta rule's input projection. -/
module

public import proofs.«01_k».proof.Defs
public import proofs.«01_k».proof.Proof.Gen.GdnKernel.Frame
public import proofs.«01_k».proof.Proof.Gen.GdnKernelIdeal.Value
public import proofs.«01_k».proof.Proof.Gen.GdnReferenceIdeal.Run
public import proofs.«01_k».proof.Proof.GdnKernelValue
public import proofs.«01_k».proof.Proof.GdnRef
public import Idealize.ShloMosaic.Lib.Claim
public import Idealize.ShloMosaic.Lib.Quiescent

@[expose] public section

noncomputable section

namespace Cert.GdnClaims

open Idealize.ShloMosaic Idealize.ShloMosaic.TcCoe Idealize.SL.Sem Idealize.ShloMosaic.StableHlo

/-- The kernel runs, leaves its arguments as they were and its counters at zero. -/
theorem frame_kernel : Cert.quiescent_GdnKernel (hGdnKernel := Cert.GdnKernel.Gen.facts) :=
  fun m ρ _ => Cert.GdnKernel.Gen.frame m ρ

/-- The same of the idealized kernel. -/
theorem frame_kernelIdeal : Cert.quiescent_GdnKernelIdeal (hGdnKernelIdeal := Cert.GdnKernelIdeal.Gen.facts) :=
  fun m ρ _ => Cert.GdnKernelIdeal.Gen.frame m ρ

/-- The reference runs and leaves its arguments as they were; it declares no counters. -/
theorem frame_referenceIdeal :
    Cert.quiescent_GdnReferenceIdeal (hGdnReferenceIdeal := Cert.GdnReferenceIdeal.Gen.facts) := fun m ρ _ =>
  (θ_run _ _ _).mono (fun r h => ⟨fun c => (h c).2.2, sem_eq_zero_of_no_sems (by decide) r.2⟩)
    (Cert.GdnReferenceIdeal.Value.run (F := Ideal) m ρ)

section

open Cert.GdnReferenceIdeal Cert.GdnReferenceIdeal.Value

variable (m : (ℓ : Loc nD τ Cert.GdnReferenceIdeal.sig) → Buf (Elt Ideal) ℓ) (c : Dev nD)
variable (a0 : S32768x1024.Idx → EReal) (a1 : S1024.Idx → EReal) (a2 : S1024x6160.Idx → EReal) (a3 a4 : S8.Idx → EReal) (a5 : S4x4096.Idx → EReal)
variable (e0 : m ((c.tc : Thread nD τ).loc main_arg0) = a0) (e1 : m ((c.tc : Thread nD τ).loc main_arg1) = a1)
  (e2 : m ((c.tc : Thread nD τ).loc main_arg2) = a2) (e3 : m ((c.tc : Thread nD τ).loc main_arg3) = a3)
  (e4 : m ((c.tc : Thread nD τ).loc main_arg4) = a4) (e5 : m ((c.tc : Thread nD τ).loc main_arg5) = a5)

include e0 e1 e2 e5 in
/-- The reference's first result. -/
theorem value8 : (res_main_v67 (F := Ideal) m c : FVec Ideal S32768x6144 .bf16)
    = fun y : S32768x6144.Idx => GdnKernelValue.val8 a0 a1 a2 a5 (y 0) (y 1).val := by
  subst e0 e1 e2 e5
  funext y
  conv_lhs => rw [eq_ix2 y]
  refine (congrFun (GdnRef.term8 m c) _).trans ?_
  exact GdnRef.first_apply _ _ _ _ (y 0) (y 1)

include e0 e1 e2 e3 e4 in
/-- The reference's second result. -/
theorem value9 : (res_main_v69 (F := Ideal) m c : FVec Ideal S16x32768 .f32)
    = fun y : S16x32768.Idx => GdnKernelValue.val9 a0 a1 a2 a3 a4 (y 0) (y 1) := by
  subst e0 e1 e2 e3 e4
  funext y
  conv_lhs => rw [eq_ix2 y]
  refine (congrFun (GdnRef.term9 m c) _).trans ?_
  exact GdnRef.second_apply _ _ _ _ _ (y 0) (y 1)

end

/-- Both runs end with the same convolved projections and the same rates and decays. -/
theorem algebraic :
    Cert.algebraic_GdnKernelIdeal_GdnReferenceIdeal (hGdnKernelIdeal := Cert.GdnKernelIdeal.Gen.facts)
      (hGdnReferenceIdeal := Cert.GdnReferenceIdeal.Gen.facts) := by
  intro m g m' g' _ hagree
  refine ⟨fun c => GdnKernelValue.res8 m c, fun c => GdnKernelValue.res9 m c, ?_, ?_⟩
  · exact (θ_run _ _ _).mono (fun r h c => ⟨((h c).1).trans (GdnKernelValue.final8 m c), ((h c).2.1).trans (GdnKernelValue.final9 m c),
      (h c).2.2⟩) (Cert.GdnKernelIdeal.Value.run_blocks (F := Ideal) m g)
  · refine (θ_run _ _ _).mono (fun r h c => ?_) (Cert.GdnReferenceIdeal.Value.run (F := Ideal) m' g')
    obtain ⟨e0, e1, e2, e3, e4, e5⟩ := hagree c
    refine ⟨((h c).1).trans ?_, ((h c).2.1).trans ?_, (h c).2.2⟩
    · exact value8 m' c _ _ _ _ e0 e1 e2 e5
    · exact value9 m' c _ _ _ _ _ e0 e1 e2 e3 e4

end Cert.GdnClaims

end
-- ==== Proof.lean ====
/- The certificate of the delta rule's input projection and of the layer's attention — its input projection, its core and its
   output projection: the conjuncts of `Cert.Claim`, each from the module that proves it. -/
module

public import proofs.«01_k».proof.Defs
public import proofs.«01_k».proof.Proof.OutClaims
public import proofs.«01_k».proof.Proof.AttnClaims
public import proofs.«01_k».proof.Proof.ProjClaims
public import proofs.«01_k».proof.Proof.GdnClaims
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.OutKernel.Gen.facts, Cert.OutKernelIdeal.Gen.facts, Cert.OutReferenceIdeal.Gen.facts, Cert.AttnKernel.Gen.facts,
    Cert.AttnKernelIdeal.Gen.facts, Cert.AttnReferenceIdeal.Gen.facts, Cert.ProjKernel.Gen.facts, Cert.ProjKernelIdeal.Gen.facts,
    Cert.ProjReferenceIdeal.Gen.facts, Cert.GdnKernel.Gen.facts, Cert.GdnKernelIdeal.Gen.facts, Cert.GdnReferenceIdeal.Gen.facts,
    Cert.AttnPre.facts,
    OutClaims.frame_kernel, OutClaims.frame_kernelIdeal, OutClaims.frame_referenceIdeal,
    AttnClaims.frame_kernel, AttnClaims.frame_kernelIdeal, AttnClaims.frame_kernelIdeal_pre, AttnClaims.frame_referenceIdeal,
    AttnClaims.frame_referenceIdeal_pre, ProjClaims.frame_kernel, ProjClaims.frame_kernelIdeal, ProjClaims.frame_referenceIdeal,
    GdnClaims.frame_kernel, GdnClaims.frame_kernelIdeal, GdnClaims.frame_referenceIdeal,
    trivial, OutClaims.algebraic, AttnClaims.preserves, AttnClaims.algebraic, trivial, ProjClaims.algebraic,
    trivial, GdnClaims.algebraic⟩

end Cert.Proof

end
